-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S16384x1024 : Shape := ⟨2, ![16384, 1024]⟩
abbrev S2816x1024 : Shape := ⟨2, ![2816, 1024]⟩
abbrev S2x128x1024 : Shape := ⟨3, ![2, 128, 1024]⟩
abbrev S2 : Shape := ⟨1, ![2]⟩
abbrev S22 : Shape := ⟨1, ![22]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 2
  | .vmem => 3
  | .smem => 0
  | _ => 0

abbrev bufTy : (tb : Table) → Fin (tcTables nBuf tb) → BufTy
  | .hbm, ⟨0, _⟩ => ⟨S8192x1024, .f32⟩
  | .hbm, ⟨1, _⟩ => ⟨S16384x1024, .bf16⟩
  | .local _ .vmem, ⟨0, _⟩ => ⟨S2816x1024, .bf16⟩
  | .local _ .vmem, ⟨1, _⟩ => ⟨S2x128x1024, .f32⟩
  | .local _ .vmem, ⟨2, _⟩ => ⟨S2x128x1024, .bf16⟩
  | _, _ => ⟨S8192x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 158 → Bool
  | ⟨i, _⟩ => dmaSemScopedAt i

abbrev sig : RefSig :=
  (ofTc nBuf bufTy 1 158 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_31 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_30 : BitVec 32 := 8#32
  let v43 : BitVec 32 := Scalar.muli v2 c8_i32_30
  let v44 : BitVec 32 := Scalar.addi c0_i32_31 v43
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_32 : BitVec 32 := 4#32
  let v45 : BitVec 32 := Scalar.muli v27 c4_i32_32
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v47 : BitVec 32 := Scalar.muli v8 c1_i32_33
  let v48 : BitVec 32 := Scalar.addi v46 v47
  v48.toNat
def k0_dev2 (d0 : Dev nD) : Nat :=
  let c0_i32_36 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_35 : BitVec 32 := 8#32
  let v49 : BitVec 32 := Scalar.muli v28 c8_i32_35
  let v50 : BitVec 32 := Scalar.addi c0_i32_36 v49
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_37 : BitVec 32 := 4#32
  let v51 : BitVec 32 := Scalar.muli v5 c4_i32_37
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v53 : BitVec 32 := Scalar.muli v8 c1_i32_38
  let v54 : BitVec 32 := Scalar.addi v52 v53
  v54.toNat
def k0_dev3 (d0 : Dev nD) : Nat :=
  let c0_i32_41 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_40 : BitVec 32 := 8#32
  let v55 : BitVec 32 := Scalar.muli v2 c8_i32_40
  let v56 : BitVec 32 := Scalar.addi c0_i32_41 v55
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v57 : BitVec 32 := Scalar.muli v5 c4_i32_42
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_43 : BitVec 32 := 1#32
  let v59 : BitVec 32 := Scalar.muli v41 c1_i32_43
  let v60 : BitVec 32 := Scalar.addi v58 v59
  v60.toNat
def k0_off1 (d0 : Dev nD) (c0_i32_47 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v64 : BitVec 32 := Scalar.addi c0_i32_47 v15
  let c128_i32 : BitVec 32 := 128#32
  let v137 : BitVec 32 := Scalar.muli v64 c128_i32
  let c0_i32_104 : BitVec 32 := 0#32
  ![v137.toNat, 0]
def k0_off2 (d0 : Dev nD) (c0_i32_47 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v61 : BitVec 32 := Scalar.muli v5 c8192_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v64 : BitVec 32 := Scalar.addi c0_i32_47 v15
  let c128_i32_121 : BitVec 32 := 128#32
  let v161 : BitVec 32 := Scalar.muli v64 c128_i32_121
  let v162 : BitVec 32 := Scalar.addi v61 v161
  let c0_i32_123 : BitVec 32 := 0#32
  ![v162.toNat, 0]
def k0_dev4 (d0 : Dev nD) : Nat :=
  let c0_i32_131 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_130 : BitVec 32 := 8#32
  let v170 : BitVec 32 := Scalar.muli v2 c8_i32_130
  let v171 : BitVec 32 := Scalar.addi c0_i32_131 v170
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_132 : BitVec 32 := 4#32
  let v172 : BitVec 32 := Scalar.muli v27 c4_i32_132
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_133 : BitVec 32 := 1#32
  let v174 : BitVec 32 := Scalar.muli v8 c1_i32_133
  let v175 : BitVec 32 := Scalar.addi v173 v174
  v175.toNat
def k0_dev5 (d0 : Dev nD) : Nat :=
  let c0_i32_162 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_161 : BitVec 32 := 8#32
  let v209 : BitVec 32 := Scalar.muli v2 c8_i32_161
  let v210 : BitVec 32 := Scalar.addi c0_i32_162 v209
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_163 : BitVec 32 := 4#32
  let v211 : BitVec 32 := Scalar.muli v27 c4_i32_163
  let v212 : BitVec 32 := Scalar.addi v210 v211
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_164 : BitVec 32 := 1#32
  let v213 : BitVec 32 := Scalar.muli v8 c1_i32_164
  let v214 : BitVec 32 := Scalar.addi v212 v213
  v214.toNat
def k0_dev6 (d0 : Dev nD) : Nat :=
  let c0_i32_193 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_192 : BitVec 32 := 8#32
  let v248 : BitVec 32 := Scalar.muli v2 c8_i32_192
  let v249 : BitVec 32 := Scalar.addi c0_i32_193 v248
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_194 : BitVec 32 := 4#32
  let v250 : BitVec 32 := Scalar.muli v27 c4_i32_194
  let v251 : BitVec 32 := Scalar.addi v249 v250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_195 : BitVec 32 := 1#32
  let v252 : BitVec 32 := Scalar.muli v8 c1_i32_195
  let v253 : BitVec 32 := Scalar.addi v251 v252
  v253.toNat
def k0_dev7 (d0 : Dev nD) : Nat :=
  let c0_i32_224 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_223 : BitVec 32 := 8#32
  let v287 : BitVec 32 := Scalar.muli v2 c8_i32_223
  let v288 : BitVec 32 := Scalar.addi c0_i32_224 v287
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_225 : BitVec 32 := 4#32
  let v289 : BitVec 32 := Scalar.muli v27 c4_i32_225
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v291 : BitVec 32 := Scalar.muli v8 c1_i32_226
  let v292 : BitVec 32 := Scalar.addi v290 v291
  v292.toNat
def k0_dev8 (d0 : Dev nD) : Nat :=
  let c0_i32_255 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_254 : BitVec 32 := 8#32
  let v326 : BitVec 32 := Scalar.muli v2 c8_i32_254
  let v327 : BitVec 32 := Scalar.addi c0_i32_255 v326
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_256 : BitVec 32 := 4#32
  let v328 : BitVec 32 := Scalar.muli v27 c4_i32_256
  let v329 : BitVec 32 := Scalar.addi v327 v328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_257 : BitVec 32 := 1#32
  let v330 : BitVec 32 := Scalar.muli v8 c1_i32_257
  let v331 : BitVec 32 := Scalar.addi v329 v330
  v331.toNat
def k0_dev9 (d0 : Dev nD) : Nat :=
  let c0_i32_285 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_284 : BitVec 32 := 8#32
  let v365 : BitVec 32 := Scalar.muli v2 c8_i32_284
  let v366 : BitVec 32 := Scalar.addi c0_i32_285 v365
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_286 : BitVec 32 := 4#32
  let v367 : BitVec 32 := Scalar.muli v27 c4_i32_286
  let v368 : BitVec 32 := Scalar.addi v366 v367
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v369 : BitVec 32 := Scalar.muli v8 c1_i32_287
  let v370 : BitVec 32 := Scalar.addi v368 v369
  v370.toNat
def k0_dev10 (d0 : Dev nD) : Nat :=
  let c0_i32_316 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_315 : BitVec 32 := 8#32
  let v404 : BitVec 32 := Scalar.muli v2 c8_i32_315
  let v405 : BitVec 32 := Scalar.addi c0_i32_316 v404
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_317 : BitVec 32 := 4#32
  let v406 : BitVec 32 := Scalar.muli v27 c4_i32_317
  let v407 : BitVec 32 := Scalar.addi v405 v406
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v408 : BitVec 32 := Scalar.muli v8 c1_i32_318
  let v409 : BitVec 32 := Scalar.addi v407 v408
  v409.toNat
def k0_dev11 (d0 : Dev nD) : Nat :=
  let c0_i32_346 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_345 : BitVec 32 := 8#32
  let v443 : BitVec 32 := Scalar.muli v2 c8_i32_345
  let v444 : BitVec 32 := Scalar.addi c0_i32_346 v443
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_347 : BitVec 32 := 4#32
  let v445 : BitVec 32 := Scalar.muli v27 c4_i32_347
  let v446 : BitVec 32 := Scalar.addi v444 v445
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v447 : BitVec 32 := Scalar.muli v8 c1_i32_348
  let v448 : BitVec 32 := Scalar.addi v446 v447
  v448.toNat
def k0_dev12 (d0 : Dev nD) : Nat :=
  let c0_i32_377 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_376 : BitVec 32 := 8#32
  let v482 : BitVec 32 := Scalar.muli v2 c8_i32_376
  let v483 : BitVec 32 := Scalar.addi c0_i32_377 v482
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_378 : BitVec 32 := 4#32
  let v484 : BitVec 32 := Scalar.muli v27 c4_i32_378
  let v485 : BitVec 32 := Scalar.addi v483 v484
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_379 : BitVec 32 := 1#32
  let v486 : BitVec 32 := Scalar.muli v8 c1_i32_379
  let v487 : BitVec 32 := Scalar.addi v485 v486
  v487.toNat
def k0_dev13 (d0 : Dev nD) : Nat :=
  let c0_i32_408 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_407 : BitVec 32 := 8#32
  let v521 : BitVec 32 := Scalar.muli v2 c8_i32_407
  let v522 : BitVec 32 := Scalar.addi c0_i32_408 v521
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_409 : BitVec 32 := 4#32
  let v523 : BitVec 32 := Scalar.muli v27 c4_i32_409
  let v524 : BitVec 32 := Scalar.addi v522 v523
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_410 : BitVec 32 := 1#32
  let v525 : BitVec 32 := Scalar.muli v8 c1_i32_410
  let v526 : BitVec 32 := Scalar.addi v524 v525
  v526.toNat
def k0_dev14 (d0 : Dev nD) : Nat :=
  let c0_i32_438 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_437 : BitVec 32 := 8#32
  let v560 : BitVec 32 := Scalar.muli v2 c8_i32_437
  let v561 : BitVec 32 := Scalar.addi c0_i32_438 v560
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_439 : BitVec 32 := 4#32
  let v562 : BitVec 32 := Scalar.muli v27 c4_i32_439
  let v563 : BitVec 32 := Scalar.addi v561 v562
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_440 : BitVec 32 := 1#32
  let v564 : BitVec 32 := Scalar.muli v8 c1_i32_440
  let v565 : BitVec 32 := Scalar.addi v563 v564
  v565.toNat
def k0_dev15 (d0 : Dev nD) : Nat :=
  let c0_i32_468 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_467 : BitVec 32 := 8#32
  let v599 : BitVec 32 := Scalar.muli v2 c8_i32_467
  let v600 : BitVec 32 := Scalar.addi c0_i32_468 v599
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_469 : BitVec 32 := 4#32
  let v601 : BitVec 32 := Scalar.muli v27 c4_i32_469
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_470 : BitVec 32 := 1#32
  let v603 : BitVec 32 := Scalar.muli v8 c1_i32_470
  let v604 : BitVec 32 := Scalar.addi v602 v603
  v604.toNat
def k0_dev16 (d0 : Dev nD) : Nat :=
  let c0_i32_499 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_498 : BitVec 32 := 8#32
  let v638 : BitVec 32 := Scalar.muli v2 c8_i32_498
  let v639 : BitVec 32 := Scalar.addi c0_i32_499 v638
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_500 : BitVec 32 := 4#32
  let v640 : BitVec 32 := Scalar.muli v27 c4_i32_500
  let v641 : BitVec 32 := Scalar.addi v639 v640
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_501 : BitVec 32 := 1#32
  let v642 : BitVec 32 := Scalar.muli v8 c1_i32_501
  let v643 : BitVec 32 := Scalar.addi v641 v642
  v643.toNat
def k0_dev17 (d0 : Dev nD) : Nat :=
  let c0_i32_529 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_528 : BitVec 32 := 8#32
  let v677 : BitVec 32 := Scalar.muli v2 c8_i32_528
  let v678 : BitVec 32 := Scalar.addi c0_i32_529 v677
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_530 : BitVec 32 := 4#32
  let v679 : BitVec 32 := Scalar.muli v27 c4_i32_530
  let v680 : BitVec 32 := Scalar.addi v678 v679
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_531 : BitVec 32 := 1#32
  let v681 : BitVec 32 := Scalar.muli v8 c1_i32_531
  let v682 : BitVec 32 := Scalar.addi v680 v681
  v682.toNat
def k0_dev18 (d0 : Dev nD) : Nat :=
  let c0_i32_559 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_558 : BitVec 32 := 8#32
  let v716 : BitVec 32 := Scalar.muli v2 c8_i32_558
  let v717 : BitVec 32 := Scalar.addi c0_i32_559 v716
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_560 : BitVec 32 := 4#32
  let v718 : BitVec 32 := Scalar.muli v27 c4_i32_560
  let v719 : BitVec 32 := Scalar.addi v717 v718
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_561 : BitVec 32 := 1#32
  let v720 : BitVec 32 := Scalar.muli v8 c1_i32_561
  let v721 : BitVec 32 := Scalar.addi v719 v720
  v721.toNat
def k0_dev19 (d0 : Dev nD) : Nat :=
  let c0_i32_590 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_589 : BitVec 32 := 8#32
  let v755 : BitVec 32 := Scalar.muli v2 c8_i32_589
  let v756 : BitVec 32 := Scalar.addi c0_i32_590 v755
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_591 : BitVec 32 := 4#32
  let v757 : BitVec 32 := Scalar.muli v27 c4_i32_591
  let v758 : BitVec 32 := Scalar.addi v756 v757
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_592 : BitVec 32 := 1#32
  let v759 : BitVec 32 := Scalar.muli v8 c1_i32_592
  let v760 : BitVec 32 := Scalar.addi v758 v759
  v760.toNat
def k0_dev20 (d0 : Dev nD) : Nat :=
  let c0_i32_620 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_619 : BitVec 32 := 8#32
  let v794 : BitVec 32 := Scalar.muli v2 c8_i32_619
  let v795 : BitVec 32 := Scalar.addi c0_i32_620 v794
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_621 : BitVec 32 := 4#32
  let v796 : BitVec 32 := Scalar.muli v27 c4_i32_621
  let v797 : BitVec 32 := Scalar.addi v795 v796
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_622 : BitVec 32 := 1#32
  let v798 : BitVec 32 := Scalar.muli v8 c1_i32_622
  let v799 : BitVec 32 := Scalar.addi v797 v798
  v799.toNat
def k0_dev21 (d0 : Dev nD) : Nat :=
  let c0_i32_650 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_649 : BitVec 32 := 8#32
  let v833 : BitVec 32 := Scalar.muli v2 c8_i32_649
  let v834 : BitVec 32 := Scalar.addi c0_i32_650 v833
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_651 : BitVec 32 := 4#32
  let v835 : BitVec 32 := Scalar.muli v27 c4_i32_651
  let v836 : BitVec 32 := Scalar.addi v834 v835
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_652 : BitVec 32 := 1#32
  let v837 : BitVec 32 := Scalar.muli v8 c1_i32_652
  let v838 : BitVec 32 := Scalar.addi v836 v837
  v838.toNat
def k0_dev22 (d0 : Dev nD) : Nat :=
  let c0_i32_681 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_680 : BitVec 32 := 8#32
  let v872 : BitVec 32 := Scalar.muli v2 c8_i32_680
  let v873 : BitVec 32 := Scalar.addi c0_i32_681 v872
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_682 : BitVec 32 := 4#32
  let v874 : BitVec 32 := Scalar.muli v27 c4_i32_682
  let v875 : BitVec 32 := Scalar.addi v873 v874
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_683 : BitVec 32 := 1#32
  let v876 : BitVec 32 := Scalar.muli v8 c1_i32_683
  let v877 : BitVec 32 := Scalar.addi v875 v876
  v877.toNat
def k0_dev23 (d0 : Dev nD) : Nat :=
  let c0_i32_711 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_710 : BitVec 32 := 8#32
  let v911 : BitVec 32 := Scalar.muli v2 c8_i32_710
  let v912 : BitVec 32 := Scalar.addi c0_i32_711 v911
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_712 : BitVec 32 := 4#32
  let v913 : BitVec 32 := Scalar.muli v27 c4_i32_712
  let v914 : BitVec 32 := Scalar.addi v912 v913
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_713 : BitVec 32 := 1#32
  let v915 : BitVec 32 := Scalar.muli v8 c1_i32_713
  let v916 : BitVec 32 := Scalar.addi v914 v915
  v916.toNat
def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let c0_i32_49 : BitVec 32 := 0#32
  let v86 : BitVec 1 := Scalar.cmpi .sle v15 c0_i32_49
  let v923 : BitVec 32 := Scalar.extui v86
  let c0_i32_717 : BitVec 32 := 0#32
  let v924 : BitVec 1 := Scalar.cmpi .ne v923 c0_i32_717
  v924

def k0_off3 (d0 : Dev nD) : Fin 2 → Nat :=
  let c63_i32 : BitVec 32 := 63#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v85 : BitVec 32 := Scalar.addi c63_i32 v15
  let c128_i32_3508 : BitVec 32 := 128#32
  let v4079 : BitVec 32 := Scalar.muli v85 c128_i32_3508
  let c0_i32_3513 : BitVec 32 := 0#32
  ![v4079.toNat, 0]
def k0_dev24 (d0 : Dev nD) : Nat :=
  let c0_i32_736 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_735 : BitVec 32 := 8#32
  let v946 : BitVec 32 := Scalar.muli v2 c8_i32_735
  let v947 : BitVec 32 := Scalar.addi c0_i32_736 v946
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_737 : BitVec 32 := 4#32
  let v948 : BitVec 32 := Scalar.muli v27 c4_i32_737
  let v949 : BitVec 32 := Scalar.addi v947 v948
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v950 : BitVec 32 := Scalar.muli v8 c1_i32_738
  let v951 : BitVec 32 := Scalar.addi v949 v950
  v951.toNat
def k0_off4 (d0 : Dev nD) (c0_i32_50 : BitVec 32) (c1_i32_15 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v23 : BitVec 32 := Scalar.addi v15 c1_i32_15
  let c3_i32_16 : BitVec 32 := 3#32
  let v24 : BitVec 32 := Scalar.remsi v23 c3_i32_16
  let v87 : BitVec 32 := Scalar.addi c0_i32_50 v24
  let c128_i32_742 : BitVec 32 := 128#32
  let v958 : BitVec 32 := Scalar.muli v87 c128_i32_742
  let c0_i32_747 : BitVec 32 := 0#32
  ![v958.toNat, 0]
def k0_cond2 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let c0_i32_49 : BitVec 32 := 0#32
  let v86 : BitVec 1 := Scalar.cmpi .sle v15 c0_i32_49
  let v964 : BitVec 32 := Scalar.extui v86
  let c0_i32_748 : BitVec 32 := 0#32
  let v965 : BitVec 1 := Scalar.cmpi .ne v964 c0_i32_748
  v965

def k0_off5 (d0 : Dev nD) : Fin 2 → Nat :=
  let c63_i32 : BitVec 32 := 63#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v85 : BitVec 32 := Scalar.addi c63_i32 v15
  let c128_i32_3508 : BitVec 32 := 128#32
  let v4079 : BitVec 32 := Scalar.muli v85 c128_i32_3508
  let c0_i32_3513 : BitVec 32 := 0#32
  ![v4079.toNat, 0]
def k0_off6 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v61 : BitVec 32 := Scalar.muli v5 c8192_i32
  let c63_i32 : BitVec 32 := 63#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v85 : BitVec 32 := Scalar.addi c63_i32 v15
  let c128_i32_3518 : BitVec 32 := 128#32
  let v4091 : BitVec 32 := Scalar.muli v85 c128_i32_3518
  let v4092 : BitVec 32 := Scalar.addi v61 v4091
  let c0_i32_3520 : BitVec 32 := 0#32
  ![v4092.toNat, 0]
def k0_cond3 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let c0_i32_96 : BitVec 32 := 0#32
  let v133 : BitVec 1 := Scalar.cmpi .sle v15 c0_i32_96
  let v966 : BitVec 32 := Scalar.extui v133
  let c0_i32_749 : BitVec 32 := 0#32
  let v967 : BitVec 1 := Scalar.cmpi .ne v966 c0_i32_749
  v967

def k0_off7 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v61 : BitVec 32 := Scalar.muli v5 c8192_i32
  let c63_i32_3508 : BitVec 32 := 63#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v4079 : BitVec 32 := Scalar.addi c63_i32_3508 v15
  let c128_i32_3509 : BitVec 32 := 128#32
  let v4080 : BitVec 32 := Scalar.muli v4079 c128_i32_3509
  let v4081 : BitVec 32 := Scalar.addi v61 v4080
  let c0_i32_3516 : BitVec 32 := 0#32
  ![v4081.toNat, 0]
def k0_dev25 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_19 v5
  let c4_i32_3514 : BitVec 32 := 4#32
  let v4084 : BitVec 32 := Scalar.muli v27 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3515 : BitVec 32 := 1#32
  let v4086 : BitVec 32 := Scalar.muli v8 c1_i32_3515
  let v4087 : BitVec 32 := Scalar.addi v4085 v4086
  v4087.toNat
def k0_off8 (d0 : Dev nD) (c0_i32_50 : BitVec 32) (c1_i32_15 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v61 : BitVec 32 := Scalar.muli v5 c8192_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v23 : BitVec 32 := Scalar.addi v15 c1_i32_15
  let c3_i32_16 : BitVec 32 := 3#32
  let v24 : BitVec 32 := Scalar.remsi v23 c3_i32_16
  let v87 : BitVec 32 := Scalar.addi c0_i32_50 v24
  let c128_i32_768 : BitVec 32 := 128#32
  let v986 : BitVec 32 := Scalar.muli v87 c128_i32_768
  let v987 : BitVec 32 := Scalar.addi v61 v986
  let c0_i32_771 : BitVec 32 := 0#32
  ![v987.toNat, 0]
def k0_off9 (d0 : Dev nD) (c0_i32_798 : BitVec 32) (c0_i32_3 : BitVec 32) (c2_i32_4 : BitVec 32) (c1_i32_5 : BitVec 32) (c0_i32_6 : BitVec 32) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v13 : BitVec 32 := Scalar.select v11 c0_i32_3 c2_i32_4
  let v14 : BitVec 32 := Scalar.select v11 c1_i32_5 c0_i32_6
  let v15 : BitVec 32 := Scalar.select v12 v13 v14
  let v1018 : BitVec 32 := Scalar.addi c0_i32_798 v15
  let c128_i32_799 : BitVec 32 := 128#32
  let v1019 : BitVec 32 := Scalar.muli v1018 c128_i32_799
  let v1020 : BitVec 32 := Scalar.addi v63 v1019
  let c0_i32_806 : BitVec 32 := 0#32
  ![v1020.toNat, 0]
def k0_off9_at (r : Fin 42) : BitVec 32 × BitVec 32 × BitVec 32 × BitVec 32 × BitVec 32 :=
  if r.val < 21 then
    if r.val < 10 then
      if r.val < 5 then
        if r.val < 2 then
          if r.val < 1 then
            (0#32, 0#32, 2#32, 1#32, 0#32)
          else
            (3#32, 0#32, 2#32, 1#32, 0#32)
        else
          if r.val < 3 then
            (6#32, 0#32, 2#32, 1#32, 0#32)
          else
            if r.val < 4 then
              (0#32, 1#32, 0#32, 0#32, 2#32)
            else
              (9#32, 0#32, 2#32, 1#32, 0#32)
      else
        if r.val < 7 then
          if r.val < 6 then
            (3#32, 1#32, 0#32, 0#32, 2#32)
          else
            (12#32, 0#32, 2#32, 1#32, 0#32)
        else
          if r.val < 8 then
            (6#32, 1#32, 0#32, 0#32, 2#32)
          else
            if r.val < 9 then
              (15#32, 0#32, 2#32, 1#32, 0#32)
            else
              (9#32, 1#32, 0#32, 0#32, 2#32)
    else
      if r.val < 15 then
        if r.val < 12 then
          if r.val < 11 then
            (18#32, 0#32, 2#32, 1#32, 0#32)
          else
            (12#32, 1#32, 0#32, 0#32, 2#32)
        else
          if r.val < 13 then
            (21#32, 0#32, 2#32, 1#32, 0#32)
          else
            if r.val < 14 then
              (15#32, 1#32, 0#32, 0#32, 2#32)
            else
              (24#32, 0#32, 2#32, 1#32, 0#32)
      else
        if r.val < 18 then
          if r.val < 16 then
            (18#32, 1#32, 0#32, 0#32, 2#32)
          else
            if r.val < 17 then
              (27#32, 0#32, 2#32, 1#32, 0#32)
            else
              (21#32, 1#32, 0#32, 0#32, 2#32)
        else
          if r.val < 19 then
            (30#32, 0#32, 2#32, 1#32, 0#32)
          else
            if r.val < 20 then
              (24#32, 1#32, 0#32, 0#32, 2#32)
            else
              (33#32, 0#32, 2#32, 1#32, 0#32)
  else
    if r.val < 31 then
      if r.val < 26 then
        if r.val < 23 then
          if r.val < 22 then
            (27#32, 1#32, 0#32, 0#32, 2#32)
          else
            (36#32, 0#32, 2#32, 1#32, 0#32)
        else
          if r.val < 24 then
            (30#32, 1#32, 0#32, 0#32, 2#32)
          else
            if r.val < 25 then
              (39#32, 0#32, 2#32, 1#32, 0#32)
            else
              (33#32, 1#32, 0#32, 0#32, 2#32)
      else
        if r.val < 28 then
          if r.val < 27 then
            (42#32, 0#32, 2#32, 1#32, 0#32)
          else
            (36#32, 1#32, 0#32, 0#32, 2#32)
        else
          if r.val < 29 then
            (45#32, 0#32, 2#32, 1#32, 0#32)
          else
            if r.val < 30 then
              (39#32, 1#32, 0#32, 0#32, 2#32)
            else
              (48#32, 0#32, 2#32, 1#32, 0#32)
    else
      if r.val < 36 then
        if r.val < 33 then
          if r.val < 32 then
            (42#32, 1#32, 0#32, 0#32, 2#32)
          else
            (51#32, 0#32, 2#32, 1#32, 0#32)
        else
          if r.val < 34 then
            (45#32, 1#32, 0#32, 0#32, 2#32)
          else
            if r.val < 35 then
              (54#32, 0#32, 2#32, 1#32, 0#32)
            else
              (48#32, 1#32, 0#32, 0#32, 2#32)
      else
        if r.val < 39 then
          if r.val < 37 then
            (57#32, 0#32, 2#32, 1#32, 0#32)
          else
            if r.val < 38 then
              (51#32, 1#32, 0#32, 0#32, 2#32)
            else
              (60#32, 0#32, 2#32, 1#32, 0#32)
        else
          if r.val < 40 then
            (54#32, 1#32, 0#32, 0#32, 2#32)
          else
            if r.val < 41 then
              (57#32, 1#32, 0#32, 0#32, 2#32)
            else
              (60#32, 1#32, 0#32, 0#32, 2#32)
def k0_dev26 (d0 : Dev nD) : Nat :=
  let c0_i32_813 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_812 : BitVec 32 := 8#32
  let v1034 : BitVec 32 := Scalar.muli v28 c8_i32_812
  let v1035 : BitVec 32 := Scalar.addi c0_i32_813 v1034
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_814 : BitVec 32 := 4#32
  let v1036 : BitVec 32 := Scalar.muli v5 c4_i32_814
  let v1037 : BitVec 32 := Scalar.addi v1035 v1036
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_815 : BitVec 32 := 1#32
  let v1038 : BitVec 32 := Scalar.muli v8 c1_i32_815
  let v1039 : BitVec 32 := Scalar.addi v1037 v1038
  v1039.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v1046 : BitVec 1 := Scalar.cmpi .eq v22 v15
  let v1047 : BitVec 32 := Scalar.extui v1046
  let c0_i32_818 : BitVec 32 := 0#32
  let v1048 : BitVec 1 := Scalar.cmpi .ne v1047 c0_i32_818
  v1048

def k0_off10 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c0_i32_3508 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c0_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev27 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev28 (d0 : Dev nD) : Nat :=
  let c0_i32_896 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_895 : BitVec 32 := 8#32
  let v1127 : BitVec 32 := Scalar.muli v28 c8_i32_895
  let v1128 : BitVec 32 := Scalar.addi c0_i32_896 v1127
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_897 : BitVec 32 := 4#32
  let v1129 : BitVec 32 := Scalar.muli v5 c4_i32_897
  let v1130 : BitVec 32 := Scalar.addi v1128 v1129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_898 : BitVec 32 := 1#32
  let v1131 : BitVec 32 := Scalar.muli v8 c1_i32_898
  let v1132 : BitVec 32 := Scalar.addi v1130 v1131
  v1132.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v1139 : BitVec 1 := Scalar.cmpi .eq v22 v15
  let v1140 : BitVec 32 := Scalar.extui v1139
  let c0_i32_901 : BitVec 32 := 0#32
  let v1141 : BitVec 1 := Scalar.cmpi .ne v1140 c0_i32_901
  v1141

def k0_off11 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c3_i32_3508 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c3_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev29 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev30 (d0 : Dev nD) : Nat :=
  let c0_i32_979 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_978 : BitVec 32 := 8#32
  let v1220 : BitVec 32 := Scalar.muli v28 c8_i32_978
  let v1221 : BitVec 32 := Scalar.addi c0_i32_979 v1220
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_980 : BitVec 32 := 4#32
  let v1222 : BitVec 32 := Scalar.muli v5 c4_i32_980
  let v1223 : BitVec 32 := Scalar.addi v1221 v1222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_981 : BitVec 32 := 1#32
  let v1224 : BitVec 32 := Scalar.muli v8 c1_i32_981
  let v1225 : BitVec 32 := Scalar.addi v1223 v1224
  v1225.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v1232 : BitVec 1 := Scalar.cmpi .eq v22 v15
  let v1233 : BitVec 32 := Scalar.extui v1232
  let c0_i32_984 : BitVec 32 := 0#32
  let v1234 : BitVec 1 := Scalar.cmpi .ne v1233 c0_i32_984
  v1234

def k0_off12 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c6_i32_3508 : BitVec 32 := 6#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c6_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev31 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v1248 : BitVec 1 := Scalar.cmpi .eq v22 v19
  let v1249 : BitVec 32 := Scalar.extui v1248
  let c0_i32_995 : BitVec 32 := 0#32
  let v1250 : BitVec 1 := Scalar.cmpi .ne v1249 c0_i32_995
  v1250

def k0_off13 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c0_i32_3508 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c0_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev32 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev33 (d0 : Dev nD) : Nat :=
  let c0_i32_1073 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_1072 : BitVec 32 := 8#32
  let v1329 : BitVec 32 := Scalar.muli v28 c8_i32_1072
  let v1330 : BitVec 32 := Scalar.addi c0_i32_1073 v1329
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1074 : BitVec 32 := 4#32
  let v1331 : BitVec 32 := Scalar.muli v5 c4_i32_1074
  let v1332 : BitVec 32 := Scalar.addi v1330 v1331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1075 : BitVec 32 := 1#32
  let v1333 : BitVec 32 := Scalar.muli v8 c1_i32_1075
  let v1334 : BitVec 32 := Scalar.addi v1332 v1333
  v1334.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v1341 : BitVec 1 := Scalar.cmpi .eq v22 v15
  let v1342 : BitVec 32 := Scalar.extui v1341
  let c0_i32_1078 : BitVec 32 := 0#32
  let v1343 : BitVec 1 := Scalar.cmpi .ne v1342 c0_i32_1078
  v1343

def k0_off14 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c9_i32_3508 : BitVec 32 := 9#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c9_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev34 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v1357 : BitVec 1 := Scalar.cmpi .eq v22 v19
  let v1358 : BitVec 32 := Scalar.extui v1357
  let c0_i32_1089 : BitVec 32 := 0#32
  let v1359 : BitVec 1 := Scalar.cmpi .ne v1358 c0_i32_1089
  v1359

def k0_off15 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c3_i32_3508 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c3_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev35 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev36 (d0 : Dev nD) : Nat :=
  let c0_i32_1167 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_1166 : BitVec 32 := 8#32
  let v1438 : BitVec 32 := Scalar.muli v28 c8_i32_1166
  let v1439 : BitVec 32 := Scalar.addi c0_i32_1167 v1438
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1168 : BitVec 32 := 4#32
  let v1440 : BitVec 32 := Scalar.muli v5 c4_i32_1168
  let v1441 : BitVec 32 := Scalar.addi v1439 v1440
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1169 : BitVec 32 := 1#32
  let v1442 : BitVec 32 := Scalar.muli v8 c1_i32_1169
  let v1443 : BitVec 32 := Scalar.addi v1441 v1442
  v1443.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v1450 : BitVec 1 := Scalar.cmpi .eq v22 v15
  let v1451 : BitVec 32 := Scalar.extui v1450
  let c0_i32_1172 : BitVec 32 := 0#32
  let v1452 : BitVec 1 := Scalar.cmpi .ne v1451 c0_i32_1172
  v1452

def k0_off16 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c12_i32_3508 : BitVec 32 := 12#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c12_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev37 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v1466 : BitVec 1 := Scalar.cmpi .eq v22 v19
  let v1467 : BitVec 32 := Scalar.extui v1466
  let c0_i32_1183 : BitVec 32 := 0#32
  let v1468 : BitVec 1 := Scalar.cmpi .ne v1467 c0_i32_1183
  v1468

def k0_off17 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c6_i32_3508 : BitVec 32 := 6#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c6_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev38 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev39 (d0 : Dev nD) : Nat :=
  let c0_i32_1261 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_1260 : BitVec 32 := 8#32
  let v1547 : BitVec 32 := Scalar.muli v28 c8_i32_1260
  let v1548 : BitVec 32 := Scalar.addi c0_i32_1261 v1547
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1262 : BitVec 32 := 4#32
  let v1549 : BitVec 32 := Scalar.muli v5 c4_i32_1262
  let v1550 : BitVec 32 := Scalar.addi v1548 v1549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1263 : BitVec 32 := 1#32
  let v1551 : BitVec 32 := Scalar.muli v8 c1_i32_1263
  let v1552 : BitVec 32 := Scalar.addi v1550 v1551
  v1552.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v1559 : BitVec 1 := Scalar.cmpi .eq v22 v15
  let v1560 : BitVec 32 := Scalar.extui v1559
  let c0_i32_1266 : BitVec 32 := 0#32
  let v1561 : BitVec 1 := Scalar.cmpi .ne v1560 c0_i32_1266
  v1561

def k0_off18 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c15_i32_3508 : BitVec 32 := 15#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c15_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev40 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v1575 : BitVec 1 := Scalar.cmpi .eq v22 v19
  let v1576 : BitVec 32 := Scalar.extui v1575
  let c0_i32_1277 : BitVec 32 := 0#32
  let v1577 : BitVec 1 := Scalar.cmpi .ne v1576 c0_i32_1277
  v1577

def k0_off19 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c9_i32_3508 : BitVec 32 := 9#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c9_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev41 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev42 (d0 : Dev nD) : Nat :=
  let c0_i32_1355 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_1354 : BitVec 32 := 8#32
  let v1656 : BitVec 32 := Scalar.muli v28 c8_i32_1354
  let v1657 : BitVec 32 := Scalar.addi c0_i32_1355 v1656
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1356 : BitVec 32 := 4#32
  let v1658 : BitVec 32 := Scalar.muli v5 c4_i32_1356
  let v1659 : BitVec 32 := Scalar.addi v1657 v1658
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1357 : BitVec 32 := 1#32
  let v1660 : BitVec 32 := Scalar.muli v8 c1_i32_1357
  let v1661 : BitVec 32 := Scalar.addi v1659 v1660
  v1661.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v1668 : BitVec 1 := Scalar.cmpi .eq v22 v15
  let v1669 : BitVec 32 := Scalar.extui v1668
  let c0_i32_1360 : BitVec 32 := 0#32
  let v1670 : BitVec 1 := Scalar.cmpi .ne v1669 c0_i32_1360
  v1670

def k0_off20 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c18_i32_3508 : BitVec 32 := 18#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c18_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev43 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v1684 : BitVec 1 := Scalar.cmpi .eq v22 v19
  let v1685 : BitVec 32 := Scalar.extui v1684
  let c0_i32_1371 : BitVec 32 := 0#32
  let v1686 : BitVec 1 := Scalar.cmpi .ne v1685 c0_i32_1371
  v1686

def k0_off21 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c12_i32_3508 : BitVec 32 := 12#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c12_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev44 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev45 (d0 : Dev nD) : Nat :=
  let c0_i32_1449 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_1448 : BitVec 32 := 8#32
  let v1765 : BitVec 32 := Scalar.muli v28 c8_i32_1448
  let v1766 : BitVec 32 := Scalar.addi c0_i32_1449 v1765
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1450 : BitVec 32 := 4#32
  let v1767 : BitVec 32 := Scalar.muli v5 c4_i32_1450
  let v1768 : BitVec 32 := Scalar.addi v1766 v1767
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1451 : BitVec 32 := 1#32
  let v1769 : BitVec 32 := Scalar.muli v8 c1_i32_1451
  let v1770 : BitVec 32 := Scalar.addi v1768 v1769
  v1770.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v1777 : BitVec 1 := Scalar.cmpi .eq v22 v15
  let v1778 : BitVec 32 := Scalar.extui v1777
  let c0_i32_1454 : BitVec 32 := 0#32
  let v1779 : BitVec 1 := Scalar.cmpi .ne v1778 c0_i32_1454
  v1779

def k0_off22 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c21_i32_3508 : BitVec 32 := 21#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c21_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev46 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v1793 : BitVec 1 := Scalar.cmpi .eq v22 v19
  let v1794 : BitVec 32 := Scalar.extui v1793
  let c0_i32_1465 : BitVec 32 := 0#32
  let v1795 : BitVec 1 := Scalar.cmpi .ne v1794 c0_i32_1465
  v1795

def k0_off23 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c15_i32_3508 : BitVec 32 := 15#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c15_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev47 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev48 (d0 : Dev nD) : Nat :=
  let c0_i32_1543 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_1542 : BitVec 32 := 8#32
  let v1874 : BitVec 32 := Scalar.muli v28 c8_i32_1542
  let v1875 : BitVec 32 := Scalar.addi c0_i32_1543 v1874
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1544 : BitVec 32 := 4#32
  let v1876 : BitVec 32 := Scalar.muli v5 c4_i32_1544
  let v1877 : BitVec 32 := Scalar.addi v1875 v1876
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1545 : BitVec 32 := 1#32
  let v1878 : BitVec 32 := Scalar.muli v8 c1_i32_1545
  let v1879 : BitVec 32 := Scalar.addi v1877 v1878
  v1879.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v1886 : BitVec 1 := Scalar.cmpi .eq v22 v15
  let v1887 : BitVec 32 := Scalar.extui v1886
  let c0_i32_1548 : BitVec 32 := 0#32
  let v1888 : BitVec 1 := Scalar.cmpi .ne v1887 c0_i32_1548
  v1888

def k0_off24 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c24_i32_3508 : BitVec 32 := 24#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c24_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev49 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v1902 : BitVec 1 := Scalar.cmpi .eq v22 v19
  let v1903 : BitVec 32 := Scalar.extui v1902
  let c0_i32_1559 : BitVec 32 := 0#32
  let v1904 : BitVec 1 := Scalar.cmpi .ne v1903 c0_i32_1559
  v1904

def k0_off25 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c18_i32_3508 : BitVec 32 := 18#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c18_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev50 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev51 (d0 : Dev nD) : Nat :=
  let c0_i32_1637 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_1636 : BitVec 32 := 8#32
  let v1983 : BitVec 32 := Scalar.muli v28 c8_i32_1636
  let v1984 : BitVec 32 := Scalar.addi c0_i32_1637 v1983
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1638 : BitVec 32 := 4#32
  let v1985 : BitVec 32 := Scalar.muli v5 c4_i32_1638
  let v1986 : BitVec 32 := Scalar.addi v1984 v1985
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1639 : BitVec 32 := 1#32
  let v1987 : BitVec 32 := Scalar.muli v8 c1_i32_1639
  let v1988 : BitVec 32 := Scalar.addi v1986 v1987
  v1988.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v1995 : BitVec 1 := Scalar.cmpi .eq v22 v15
  let v1996 : BitVec 32 := Scalar.extui v1995
  let c0_i32_1642 : BitVec 32 := 0#32
  let v1997 : BitVec 1 := Scalar.cmpi .ne v1996 c0_i32_1642
  v1997

def k0_off26 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c27_i32_3508 : BitVec 32 := 27#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c27_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev52 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v2011 : BitVec 1 := Scalar.cmpi .eq v22 v19
  let v2012 : BitVec 32 := Scalar.extui v2011
  let c0_i32_1653 : BitVec 32 := 0#32
  let v2013 : BitVec 1 := Scalar.cmpi .ne v2012 c0_i32_1653
  v2013

def k0_off27 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c21_i32_3508 : BitVec 32 := 21#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c21_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev53 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev54 (d0 : Dev nD) : Nat :=
  let c0_i32_1731 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_1730 : BitVec 32 := 8#32
  let v2092 : BitVec 32 := Scalar.muli v28 c8_i32_1730
  let v2093 : BitVec 32 := Scalar.addi c0_i32_1731 v2092
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1732 : BitVec 32 := 4#32
  let v2094 : BitVec 32 := Scalar.muli v5 c4_i32_1732
  let v2095 : BitVec 32 := Scalar.addi v2093 v2094
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1733 : BitVec 32 := 1#32
  let v2096 : BitVec 32 := Scalar.muli v8 c1_i32_1733
  let v2097 : BitVec 32 := Scalar.addi v2095 v2096
  v2097.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v2104 : BitVec 1 := Scalar.cmpi .eq v22 v15
  let v2105 : BitVec 32 := Scalar.extui v2104
  let c0_i32_1736 : BitVec 32 := 0#32
  let v2106 : BitVec 1 := Scalar.cmpi .ne v2105 c0_i32_1736
  v2106

def k0_off28 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c30_i32_3508 : BitVec 32 := 30#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c30_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev55 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v2120 : BitVec 1 := Scalar.cmpi .eq v22 v19
  let v2121 : BitVec 32 := Scalar.extui v2120
  let c0_i32_1747 : BitVec 32 := 0#32
  let v2122 : BitVec 1 := Scalar.cmpi .ne v2121 c0_i32_1747
  v2122

def k0_off29 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c24_i32_3508 : BitVec 32 := 24#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c24_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev56 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev57 (d0 : Dev nD) : Nat :=
  let c0_i32_1825 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_1824 : BitVec 32 := 8#32
  let v2201 : BitVec 32 := Scalar.muli v28 c8_i32_1824
  let v2202 : BitVec 32 := Scalar.addi c0_i32_1825 v2201
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1826 : BitVec 32 := 4#32
  let v2203 : BitVec 32 := Scalar.muli v5 c4_i32_1826
  let v2204 : BitVec 32 := Scalar.addi v2202 v2203
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1827 : BitVec 32 := 1#32
  let v2205 : BitVec 32 := Scalar.muli v8 c1_i32_1827
  let v2206 : BitVec 32 := Scalar.addi v2204 v2205
  v2206.toNat
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v2213 : BitVec 1 := Scalar.cmpi .eq v22 v15
  let v2214 : BitVec 32 := Scalar.extui v2213
  let c0_i32_1830 : BitVec 32 := 0#32
  let v2215 : BitVec 1 := Scalar.cmpi .ne v2214 c0_i32_1830
  v2215

def k0_off30 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c33_i32_3508 : BitVec 32 := 33#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c33_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev58 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v2229 : BitVec 1 := Scalar.cmpi .eq v22 v19
  let v2230 : BitVec 32 := Scalar.extui v2229
  let c0_i32_1841 : BitVec 32 := 0#32
  let v2231 : BitVec 1 := Scalar.cmpi .ne v2230 c0_i32_1841
  v2231

def k0_off31 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c27_i32_3508 : BitVec 32 := 27#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c27_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev59 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev60 (d0 : Dev nD) : Nat :=
  let c0_i32_1919 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_1918 : BitVec 32 := 8#32
  let v2310 : BitVec 32 := Scalar.muli v28 c8_i32_1918
  let v2311 : BitVec 32 := Scalar.addi c0_i32_1919 v2310
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1920 : BitVec 32 := 4#32
  let v2312 : BitVec 32 := Scalar.muli v5 c4_i32_1920
  let v2313 : BitVec 32 := Scalar.addi v2311 v2312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1921 : BitVec 32 := 1#32
  let v2314 : BitVec 32 := Scalar.muli v8 c1_i32_1921
  let v2315 : BitVec 32 := Scalar.addi v2313 v2314
  v2315.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v2322 : BitVec 1 := Scalar.cmpi .eq v22 v15
  let v2323 : BitVec 32 := Scalar.extui v2322
  let c0_i32_1924 : BitVec 32 := 0#32
  let v2324 : BitVec 1 := Scalar.cmpi .ne v2323 c0_i32_1924
  v2324

def k0_off32 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c36_i32_3508 : BitVec 32 := 36#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c36_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev61 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v2338 : BitVec 1 := Scalar.cmpi .eq v22 v19
  let v2339 : BitVec 32 := Scalar.extui v2338
  let c0_i32_1935 : BitVec 32 := 0#32
  let v2340 : BitVec 1 := Scalar.cmpi .ne v2339 c0_i32_1935
  v2340

def k0_off33 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c30_i32_3508 : BitVec 32 := 30#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c30_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev62 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev63 (d0 : Dev nD) : Nat :=
  let c0_i32_2013 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_2012 : BitVec 32 := 8#32
  let v2419 : BitVec 32 := Scalar.muli v28 c8_i32_2012
  let v2420 : BitVec 32 := Scalar.addi c0_i32_2013 v2419
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2014 : BitVec 32 := 4#32
  let v2421 : BitVec 32 := Scalar.muli v5 c4_i32_2014
  let v2422 : BitVec 32 := Scalar.addi v2420 v2421
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2015 : BitVec 32 := 1#32
  let v2423 : BitVec 32 := Scalar.muli v8 c1_i32_2015
  let v2424 : BitVec 32 := Scalar.addi v2422 v2423
  v2424.toNat
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v2431 : BitVec 1 := Scalar.cmpi .eq v22 v15
  let v2432 : BitVec 32 := Scalar.extui v2431
  let c0_i32_2018 : BitVec 32 := 0#32
  let v2433 : BitVec 1 := Scalar.cmpi .ne v2432 c0_i32_2018
  v2433

def k0_off34 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c39_i32_3508 : BitVec 32 := 39#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c39_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev64 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v2447 : BitVec 1 := Scalar.cmpi .eq v22 v19
  let v2448 : BitVec 32 := Scalar.extui v2447
  let c0_i32_2029 : BitVec 32 := 0#32
  let v2449 : BitVec 1 := Scalar.cmpi .ne v2448 c0_i32_2029
  v2449

def k0_off35 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c33_i32_3508 : BitVec 32 := 33#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c33_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev65 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev66 (d0 : Dev nD) : Nat :=
  let c0_i32_2107 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_2106 : BitVec 32 := 8#32
  let v2528 : BitVec 32 := Scalar.muli v28 c8_i32_2106
  let v2529 : BitVec 32 := Scalar.addi c0_i32_2107 v2528
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2108 : BitVec 32 := 4#32
  let v2530 : BitVec 32 := Scalar.muli v5 c4_i32_2108
  let v2531 : BitVec 32 := Scalar.addi v2529 v2530
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2109 : BitVec 32 := 1#32
  let v2532 : BitVec 32 := Scalar.muli v8 c1_i32_2109
  let v2533 : BitVec 32 := Scalar.addi v2531 v2532
  v2533.toNat
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v2540 : BitVec 1 := Scalar.cmpi .eq v22 v15
  let v2541 : BitVec 32 := Scalar.extui v2540
  let c0_i32_2112 : BitVec 32 := 0#32
  let v2542 : BitVec 1 := Scalar.cmpi .ne v2541 c0_i32_2112
  v2542

def k0_off36 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c42_i32_3508 : BitVec 32 := 42#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c42_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev67 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v2556 : BitVec 1 := Scalar.cmpi .eq v22 v19
  let v2557 : BitVec 32 := Scalar.extui v2556
  let c0_i32_2123 : BitVec 32 := 0#32
  let v2558 : BitVec 1 := Scalar.cmpi .ne v2557 c0_i32_2123
  v2558

def k0_off37 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c36_i32_3508 : BitVec 32 := 36#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c36_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev68 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev69 (d0 : Dev nD) : Nat :=
  let c0_i32_2201 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_2200 : BitVec 32 := 8#32
  let v2637 : BitVec 32 := Scalar.muli v28 c8_i32_2200
  let v2638 : BitVec 32 := Scalar.addi c0_i32_2201 v2637
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2202 : BitVec 32 := 4#32
  let v2639 : BitVec 32 := Scalar.muli v5 c4_i32_2202
  let v2640 : BitVec 32 := Scalar.addi v2638 v2639
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2203 : BitVec 32 := 1#32
  let v2641 : BitVec 32 := Scalar.muli v8 c1_i32_2203
  let v2642 : BitVec 32 := Scalar.addi v2640 v2641
  v2642.toNat
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v2649 : BitVec 1 := Scalar.cmpi .eq v22 v15
  let v2650 : BitVec 32 := Scalar.extui v2649
  let c0_i32_2206 : BitVec 32 := 0#32
  let v2651 : BitVec 1 := Scalar.cmpi .ne v2650 c0_i32_2206
  v2651

def k0_off38 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c45_i32_3508 : BitVec 32 := 45#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c45_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev70 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v2665 : BitVec 1 := Scalar.cmpi .eq v22 v19
  let v2666 : BitVec 32 := Scalar.extui v2665
  let c0_i32_2217 : BitVec 32 := 0#32
  let v2667 : BitVec 1 := Scalar.cmpi .ne v2666 c0_i32_2217
  v2667

def k0_off39 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c39_i32_3508 : BitVec 32 := 39#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c39_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev71 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev72 (d0 : Dev nD) : Nat :=
  let c0_i32_2295 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_2294 : BitVec 32 := 8#32
  let v2746 : BitVec 32 := Scalar.muli v28 c8_i32_2294
  let v2747 : BitVec 32 := Scalar.addi c0_i32_2295 v2746
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2296 : BitVec 32 := 4#32
  let v2748 : BitVec 32 := Scalar.muli v5 c4_i32_2296
  let v2749 : BitVec 32 := Scalar.addi v2747 v2748
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2297 : BitVec 32 := 1#32
  let v2750 : BitVec 32 := Scalar.muli v8 c1_i32_2297
  let v2751 : BitVec 32 := Scalar.addi v2749 v2750
  v2751.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v2758 : BitVec 1 := Scalar.cmpi .eq v22 v15
  let v2759 : BitVec 32 := Scalar.extui v2758
  let c0_i32_2300 : BitVec 32 := 0#32
  let v2760 : BitVec 1 := Scalar.cmpi .ne v2759 c0_i32_2300
  v2760

def k0_off40 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c48_i32_3508 : BitVec 32 := 48#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c48_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev73 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v2774 : BitVec 1 := Scalar.cmpi .eq v22 v19
  let v2775 : BitVec 32 := Scalar.extui v2774
  let c0_i32_2311 : BitVec 32 := 0#32
  let v2776 : BitVec 1 := Scalar.cmpi .ne v2775 c0_i32_2311
  v2776

def k0_off41 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c42_i32_3508 : BitVec 32 := 42#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c42_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev74 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev75 (d0 : Dev nD) : Nat :=
  let c0_i32_2389 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_2388 : BitVec 32 := 8#32
  let v2855 : BitVec 32 := Scalar.muli v28 c8_i32_2388
  let v2856 : BitVec 32 := Scalar.addi c0_i32_2389 v2855
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2390 : BitVec 32 := 4#32
  let v2857 : BitVec 32 := Scalar.muli v5 c4_i32_2390
  let v2858 : BitVec 32 := Scalar.addi v2856 v2857
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2391 : BitVec 32 := 1#32
  let v2859 : BitVec 32 := Scalar.muli v8 c1_i32_2391
  let v2860 : BitVec 32 := Scalar.addi v2858 v2859
  v2860.toNat
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v2867 : BitVec 1 := Scalar.cmpi .eq v22 v15
  let v2868 : BitVec 32 := Scalar.extui v2867
  let c0_i32_2394 : BitVec 32 := 0#32
  let v2869 : BitVec 1 := Scalar.cmpi .ne v2868 c0_i32_2394
  v2869

def k0_off42 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c51_i32_3508 : BitVec 32 := 51#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c51_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev76 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v2883 : BitVec 1 := Scalar.cmpi .eq v22 v19
  let v2884 : BitVec 32 := Scalar.extui v2883
  let c0_i32_2405 : BitVec 32 := 0#32
  let v2885 : BitVec 1 := Scalar.cmpi .ne v2884 c0_i32_2405
  v2885

def k0_off43 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c45_i32_3508 : BitVec 32 := 45#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c45_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev77 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev78 (d0 : Dev nD) : Nat :=
  let c0_i32_2483 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_2482 : BitVec 32 := 8#32
  let v2964 : BitVec 32 := Scalar.muli v28 c8_i32_2482
  let v2965 : BitVec 32 := Scalar.addi c0_i32_2483 v2964
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2484 : BitVec 32 := 4#32
  let v2966 : BitVec 32 := Scalar.muli v5 c4_i32_2484
  let v2967 : BitVec 32 := Scalar.addi v2965 v2966
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2485 : BitVec 32 := 1#32
  let v2968 : BitVec 32 := Scalar.muli v8 c1_i32_2485
  let v2969 : BitVec 32 := Scalar.addi v2967 v2968
  v2969.toNat
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v2976 : BitVec 1 := Scalar.cmpi .eq v22 v15
  let v2977 : BitVec 32 := Scalar.extui v2976
  let c0_i32_2488 : BitVec 32 := 0#32
  let v2978 : BitVec 1 := Scalar.cmpi .ne v2977 c0_i32_2488
  v2978

def k0_off44 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c54_i32_3508 : BitVec 32 := 54#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c54_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev79 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v2992 : BitVec 1 := Scalar.cmpi .eq v22 v19
  let v2993 : BitVec 32 := Scalar.extui v2992
  let c0_i32_2499 : BitVec 32 := 0#32
  let v2994 : BitVec 1 := Scalar.cmpi .ne v2993 c0_i32_2499
  v2994

def k0_off45 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c48_i32_3508 : BitVec 32 := 48#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c48_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev80 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_dev81 (d0 : Dev nD) : Nat :=
  let c0_i32_2577 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_2576 : BitVec 32 := 8#32
  let v3073 : BitVec 32 := Scalar.muli v28 c8_i32_2576
  let v3074 : BitVec 32 := Scalar.addi c0_i32_2577 v3073
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2578 : BitVec 32 := 4#32
  let v3075 : BitVec 32 := Scalar.muli v5 c4_i32_2578
  let v3076 : BitVec 32 := Scalar.addi v3074 v3075
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2579 : BitVec 32 := 1#32
  let v3077 : BitVec 32 := Scalar.muli v8 c1_i32_2579
  let v3078 : BitVec 32 := Scalar.addi v3076 v3077
  v3078.toNat
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v3085 : BitVec 1 := Scalar.cmpi .eq v22 v15
  let v3086 : BitVec 32 := Scalar.extui v3085
  let c0_i32_2582 : BitVec 32 := 0#32
  let v3087 : BitVec 1 := Scalar.cmpi .ne v3086 c0_i32_2582
  v3087

def k0_off46 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c57_i32_3508 : BitVec 32 := 57#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c57_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev82 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v3101 : BitVec 1 := Scalar.cmpi .eq v22 v19
  let v3102 : BitVec 32 := Scalar.extui v3101
  let c0_i32_2593 : BitVec 32 := 0#32
  let v3103 : BitVec 1 := Scalar.cmpi .ne v3102 c0_i32_2593
  v3103

def k0_off47 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c51_i32_3508 : BitVec 32 := 51#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c51_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev83 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond42 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let c1_i32_15 : BitVec 32 := 1#32
  let v23 : BitVec 32 := Scalar.addi v15 c1_i32_15
  let c3_i32_16 : BitVec 32 := 3#32
  let v24 : BitVec 32 := Scalar.remsi v23 c3_i32_16
  let c0_i32_93 : BitVec 32 := 0#32
  let v130 : BitVec 1 := Scalar.cmpi .sle v24 c0_i32_93
  let v3135 : BitVec 32 := Scalar.extui v130
  let c0_i32_2625 : BitVec 32 := 0#32
  let v3136 : BitVec 1 := Scalar.cmpi .ne v3135 c0_i32_2625
  v3136

def k0_off48 (d0 : Dev nD) : Fin 2 → Nat :=
  let c63_i32_92 : BitVec 32 := 63#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let c1_i32_15 : BitVec 32 := 1#32
  let v23 : BitVec 32 := Scalar.addi v15 c1_i32_15
  let c3_i32_16 : BitVec 32 := 3#32
  let v24 : BitVec 32 := Scalar.remsi v23 c3_i32_16
  let v129 : BitVec 32 := Scalar.addi c63_i32_92 v24
  let c128_i32_3508 : BitVec 32 := 128#32
  let v4079 : BitVec 32 := Scalar.muli v129 c128_i32_3508
  let c0_i32_3513 : BitVec 32 := 0#32
  ![v4079.toNat, 0]
def k0_dev84 (d0 : Dev nD) : Nat :=
  let c0_i32_2666 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_2665 : BitVec 32 := 8#32
  let v3178 : BitVec 32 := Scalar.muli v28 c8_i32_2665
  let v3179 : BitVec 32 := Scalar.addi c0_i32_2666 v3178
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2667 : BitVec 32 := 4#32
  let v3180 : BitVec 32 := Scalar.muli v5 c4_i32_2667
  let v3181 : BitVec 32 := Scalar.addi v3179 v3180
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2668 : BitVec 32 := 1#32
  let v3182 : BitVec 32 := Scalar.muli v8 c1_i32_2668
  let v3183 : BitVec 32 := Scalar.addi v3181 v3182
  v3183.toNat
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v3190 : BitVec 1 := Scalar.cmpi .eq v22 v15
  let v3191 : BitVec 32 := Scalar.extui v3190
  let c0_i32_2671 : BitVec 32 := 0#32
  let v3192 : BitVec 1 := Scalar.cmpi .ne v3191 c0_i32_2671
  v3192

def k0_off49 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c60_i32_3508 : BitVec 32 := 60#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c60_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev85 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v3206 : BitVec 1 := Scalar.cmpi .eq v22 v19
  let v3207 : BitVec 32 := Scalar.extui v3206
  let c0_i32_2682 : BitVec 32 := 0#32
  let v3208 : BitVec 1 := Scalar.cmpi .ne v3207 c0_i32_2682
  v3208

def k0_off50 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c54_i32_3508 : BitVec 32 := 54#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c54_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev86 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond45 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let c2_i32_17 : BitVec 32 := 2#32
  let v25 : BitVec 32 := Scalar.addi v15 c2_i32_17
  let c3_i32_18 : BitVec 32 := 3#32
  let v26 : BitVec 32 := Scalar.remsi v25 c3_i32_18
  let c0_i32_95 : BitVec 32 := 0#32
  let v132 : BitVec 1 := Scalar.cmpi .sle v26 c0_i32_95
  let v3209 : BitVec 32 := Scalar.extui v132
  let c0_i32_2683 : BitVec 32 := 0#32
  let v3210 : BitVec 1 := Scalar.cmpi .ne v3209 c0_i32_2683
  v3210

def k0_off51 (d0 : Dev nD) : Fin 2 → Nat :=
  let c63_i32_94 : BitVec 32 := 63#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let c2_i32_17 : BitVec 32 := 2#32
  let v25 : BitVec 32 := Scalar.addi v15 c2_i32_17
  let c3_i32_18 : BitVec 32 := 3#32
  let v26 : BitVec 32 := Scalar.remsi v25 c3_i32_18
  let v131 : BitVec 32 := Scalar.addi c63_i32_94 v26
  let c128_i32_3508 : BitVec 32 := 128#32
  let v4079 : BitVec 32 := Scalar.muli v131 c128_i32_3508
  let c0_i32_3513 : BitVec 32 := 0#32
  ![v4079.toNat, 0]
def k0_cond46 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let c1_i32_15 : BitVec 32 := 1#32
  let v23 : BitVec 32 := Scalar.addi v15 c1_i32_15
  let c3_i32_16 : BitVec 32 := 3#32
  let v24 : BitVec 32 := Scalar.remsi v23 c3_i32_16
  let c0_i32_93 : BitVec 32 := 0#32
  let v130 : BitVec 1 := Scalar.cmpi .sle v24 c0_i32_93
  let v3211 : BitVec 32 := Scalar.extui v130
  let c0_i32_2684 : BitVec 32 := 0#32
  let v3212 : BitVec 1 := Scalar.cmpi .ne v3211 c0_i32_2684
  v3212

def k0_off52 (d0 : Dev nD) : Fin 2 → Nat :=
  let c63_i32_92 : BitVec 32 := 63#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let c1_i32_15 : BitVec 32 := 1#32
  let v23 : BitVec 32 := Scalar.addi v15 c1_i32_15
  let c3_i32_16 : BitVec 32 := 3#32
  let v24 : BitVec 32 := Scalar.remsi v23 c3_i32_16
  let v129 : BitVec 32 := Scalar.addi c63_i32_92 v24
  let c128_i32_3508 : BitVec 32 := 128#32
  let v4079 : BitVec 32 := Scalar.muli v129 c128_i32_3508
  let c0_i32_3513 : BitVec 32 := 0#32
  ![v4079.toNat, 0]
def k0_off53 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v61 : BitVec 32 := Scalar.muli v5 c8192_i32
  let c63_i32_92 : BitVec 32 := 63#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let c1_i32_15 : BitVec 32 := 1#32
  let v23 : BitVec 32 := Scalar.addi v15 c1_i32_15
  let c3_i32_16 : BitVec 32 := 3#32
  let v24 : BitVec 32 := Scalar.remsi v23 c3_i32_16
  let v129 : BitVec 32 := Scalar.addi c63_i32_92 v24
  let c128_i32_3527 : BitVec 32 := 128#32
  let v4097 : BitVec 32 := Scalar.muli v129 c128_i32_3527
  let v4098 : BitVec 32 := Scalar.addi v61 v4097
  let c0_i32_3530 : BitVec 32 := 0#32
  ![v4098.toNat, 0]
def k0_cond47 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let c2_i32_17 : BitVec 32 := 2#32
  let v25 : BitVec 32 := Scalar.addi v15 c2_i32_17
  let c3_i32_18 : BitVec 32 := 3#32
  let v26 : BitVec 32 := Scalar.remsi v25 c3_i32_18
  let c0_i32_95 : BitVec 32 := 0#32
  let v132 : BitVec 1 := Scalar.cmpi .sle v26 c0_i32_95
  let v3213 : BitVec 32 := Scalar.extui v132
  let c0_i32_2685 : BitVec 32 := 0#32
  let v3214 : BitVec 1 := Scalar.cmpi .ne v3213 c0_i32_2685
  v3214

def k0_off54 (d0 : Dev nD) : Fin 2 → Nat :=
  let c63_i32_94 : BitVec 32 := 63#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let c2_i32_17 : BitVec 32 := 2#32
  let v25 : BitVec 32 := Scalar.addi v15 c2_i32_17
  let c3_i32_18 : BitVec 32 := 3#32
  let v26 : BitVec 32 := Scalar.remsi v25 c3_i32_18
  let v131 : BitVec 32 := Scalar.addi c63_i32_94 v26
  let c128_i32_3508 : BitVec 32 := 128#32
  let v4079 : BitVec 32 := Scalar.muli v131 c128_i32_3508
  let c0_i32_3513 : BitVec 32 := 0#32
  ![v4079.toNat, 0]
def k0_off55 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v61 : BitVec 32 := Scalar.muli v5 c8192_i32
  let c63_i32_94 : BitVec 32 := 63#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let c2_i32_17 : BitVec 32 := 2#32
  let v25 : BitVec 32 := Scalar.addi v15 c2_i32_17
  let c3_i32_18 : BitVec 32 := 3#32
  let v26 : BitVec 32 := Scalar.remsi v25 c3_i32_18
  let v131 : BitVec 32 := Scalar.addi c63_i32_94 v26
  let c128_i32_3527 : BitVec 32 := 128#32
  let v4097 : BitVec 32 := Scalar.muli v131 c128_i32_3527
  let v4098 : BitVec 32 := Scalar.addi v61 v4097
  let c0_i32_3530 : BitVec 32 := 0#32
  ![v4098.toNat, 0]
def k0_cond48 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let c0_i32_96 : BitVec 32 := 0#32
  let v133 : BitVec 1 := Scalar.cmpi .sle v15 c0_i32_96
  let v3215 : BitVec 32 := Scalar.extui v133
  let c0_i32_2686 : BitVec 32 := 0#32
  let v3216 : BitVec 1 := Scalar.cmpi .ne v3215 c0_i32_2686
  v3216

def k0_off56 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c63_i32_3508 : BitVec 32 := 63#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v4079 : BitVec 32 := Scalar.addi c63_i32_3508 v15
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev87 (d0 : Dev nD) : Nat :=
  let c0_i32_3523 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_20 v2
  let c8_i32_3522 : BitVec 32 := 8#32
  let v4095 : BitVec 32 := Scalar.muli v28 c8_i32_3522
  let v4096 : BitVec 32 := Scalar.addi c0_i32_3523 v4095
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3524 : BitVec 32 := 4#32
  let v4097 : BitVec 32 := Scalar.muli v5 c4_i32_3524
  let v4098 : BitVec 32 := Scalar.addi v4096 v4097
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3525 : BitVec 32 := 1#32
  let v4099 : BitVec 32 := Scalar.muli v8 c1_i32_3525
  let v4100 : BitVec 32 := Scalar.addi v4098 v4099
  v4100.toNat
def k0_cond49 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let c0_i32_96 : BitVec 32 := 0#32
  let v133 : BitVec 1 := Scalar.cmpi .sle v15 c0_i32_96
  let c1_i32_13 : BitVec 32 := 1#32
  let c2_i32_14 : BitVec 32 := 2#32
  let v22 : BitVec 32 := Scalar.select v11 c1_i32_13 c2_i32_14
  let v3217 : BitVec 1 := Scalar.cmpi .eq v22 v15
  let v3218 : BitVec 1 := Scalar.andi v133 v3217
  let v3219 : BitVec 32 := Scalar.extui v3218
  let c0_i32_2687 : BitVec 32 := 0#32
  let v3220 : BitVec 1 := Scalar.cmpi .ne v3219 c0_i32_2687
  v3220

def k0_off57 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c63_i32_3508 : BitVec 32 := 63#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c63_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev88 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v3234 : BitVec 1 := Scalar.cmpi .eq v22 v19
  let v3235 : BitVec 32 := Scalar.extui v3234
  let c0_i32_2698 : BitVec 32 := 0#32
  let v3236 : BitVec 1 := Scalar.cmpi .ne v3235 c0_i32_2698
  v3236

def k0_off58 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c57_i32_3508 : BitVec 32 := 57#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c57_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev89 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v3250 : BitVec 1 := Scalar.cmpi .eq v22 v19
  let v3251 : BitVec 32 := Scalar.extui v3250
  let c0_i32_2709 : BitVec 32 := 0#32
  let v3252 : BitVec 1 := Scalar.cmpi .ne v3251 c0_i32_2709
  v3252

def k0_off59 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c60_i32_3508 : BitVec 32 := 60#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c60_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev90 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_cond52 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let c0_i32_97 : BitVec 32 := 0#32
  let v134 : BitVec 1 := Scalar.cmpi .sle v19 c0_i32_97
  let v3253 : BitVec 32 := Scalar.extui v134
  let c0_i32_2710 : BitVec 32 := 0#32
  let v3254 : BitVec 1 := Scalar.cmpi .ne v3253 c0_i32_2710
  v3254

def k0_off60 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c63_i32_3508 : BitVec 32 := 63#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v4079 : BitVec 32 := Scalar.addi c63_i32_3508 v19
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_cond53 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_7 : BitVec 32 := 0#32
  let v16 : BitVec 1 := Scalar.cmpi .eq v2 c0_i32_7
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let c0_i32_97 : BitVec 32 := 0#32
  let v134 : BitVec 1 := Scalar.cmpi .sle v19 c0_i32_97
  let c1_i32_13 : BitVec 32 := 1#32
  let c2_i32_14 : BitVec 32 := 2#32
  let v22 : BitVec 32 := Scalar.select v11 c1_i32_13 c2_i32_14
  let v3255 : BitVec 1 := Scalar.cmpi .eq v22 v19
  let v3256 : BitVec 1 := Scalar.andi v134 v3255
  let v3257 : BitVec 32 := Scalar.extui v3256
  let c0_i32_2711 : BitVec 32 := 0#32
  let v3258 : BitVec 1 := Scalar.cmpi .ne v3257 c0_i32_2711
  v3258

def k0_off61 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c63_i32_3508 : BitVec 32 := 63#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c63_i32_3508 v22
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_dev91 (d0 : Dev nD) : Nat :=
  let c0_i32_3513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3512 : BitVec 32 := 8#32
  let v4082 : BitVec 32 := Scalar.muli v2 c8_i32_3512
  let v4083 : BitVec 32 := Scalar.addi c0_i32_3513 v4082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3514 : BitVec 32 := 4#32
  let v4084 : BitVec 32 := Scalar.muli v5 c4_i32_3514
  let v4085 : BitVec 32 := Scalar.addi v4083 v4084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v29 : BitVec 32 := Scalar.addi v8 c1_i32_21
  let c2_i32_28 : BitVec 32 := 2#32
  let c2_i32_22 : BitVec 32 := 2#32
  let c0_i32_23 : BitVec 32 := 0#32
  let v30 : BitVec 1 := Scalar.cmpi .eq c2_i32_22 c0_i32_23
  let c1_i32_24 : BitVec 32 := 1#32
  let v31 : BitVec 32 := Scalar.select v30 c1_i32_24 c2_i32_22
  let v32 : BitVec 32 := Scalar.remsi v8 v31
  let c0_i32_26 : BitVec 32 := 0#32
  let v34 : BitVec 1 := Scalar.cmpi .slt v32 c0_i32_26
  let c0_i32_27 : BitVec 32 := 0#32
  let v35 : BitVec 1 := Scalar.cmpi .slt v31 c0_i32_27
  let v36 : BitVec 1 := Scalar.xori v34 v35
  let c0_i32_25 : BitVec 32 := 0#32
  let v33 : BitVec 1 := Scalar.cmpi .ne v32 c0_i32_25
  let v37 : BitVec 1 := Scalar.andi v36 v33
  let v38 : BitVec 32 := Scalar.addi v32 v31
  let v39 : BitVec 32 := Scalar.select v37 v38 v32
  let v40 : BitVec 32 := Scalar.muli c2_i32_28 v39
  let v41 : BitVec 32 := Scalar.subi v29 v40
  let c1_i32_3515 : BitVec 32 := 1#32
  let v4086 : BitVec 32 := Scalar.muli v41 c1_i32_3515
  let v4087 : BitVec 32 := Scalar.addi v4085 v4086
  v4087.toNat
def k0_off62 (d0 : Dev nD) (c0_i32_2712 : BitVec 32) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c3_i32_12 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v20 : BitVec 32 := Scalar.subi c3_i32_12 v15
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v21 : BitVec 32 := Scalar.subi v20 v19
  let v3259 : BitVec 32 := Scalar.addi c0_i32_2712 v21
  let c128_i32_2713 : BitVec 32 := 128#32
  let v3260 : BitVec 32 := Scalar.muli v3259 c128_i32_2713
  let v3261 : BitVec 32 := Scalar.addi v63 v3260
  let c0_i32_2720 : BitVec 32 := 0#32
  ![v3261.toNat, 0]
def k0_cond54 (d0 : Dev nD) : BitVec 1 :=
  let c3_i32_12 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v20 : BitVec 32 := Scalar.subi c3_i32_12 v15
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v21 : BitVec 32 := Scalar.subi v20 v19
  let c0_i32_99 : BitVec 32 := 0#32
  let v136 : BitVec 1 := Scalar.cmpi .sle v21 c0_i32_99
  let v3532 : BitVec 32 := Scalar.extui v136
  let c0_i32_2922 : BitVec 32 := 0#32
  let v3533 : BitVec 1 := Scalar.cmpi .ne v3532 c0_i32_2922
  v3533

def k0_off63 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c63_i32_3508 : BitVec 32 := 63#32
  let c3_i32_12 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v20 : BitVec 32 := Scalar.subi c3_i32_12 v15
  let c0_i32_7 : BitVec 32 := 0#32
  let v16 : BitVec 1 := Scalar.cmpi .eq v2 c0_i32_7
  let c1_i32_8 : BitVec 32 := 1#32
  let c0_i32_9 : BitVec 32 := 0#32
  let v17 : BitVec 32 := Scalar.select v11 c1_i32_8 c0_i32_9
  let c0_i32_10 : BitVec 32 := 0#32
  let c2_i32_11 : BitVec 32 := 2#32
  let v18 : BitVec 32 := Scalar.select v11 c0_i32_10 c2_i32_11
  let v19 : BitVec 32 := Scalar.select v16 v17 v18
  let v21 : BitVec 32 := Scalar.subi v20 v19
  let v4079 : BitVec 32 := Scalar.addi c63_i32_3508 v21
  let c128_i32_3509 : BitVec 32 := 128#32
  let v4080 : BitVec 32 := Scalar.muli v4079 c128_i32_3509
  let v4081 : BitVec 32 := Scalar.addi v63 v4080
  let c0_i32_3516 : BitVec 32 := 0#32
  ![v4081.toNat, 0]
def k0_off64 (d0 : Dev nD) (c0_i32_2938 : BitVec 32) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v3548 : BitVec 32 := Scalar.addi c0_i32_2938 v22
  let c128_i32_2939 : BitVec 32 := 128#32
  let v3549 : BitVec 32 := Scalar.muli v3548 c128_i32_2939
  let v3550 : BitVec 32 := Scalar.addi v63 v3549
  let c0_i32_2943 : BitVec 32 := 0#32
  ![v3550.toNat, 0]
def k0_cond55 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let c0_i32_96 : BitVec 32 := 0#32
  let v133 : BitVec 1 := Scalar.cmpi .sle v15 c0_i32_96
  let v4059 : BitVec 32 := Scalar.extui v133
  let c0_i32_3490 : BitVec 32 := 0#32
  let v4060 : BitVec 1 := Scalar.cmpi .ne v4059 c0_i32_3490
  v4060

def k0_off65 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v61 : BitVec 32 := Scalar.muli v5 c8192_i32
  let c63_i32_3508 : BitVec 32 := 63#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v4079 : BitVec 32 := Scalar.addi c63_i32_3508 v15
  let c128_i32_3509 : BitVec 32 := 128#32
  let v4080 : BitVec 32 := Scalar.muli v4079 c128_i32_3509
  let v4081 : BitVec 32 := Scalar.addi v61 v4080
  let c0_i32_3514 : BitVec 32 := 0#32
  ![v4081.toNat, 0]
def k0_cond56 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let c0_i32_96 : BitVec 32 := 0#32
  let v133 : BitVec 1 := Scalar.cmpi .sle v15 c0_i32_96
  let v4061 : BitVec 32 := Scalar.extui v133
  let c0_i32_3491 : BitVec 32 := 0#32
  let v4062 : BitVec 1 := Scalar.cmpi .ne v4061 c0_i32_3491
  v4062

def k0_off66 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c63_i32_3508 : BitVec 32 := 63#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_2 : BitVec 32 := 0#32
  let v12 : BitVec 1 := Scalar.cmpi .eq v2 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c0_i32_3 : BitVec 32 := 0#32
  let c2_i32_4 : BitVec 32 := 2#32
  let v13 : BitVec 32 := Scalar.select v11 c0_i32_3 c2_i32_4
  let c1_i32_5 : BitVec 32 := 1#32
  let c0_i32_6 : BitVec 32 := 0#32
  let v14 : BitVec 32 := Scalar.select v11 c1_i32_5 c0_i32_6
  let v15 : BitVec 32 := Scalar.select v12 v13 v14
  let v4079 : BitVec 32 := Scalar.addi c63_i32_3508 v15
  let c128_i32_3509 : BitVec 32 := 128#32
  let v4080 : BitVec 32 := Scalar.muli v4079 c128_i32_3509
  let v4081 : BitVec 32 := Scalar.addi v63 v4080
  let c0_i32_3513 : BitVec 32 := 0#32
  ![v4081.toNat, 0]
def k0_cond57 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let c0_i32_98 : BitVec 32 := 0#32
  let v135 : BitVec 1 := Scalar.cmpi .sle v22 c0_i32_98
  let v4063 : BitVec 32 := Scalar.extui v135
  let c0_i32_3492 : BitVec 32 := 0#32
  let v4064 : BitVec 1 := Scalar.cmpi .ne v4063 c0_i32_3492
  v4064

def k0_off67 (d0 : Dev nD) : Fin 2 → Nat :=
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_45 v5
  let c8192_i32_46 : BitVec 32 := 8192#32
  let v63 : BitVec 32 := Scalar.muli v62 c8192_i32_46
  let c63_i32_3508 : BitVec 32 := 63#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let c1_i32_13 : BitVec 32 := 1#32
  let c2_i32_14 : BitVec 32 := 2#32
  let v22 : BitVec 32 := Scalar.select v11 c1_i32_13 c2_i32_14
  let v4079 : BitVec 32 := Scalar.addi c63_i32_3508 v22
  let c128_i32_3509 : BitVec 32 := 128#32
  let v4080 : BitVec 32 := Scalar.muli v4079 c128_i32_3509
  let v4081 : BitVec 32 := Scalar.addi v63 v4080
  let c0_i32_3513 : BitVec 32 := 0#32
  ![v4081.toNat, 0]
-- ==== ReferenceIdeal.lean ====
abbrev S16384x1024 : Shape := ⟨2, ![16384, 1024]⟩

abbrev nBuf : Space → Nat
  | .hbm => 2
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Pieces.lean ====
/-
# The kernel body as a list of instructions

The body is straight-line code with a few conditionals: three signals and a wait on the barrier, then 22 rounds that
load a chunk, round it and send it, 22 rounds that load two more chunks and forward what arrives, and the waits. This
file writes that text once as a list (`prog d`), with one entry for each memory operation and loops where the kernel
unrolls them, so that the proof can follow the loops. `Align.lean` proves that the printed body is this list.
-/
module

public import proofs.«01_k».proof.Proof.Gen.KernelIdeal.Skeleton

@[expose] public section

noncomputable section

namespace Cert.KernelIdeal.Prf

open Cert.KernelIdeal Cert.KernelIdeal.Gen
open Idealize.ShloMosaic Idealize.SL.Sem

variable {F : FTy → Type} [FloatOps F]

/-! ## Where a device is and which chunks it handles -/

/-- Its coordinates along the three axes of the mesh, as the kernel computes them. -/
def wx (d : Dev nD) : BitVec 32 := Scalar.remsi (Scalar.divsi (Dev.word d) 8#32) 2#32
def wy (d : Dev nD) : BitVec 32 := Scalar.remsi (Scalar.divsi (Dev.word d) 4#32) 2#32
def wz (d : Dev nD) : BitVec 32 := Scalar.remsi (Scalar.divsi (Dev.word d) 1#32) 4#32
/-- Whether it is at an end of the `z` axis. -/
def wze (d : Dev nD) : BitVec 1 := Scalar.ori (Scalar.cmpi .eq (wz d) 0#32) (Scalar.cmpi .eq (wz d) 3#32)
/-- Whether `x = 0`. -/
def wx0 (d : Dev nD) : BitVec 1 := Scalar.cmpi .eq (wx d) 0#32

/-- The classes of chunks (chunk number modulo 3) a device names: `my` it takes from its `y` neighbour, `xn` from its
`x` neighbour and `miss` from its `z` neighbour; `sz` it sends to its `z` neighbour; `ta` and `tb` are the two classes
other than `my`, in the order it loads them. -/
inductive Cls
  | my | ta | tb | xn | sz | miss
  deriving DecidableEq

def wmy (d : Dev nD) : BitVec 32 :=
  Scalar.select (wx0 d) (Scalar.select (wze d) 0#32 2#32) (Scalar.select (wze d) 1#32 0#32)
def wxn (d : Dev nD) : BitVec 32 :=
  Scalar.select (wx0 d) (Scalar.select (wze d) 1#32 0#32) (Scalar.select (wze d) 0#32 2#32)

def Cls.word (d : Dev nD) : Cls → BitVec 32
  | .my => wmy d
  | .ta => Scalar.remsi (Scalar.addi (wmy d) 1#32) 3#32
  | .tb => Scalar.remsi (Scalar.addi (wmy d) 2#32) 3#32
  | .xn => wxn d
  | .sz => Scalar.select (wze d) 1#32 2#32
  | .miss => Scalar.subi (Scalar.subi 3#32 (wmy d)) (wxn d)

/-- The class's number. -/
def Cls.num (d : Dev nD) (k : Cls) : ℕ := (k.word d).toNat

theorem Cls.num_lt (d : Dev nD) (k : Cls) : k.num d < 3 := by
  cases k <;> (revert d; decide +kernel)

theorem Cls.word_eq (d : Dev nD) (k : Cls) : k.word d = BitVec.ofNat 32 (k.num d) := by
  simp [Cls.num]

/-- The chunk `j` of class `k`: chunk number `3 j + k`. -/
def chunk (d : Dev nD) (k : Cls) (j : ℕ) : ℕ := 3 * j + k.num d

/-- The device's place along `y`. -/
def yc (d : Dev nD) : ℕ := d.val / 4 % 2

theorem wy_eq (d : Dev nD) : wy d = BitVec.ofNat 32 (yc d) := by revert d; decide +kernel
theorem yc_lt (d : Dev nD) : yc d < 2 := Nat.mod_lt _ (by decide)

/-! ## Offsets -/

def inOff (d : Dev nD) (k : Cls) (j : ℕ) : Fin 2 → ℕ :=
  ![(Scalar.muli (Scalar.addi (BitVec.ofNat 32 (3 * j)) (k.word d)) 128#32).toNat, 0]
def ownOff (d : Dev nD) (k : Cls) (j : ℕ) : Fin 2 → ℕ :=
  ![(Scalar.addi (Scalar.muli (wy d) 8192#32)
      (Scalar.muli (Scalar.addi (BitVec.ofNat 32 (3 * j)) (k.word d)) 128#32)).toNat, 0]
def oppOff (d : Dev nD) (k : Cls) (j : ℕ) : Fin 2 → ℕ :=
  ![(Scalar.addi (Scalar.muli (Scalar.subi 1#32 (wy d)) 8192#32)
      (Scalar.muli (Scalar.addi (BitVec.ofNat 32 (3 * j)) (k.word d)) 128#32)).toNat, 0]

theorem inOff_eq (d : Dev nD) (k : Cls) (j : ℕ) (h : chunk d k j < 64) : inOff d k j = ![128 * chunk d k j, 0] := by
  unfold inOff chunk at *
  rw [Cls.word_eq]
  congr 1
  simp only [Scalar.muli, Scalar.addi, IntOp.muli, IntOp.addi, IntOp.subi, BitVec.toNat_mul, BitVec.toNat_add, BitVec.toNat_ofNat]
  omega

theorem ownOff_eq (d : Dev nD) (k : Cls) (j : ℕ) (h : chunk d k j < 64) :
    ownOff d k j = ![8192 * yc d + 128 * chunk d k j, 0] := by
  have := yc_lt d
  unfold ownOff chunk at *
  rw [Cls.word_eq, wy_eq]
  congr 1
  simp only [Scalar.muli, Scalar.addi, IntOp.muli, IntOp.addi, IntOp.subi, BitVec.toNat_mul, BitVec.toNat_add, BitVec.toNat_ofNat]
  omega

theorem oppOff_eq (d : Dev nD) (k : Cls) (j : ℕ) (h : chunk d k j < 64) :
    oppOff d k j = ![8192 * (1 - yc d) + 128 * chunk d k j, 0] := by
  have := yc_lt d
  unfold oppOff chunk at *
  rw [Cls.word_eq, wy_eq]
  congr 1
  simp only [Scalar.muli, Scalar.addi, IntOp.muli, IntOp.addi, IntOp.subi, Scalar.subi, BitVec.toNat_mul, BitVec.toNat_add, BitVec.toNat_sub, BitVec.toNat_ofNat]
  omega

theorem inOff_inb (d : Dev nD) (k : Cls) (j : ℕ) (h : chunk d k j < 64) :
    ∀ a, inOff d k j a + S128x1024.size a ≤ S8192x1024.size a := by
  rw [inOff_eq d k j h]
  intro a; fin_cases a
  · show 128 * chunk d k j + 128 ≤ 8192; omega
  · show 0 + 1024 ≤ 1024; omega

theorem ownOff_inb (d : Dev nD) (k : Cls) (j : ℕ) (h : chunk d k j < 64) :
    ∀ a, ownOff d k j a + S128x1024.size a ≤ S16384x1024.size a := by
  rw [ownOff_eq d k j h]
  have := yc_lt d
  intro a; fin_cases a
  · show 8192 * yc d + 128 * chunk d k j + 128 ≤ 16384; omega
  · show 0 + 1024 ≤ 1024; omega

theorem oppOff_inb (d : Dev nD) (k : Cls) (j : ℕ) (h : chunk d k j < 64) :
    ∀ a, oppOff d k j a + S128x1024.size a ≤ S16384x1024.size a := by
  rw [oppOff_eq d k j h]
  have := yc_lt d
  intro a; fin_cases a
  · show 8192 * (1 - yc d) + 128 * chunk d k j + 128 ≤ 16384; omega
  · show 0 + 1024 ≤ 1024; omega

theorem mine_inb (j : ℕ) (h : j < 22) : ∀ a, (![128 * j, 0] : Fin 2 → ℕ) a + S128x1024.size a ≤ S2816x1024.size a := by
  intro a; fin_cases a
  · show 128 * j + 128 ≤ 2816; omega
  · show 0 + 1024 ≤ 1024; omega

theorem row_inb (j : ℕ) (h : j < 22) : ∀ a, (![128 * j, 0] : Fin 2 → ℕ) a + S128x1024.size a ≤ S16384x1024.size a := by
  intro a; fin_cases a
  · show 128 * j + 128 ≤ 16384; omega
  · show 0 + 1024 ≤ 1024; omega

theorem slot_inb (s : ℕ) (h : s < 2) : ∀ a, (![s, 0, 0] : Fin 3 → ℕ) a + S1x128x1024.size a ≤ S2x128x1024.size a := by
  intro a; fin_cases a
  · show s + 1 ≤ 2; omega
  · show 0 + 128 ≤ 128; omega
  · show 0 + 1024 ≤ 1024; omega

theorem sem2_inb (s : ℕ) (h : s < 2) : ∀ a, (![s] : Fin 1 → ℕ) a + S1.size a ≤ S2.size a := by
  intro a; fin_cases a
  show s + 1 ≤ 2; omega

theorem sem22_inb (s : ℕ) (h : s < 22) : ∀ a, (![s] : Fin 1 → ℕ) a + S1.size a ≤ S22.size a := by
  intro a; fin_cases a
  show s + 1 ≤ 22; omega

/-- A block of 128 rows that starts at an even row is whole words of two 16-bit values. -/
theorem words_rows {M : ℕ} {off : Fin 2 → ℕ} (n : ℕ) (hoff : off = ![128 * n, 0])
    (h : ∀ a, off a + S128x1024.size a ≤ (⟨2, ![M, 1024]⟩ : Shape).size a) :
    (Rect.unit (s := ⟨2, ![M, 1024]⟩) off S128x1024.size h).PackedRows (EltTy.packing .bf16) := by
  subst hoff
  exact Affine.packed_dvd (of_decide_eq_true rfl) ⟨64 * n, by show 128 * n = 2 * (64 * n); omega⟩ ⟨64, rfl⟩

end Cert.KernelIdeal.Prf
end
-- ==== Proof.Listing.lean ====
/-
# The list of instructions

`Ins` is one entry: given the vectors last loaded (`Reg`) and the rest of the run, the program that performs the entry
and goes on. `run` chains a list. `prog d` is the text of the kernel body on device `d` after it has read its number.
-/
module

public import proofs.«01_k».proof.Proof.Pieces

@[expose] public section

noncomputable section

namespace Cert.KernelIdeal.Prf

open Cert.KernelIdeal Cert.KernelIdeal.Gen
open Idealize.ShloMosaic Idealize.ShloMosaic.TcCoe Idealize.SL.Sem

variable {F : FTy → Type} [FloatOps F]

/-! ## The operands -/

abbrev A0 : Memref sig .tc .hbm S8192x1024 .f32 := Memref.whole main_arg0
abbrev A1 : Memref sig .tc .hbm S16384x1024 .bf16 := Memref.whole main_v1
abbrev A2 : Memref sig .tc .vmem S2816x1024 .bf16 := Memref.whole cc0_scratch0
abbrev A3 : Memref sig .tc .vmem S2x128x1024 .f32 := Memref.whole cc0_scratch1
abbrev A4 : Memref sig .tc .vmem S2x128x1024 .bf16 := Memref.whole cc0_scratch2

/-- The rectangles the operations name. -/
abbrev inRect (d : Dev nD) (k : Cls) (j : ℕ) (h : chunk d k j < 64) : Rect S8192x1024 :=
  Rect.unit (s := S8192x1024) (inOff d k j) S128x1024.size (inOff_inb d k j h)
abbrev ownRect (d : Dev nD) (k : Cls) (j : ℕ) (h : chunk d k j < 64) : Rect S16384x1024 :=
  Rect.unit (s := S16384x1024) (ownOff d k j) S128x1024.size (ownOff_inb d k j h)
abbrev oppRect (d : Dev nD) (k : Cls) (j : ℕ) (h : chunk d k j < 64) : Rect S16384x1024 :=
  Rect.unit (s := S16384x1024) (oppOff d k j) S128x1024.size (oppOff_inb d k j h)
abbrev mineRect (j : Fin 22) : Rect S2816x1024 :=
  Rect.unit (s := S2816x1024) ![128 * j.val, 0] S128x1024.size (mine_inb j.val j.isLt)
abbrev slotRect (s : Fin 2) : Rect S2x128x1024 :=
  Rect.unit (s := S2x128x1024) ![s.val, 0, 0] S1x128x1024.size (slot_inb s.val s.isLt)

theorem ownRect_packed (d : Dev nD) (k : Cls) (j : ℕ) (h : chunk d k j < 64) :
    (ownRect d k j h).PackedRows (EltTy.packing .bf16) :=
  words_rows (64 * yc d + chunk d k j) (by rw [ownOff_eq d k j h]; congr 1; omega) _
theorem oppRect_packed (d : Dev nD) (k : Cls) (j : ℕ) (h : chunk d k j < 64) :
    (oppRect d k j h).PackedRows (EltTy.packing .bf16) :=
  words_rows (64 * (1 - yc d) + chunk d k j) (by rw [oppOff_eq d k j h]; congr 1; omega) _
theorem mineRect_packed (j : Fin 22) : (mineRect j).PackedRows (EltTy.packing .bf16) := words_rows j.val rfl _
theorem slotRect_packed (s : Fin 2) : (slotRect s).PackedRows (EltTy.packing .bf16) := by
  revert s; decide
theorem slotRect_words (s : Fin 2) : (slotRect s).WholeWords (EltTy.packing .bf16) := .inl (slotRect_packed s)

abbrev inV (d : Dev nD) (k : Cls) (j : ℕ) (h : chunk d k j < 64) : Memref sig .tc .hbm S128x1024 .f32 :=
  A0.slice (inRect d k j h) (fun _ => rfl)
abbrev ownV (d : Dev nD) (k : Cls) (j : ℕ) (h : chunk d k j < 64) : Memref sig .tc .hbm S128x1024 .bf16 :=
  A1.slice (ownRect d k j h) (fun _ => rfl)
abbrev oppV (d : Dev nD) (k : Cls) (j : ℕ) (h : chunk d k j < 64) : Memref sig .tc .hbm S128x1024 .bf16 :=
  A1.slice (oppRect d k j h) (fun _ => rfl)
abbrev mineV (j : Fin 22) : Memref sig .tc .vmem S128x1024 .bf16 := A2.slice (mineRect j) (fun _ => rfl)
abbrev rowV (j : Fin 22) : Memref sig .tc .hbm S128x1024 .bf16 :=
  A1.slice (Rect.unit (s := S16384x1024) ![128 * j.val, 0] S128x1024.size (row_inb j.val j.isLt)) (fun _ => rfl)
abbrev loadV (s : Fin 2) : Memref sig .tc .vmem S128x1024 .f32 :=
  (A3.slice (slotRect s) (fun _ => rfl)).squeeze S128x1024 squeezes_S1x128x1024_S128x1024
abbrev stageV (s : Fin 2) : Memref sig .tc .vmem S128x1024 .bf16 :=
  (A4.slice (slotRect s) (fun _ => rfl)).squeeze S128x1024 squeezes_S1x128x1024_S128x1024

abbrev sem2 (a : DmaSems sig S2) (s : Fin 2) : DmaSem sig :=
  ((a.slice (Rect.unit (s := S2) ![s.val] S1.size (sem2_inb s.val s.isLt))).squeeze S_ squeezes_S1_S_).sem
abbrev sem22 (a : DmaSems sig S22) (j : Fin 22) : DmaSem sig :=
  ((a.slice (Rect.unit (s := S22) ![j.val] S1.size (sem22_inb j.val j.isLt))).squeeze S_ squeezes_S1_S_).sem

/-- The neighbours along the three axes. -/
abbrev yN (d : Dev nD) : Dev nD := ⟨k0_dev1 d, k0_dev1_lt d⟩
abbrev xN (d : Dev nD) : Dev nD := ⟨k0_dev2 d, k0_dev2_lt d⟩
abbrev zN (d : Dev nD) : Dev nD := ⟨k0_dev3 d, k0_dev3_lt d⟩

/-! ## Instructions -/

/-- The effects of the kernel's program. -/
abbrev EF (F : FTy → Type) : Type → Type _ := TpuEff nD τ sig (Elt F) Λ₀ .tc

/-- The vectors last loaded: from the input chunks, and by the two loads whose value is not used. -/
structure Reg (F : FTy → Type) [FloatOps F] where
  a : Vec F S1x128x1024 .f32
  b : Vec F S128x1024 .bf16
  c : Vec F S1x128x1024 .bf16

structure Ins (F : FTy → Type) [FloatOps F] where
  den : ∀ {α : Type}, Reg F → (Reg F → Prog (EF F) α) → Prog (EF F) α
  nat : ∀ {α β : Type} (r : Reg F) (k : Reg F → Prog (EF F) α) (K : α → Prog (EF F) β),
    (den r k).bind K = den r (fun r' => (k r').bind K)

/-- Run a list of instructions and go on. -/
def run {α : Type} : List (Ins F) → Reg F → (Reg F → Prog (EF F) α) → Prog (EF F) α
  | [], r, k => k r
  | i :: l, r, k => i.den r (fun r' => run l r' k)

theorem run_bind {α β : Type} (l : List (Ins F)) (r : Reg F) (k : Reg F → Prog (EF F) α) (K : α → Prog (EF F) β) :
    (run l r k).bind K = run l r (fun r' => (k r').bind K) := by
  induction l generalizing r with
  | nil => rfl
  | cons i l ih => simp only [run, i.nat, ih]

theorem run_append {α : Type} (l l' : List (Ins F)) (r : Reg F) (k : Reg F → Prog (EF F) α) :
    run (l ++ l') r k = run l r (fun r' => run l' r' k) := by
  induction l generalizing r with
  | nil => rfl
  | cons i l ih => simp only [run, List.cons_append, ih]

/-- An operation that returns nothing. -/
def opU (e : EF F PUnit) : Ins F := ⟨fun r k => .op e (fun _ => k r), fun _ _ _ => rfl⟩
/-- A program that returns nothing. -/
def ofP (p : Prog (EF F) PUnit) : Ins F := ⟨fun r k => p.bind (fun _ => k r), fun r k K => Prog.bind_assoc p _ _⟩
/-- The loads. -/
def opA (e : EF F (Vec F S1x128x1024 .f32)) : Ins F := ⟨fun r k => .op e (fun v => k { r with a := v }), fun _ _ _ => rfl⟩
def opB (e : EF F (Vec F S128x1024 .bf16)) : Ins F := ⟨fun r k => .op e (fun v => k { r with b := v }), fun _ _ _ => rfl⟩
def opC (e : EF F (Vec F S1x128x1024 .bf16)) : Ins F := ⟨fun r k => .op e (fun v => k { r with c := v }), fun _ _ _ => rfl⟩
/-- A store of a value computed from the vector last loaded. -/
def opS (e : Vec F S1x128x1024 .f32 → EF F PUnit) : Ins F := ⟨fun r k => .op (e r.a) (fun _ => k r), fun _ _ _ => rfl⟩
/-- The choice on a number the text knows. -/
def pick {X : Type _} : (b : Bool) → (b = true → X) → X → X
  | true, A, _ => A rfl
  | false, _, B => B
theorem blt_lt {a b : ℕ} (h : Nat.blt a b = true) : a < b := by simpa [Nat.blt_eq] using h
/-- A conditional without an else part. What it loads is not used after it. -/
def whenI (c : BitVec 1) (l : c = 1#1 → List (Ins F)) : Ins F :=
  ⟨fun r k => Prog.bind (if h : c = 1#1 then run (l h) r (fun _ => .ret PUnit.unit) else .ret PUnit.unit) (fun _ => k r),
    fun r k K => Prog.bind_assoc _ _ _⟩

/-- The conditions the kernel computes: a chunk 21 of class `k` exists; the class sent on is the class received; both. -/
def cTail (d : Dev nD) (k : Cls) : BitVec 1 := Scalar.cmpi .ne (Scalar.extui (Scalar.cmpi .sle (k.word d) 0#32)) 0#32
def cSame (d : Dev nD) (k : Cls) : BitVec 1 :=
  Scalar.cmpi .ne (Scalar.extui (Scalar.cmpi .eq (Cls.sz.word d) (k.word d))) 0#32
def cBoth (d : Dev nD) (k : Cls) : BitVec 1 :=
  Scalar.cmpi .ne (Scalar.extui
    (Scalar.andi (Scalar.cmpi .sle (k.word d) 0#32) (Scalar.cmpi .eq (Cls.sz.word d) (k.word d)))) 0#32

theorem cTail_eq (d : Dev nD) (k : Cls) : cTail d k = 1#1 ↔ k.num d = 0 := by
  cases k <;> (revert d; decide +kernel)
theorem cSame_eq (d : Dev nD) (k : Cls) : cSame d k = 1#1 ↔ Cls.sz.num d = k.num d := by
  cases k <;> (revert d; decide +kernel)
theorem cBoth_eq (d : Dev nD) (k : Cls) : cBoth d k = 1#1 ↔ False := by
  cases k <;> (revert d; decide +kernel)

theorem chunk_lt (d : Dev nD) (k : Cls) (j : ℕ) (h : j < 21) : chunk d k j < 64 := by
  have := k.num_lt d
  unfold chunk; omega
theorem chunk_tail (d : Dev nD) (k : Cls) (h : cTail d k = 1#1) : chunk d k 21 < 64 := by
  have := (cTail_eq d k).1 h
  unfold chunk; omega

/-! The entries, in the order of their first use. -/

section
variable (d : Dev nD)

/-- The barrier semaphore, as the kernel names it. -/
abbrev barS : Sem sig := (SemArray.scalar (sig.barrier 0 rfl) : Sems sig S_).sem
def iSig (n : Dev nD) : Ins F := ofP (semSignalWord n barS 1#32)
def iBar : Ins F := ofP (semWaitWord barS 3#32)

/-- Start and wait for the load of a chunk of the input. -/
def iLd (k : Cls) (j : ℕ) (h : chunk d k j < 64) (s : Fin 2) : Ins F :=
  opU (.enqueueDma (inV d k j h) (.here (loadV s)) (.dma (sem2 cc0_scratch3 s)) (View.wordExact_bits rfl)
    ((View.wordExact_bits rfl).reshape _ _) ⟨Or.inl rfl, trivial⟩)
def iLdW (k : Cls) (j : ℕ) (h : chunk d k j < 64) (s : Fin 2) : Ins F :=
  opU (.waitDma2 (sem2 cc0_scratch3 s) (inV d k j h) (loadV s) (View.wordExact_bits rfl)
    ((View.wordExact_bits rfl).reshape _ _))
/-- Read the chunk. -/
def iVec (s : Fin 2) : Ins F :=
  opA (.load A3 (slotRect s).toLoadRect (View.loadsAt_vmem h_S1x128x1024))
/-- Round the chunk into its place among the chunks to send, and start the copy to the output. -/
def iMineR (j : Fin 22) : Ins F := opB (.load A2 (mineRect j).toLoadRect (View.loadsAt_vmem h_S128x1024))
def iMineS (j : Fin 22) : Ins F :=
  opS (fun v => .store A2 (mineRect j) (k0_pay1 v) Finset.univ
    (View.stores_vmem h_S128x1024 ((Memref.isWhole_whole _).storeExact_slice rfl _ (mineRect_packed j)) (fun _ => rfl)) (.inl rfl))
def iMineC (j : Fin 22) (h : chunk d .my j < 64) : Ins F :=
  opU (.enqueueDma (mineV j) (.here (ownV d .my j h)) (.dma (sem22 cc0_scratch5 j))
    ((Memref.isWhole_whole _).wordExact_slice rfl _ (.inl (mineRect_packed j)))
    ((Memref.isWhole_whole _).wordExact_slice rfl _ (.inl (ownRect_packed d .my j h))) ⟨Or.inl rfl, trivial⟩)
def iMineW (j : Fin 22) : Ins F :=
  opU (.waitDma2 (sem22 cc0_scratch5 j) (mineV j) (rowV j) ((Memref.isWhole_whole _).wordExact_slice rfl _ (.inl (mineRect_packed j)))
    ((Memref.isWhole_whole _).wordExact_slice rfl _ (.inl (words_rows j.val rfl _))))
/-- Send it to the `y` neighbour; wait until it is sent; wait for the neighbour's. -/
def iYs (j : Fin 22) (h : chunk d .my j < 64) : Ins F :=
  opU (.enqueueDma (mineV j) (.remote (Dev.tc (yN d)) (ownV d .my j h) (.dma (sem22 cc0_scratch6 j))) (.dma (sem22 cc0_scratch7 j))
    ((Memref.isWhole_whole _).wordExact_slice rfl _ (.inl (mineRect_packed j)))
    ((Memref.isWhole_whole _).wordExact_slice rfl _ (.inl (ownRect_packed d .my j h))) ⟨⟨rfl, Or.inl rfl⟩, trivial⟩)
def iYsW (j : Fin 22) (h : chunk d .my j < 64) : Ins F :=
  opU (.waitDma2 (sem22 cc0_scratch6 j) (ownV d .my j h) (mineV j)
    ((Memref.isWhole_whole _).wordExact_slice rfl _ (.inl (ownRect_packed d .my j h)))
    ((Memref.isWhole_whole _).wordExact_slice rfl _ (.inl (mineRect_packed j))))
/-- A wait on a semaphore for a chunk of the far half of the output. -/
def iOppW (sem : DmaSem sig) (k : Cls) (j : ℕ) (h : chunk d k j < 64) : Ins F :=
  opU (.waitDma2 sem (oppV d k j h) (oppV d k j h)
    ((Memref.isWhole_whole _).wordExact_slice rfl _ (.inl (oppRect_packed d k j h)))
    ((Memref.isWhole_whole _).wordExact_slice rfl _ (.inl (oppRect_packed d k j h))))
/-- Send a chunk of the far half to the same place on another device. -/
def iOppS (n : Dev nD) (s r : DmaSem sig) (k : Cls) (j : ℕ) (h : chunk d k j < 64) : Ins F :=
  opU (.enqueueDma (oppV d k j h) (.remote (Dev.tc n) (oppV d k j h) (.dma s)) (.dma r)
    ((Memref.isWhole_whole _).wordExact_slice rfl _ (.inl (oppRect_packed d k j h)))
    ((Memref.isWhole_whole _).wordExact_slice rfl _ (.inl (oppRect_packed d k j h))) ⟨⟨rfl, Or.inl rfl⟩, trivial⟩)
def iXs (j : Fin 22) (h : chunk d .my j < 64) : Ins F := iOppS d (xN d) (sem22 cc0_scratch8 j) (sem22 cc0_scratch9 j) .my j h
def iZs (j : Fin 22) (h : chunk d .sz j < 64) : Ins F := iOppS d (zN d) (sem22 cc0_scratch10 j) (sem22 cc0_scratch11 j) .sz j h
/-- Round a chunk into a staging slot, and copy it to the output. -/
def iStW (s : Fin 2) : Ins F :=
  opU (.waitDma2 (sem2 cc0_scratch4 s) (stageV s) (stageV s)
    (((Memref.isWhole_whole _).wordExact_slice rfl _ (slotRect_words s)).reshape _ _)
    (((Memref.isWhole_whole _).wordExact_slice rfl _ (slotRect_words s)).reshape _ _))
def iStR (s : Fin 2) : Ins F := opC (.load A4 (slotRect s).toLoadRect (View.loadsAt_vmem h_S1x128x1024))
def iStS (s : Fin 2) : Ins F :=
  opS (fun v => .store A4 (slotRect s) (k0_pay25 v) Finset.univ
    (View.stores_vmem h_S1x128x1024 ((Memref.isWhole_whole _).storeExact_slice rfl _ (slotRect_packed s)) (fun _ => rfl)) (.inl rfl))
def iStC (s : Fin 2) (k : Cls) (j : ℕ) (h : chunk d k j < 64) : Ins F :=
  opU (.enqueueDma (stageV s) (.here (ownV d k j h)) (.dma (sem2 cc0_scratch4 s))
    (((Memref.isWhole_whole _).wordExact_slice rfl _ (slotRect_words s)).reshape _ _)
    ((Memref.isWhole_whole _).wordExact_slice rfl _ (.inl (ownRect_packed d k j h))) ⟨Or.inl rfl, trivial⟩)

/-! ## The text -/

/-- The slot of an own chunk's load. -/
def par (j : ℕ) : Fin 2 := ⟨j % 2, Nat.mod_lt _ (by decide)⟩

/-- What is done with an own chunk when its load is waited for. -/
def pMine (j : Fin 22) (h : chunk d .my j < 64) : List (Ins F) :=
  [iLdW d .my j h (par j), iVec (par j), iMineR j, iMineS j, iMineC d j h]
/-- What is done with another chunk of this device's half; `w`: whether the slot was used before. -/
def pStage (w : Bool) (k : Cls) (s : Fin 2) (j : ℕ) (h : chunk d k j < 64) : List (Ins F) :=
  iLdW d k j h s :: pick w (fun _ => [iStW s]) [] ++ [iVec s, iStR s, iStS s, iStC d s k j h]

abbrev up (j : Fin 21) : Fin 22 := ⟨j.val, by omega⟩
abbrev lst : Fin 22 := ⟨21, by omega⟩

def pStart : List (Ins F) := [iSig (yN d), iSig (xN d), iSig (zN d), iBar, iLd d .my 0 (chunk_lt d _ _ (by omega)) 0]

/-- Round `j` of the first loop. -/
def pOne (j : Fin 21) : List (Ins F) :=
  pick (Nat.blt (j.val + 1) 21) (fun h => iLd d .my (j.val + 1) (chunk_lt d _ _ (blt_lt h)) (par (j.val + 1)))
    (whenI (cTail d .my) fun h => [iLd d .my 21 (chunk_tail d _ h) 1])
  :: (pMine d (up j) (chunk_lt d _ _ j.isLt) ++ [iYs d (up j) (chunk_lt d _ _ j.isLt)])

/-- The last round of the first loop. -/
def pOneEnd : List (Ins F) :=
  [iLd d .ta 0 (chunk_lt d _ _ (by omega)) 0,
    whenI (cTail d .my) fun h => pMine d lst (chunk_tail d _ h),
    whenI (cTail d .my) fun h => [iYs d lst (chunk_tail d _ h)]]

/-- Take the chunk the `x` neighbour sends and pass it on if it is of the class to send along `z`. -/
def pX (j : Fin 21) : List (Ins F) :=
  [iOppW d (sem22 cc0_scratch9 (up j)) .xn j (chunk_lt d _ _ j.isLt),
    whenI (cSame d .xn) fun _ => [iZs d (up j) (chunk_lt d _ _ j.isLt)]]

/-- Round `j` of the second loop. -/
def pTwo (j : Fin 21) : List (Ins F) :=
  [iLd d .tb j (chunk_lt d _ _ j.isLt) 1]
  ++ (pStage d (Nat.blt 0 j.val) .ta 0 j (chunk_lt d _ _ j.isLt)
  ++ ([pick (Nat.blt (j.val + 1) 21) (fun h => iLd d .ta (j.val + 1) (chunk_lt d _ _ (blt_lt h)) 0)
      (whenI (cTail d .ta) fun h => [iLd d .ta 21 (chunk_tail d _ h) 0])]
  ++ (pStage d (Nat.blt 0 j.val) .tb 1 j (chunk_lt d _ _ j.isLt)
  ++ ([iOppW d (sem22 cc0_scratch7 (up j)) .my j (chunk_lt d _ _ j.isLt),
      iXs d (up j) (chunk_lt d _ _ j.isLt),
      whenI (cSame d .my) fun _ => [iZs d (up j) (chunk_lt d _ _ j.isLt)]]
  ++ pick (Nat.blt 1 j.val) (fun h => pX d ⟨j.val - 2, by omega⟩) []))))

theorem both_no {c : BitVec 1} {P : Prop} (h : c = 1#1 ↔ False) (h' : c = 1#1) : P := (h.1 h').elim

/-- The last round of the second loop. -/
def pTwoEnd : List (Ins F) :=
  [whenI (cTail d .tb) fun h => [iLd d .tb 21 (chunk_tail d _ h) 1],
    whenI (cTail d .ta) fun h => pStage d true .ta 0 21 (chunk_tail d _ h),
    whenI (cTail d .tb) fun h => pStage d true .tb 1 21 (chunk_tail d _ h),
    whenI (cTail d .my) fun h => [iOppW d (sem22 cc0_scratch7 lst) .my 21 (chunk_tail d _ h), iXs d lst (chunk_tail d _ h)],
    whenI (cBoth d .my) fun h => [iZs d lst (both_no (cBoth_eq d _) h)]]
  ++ (pX d 19 ++ (pX d 20 ++
  [whenI (cTail d .xn) fun h => [iOppW d (sem22 cc0_scratch9 lst) .xn 21 (chunk_tail d _ h)],
    whenI (cBoth d .xn) fun h => [iZs d lst (both_no (cBoth_eq d _) h)]]))

/-- The waits for what the `z` neighbour sends. -/
def pZ (j : Fin 21) : List (Ins F) := [iOppW d (sem22 cc0_scratch11 (up j)) .miss j (chunk_lt d _ _ j.isLt)]
def pZEnd : List (Ins F) :=
  [whenI (cTail d .miss) fun h => [iOppW d (sem22 cc0_scratch11 lst) .miss 21 (chunk_tail d _ h)]]

/-- The waits for what this device sent and copied. -/
def pDone (j : Fin 21) : List (Ins F) :=
  [iYsW d (up j) (chunk_lt d _ _ j.isLt),
    iOppW d (sem22 cc0_scratch8 (up j)) .my j (chunk_lt d _ _ j.isLt),
    iOppW d (sem22 cc0_scratch10 (up j)) .sz j (chunk_lt d _ _ j.isLt),
    iMineW (up j)]
def pDoneEnd : List (Ins F) :=
  [whenI (cTail d .my) fun h => [iYsW d lst (chunk_tail d _ h)],
    whenI (cTail d .my) fun h => [iOppW d (sem22 cc0_scratch8 lst) .my 21 (chunk_tail d _ h)],
    whenI (cTail d .sz) fun h => [iOppW d (sem22 cc0_scratch10 lst) .sz 21 (chunk_tail d _ h)],
    whenI (cTail d .my) fun h => [iMineW lst],
    iStW 0, iStW 1]

/-- Everything after the device number is read. -/
def prog : List (Ins F) :=
  pStart d ++ ((List.finRange 21).flatMap (pOne d) ++ (pOneEnd d ++ ((List.finRange 21).flatMap (pTwo d) ++ (pTwoEnd d ++
    ((List.finRange 21).flatMap (pZ d) ++ (pZEnd d ++ ((List.finRange 21).flatMap (pDone d) ++ pDoneEnd d)))))))

end

end Cert.KernelIdeal.Prf
end
-- ==== Proof.Contents.lean ====
/-
# What the buffers hold

The blocks of 128 rows the transfers move, as sets of indices, and the contents each buffer has where the kernel has
written it, as one function per buffer and device: every transfer then carries a block of one such function to a block
of another.
-/
module

public import proofs.«01_k».proof.Proof.Listing
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.Tactic

@[expose] public section

noncomputable section

namespace Cert.KernelIdeal.Prf

open Cert.KernelIdeal Cert.KernelIdeal.Gen
open Idealize.ShloMosaic Idealize.ShloMosaic.TcCoe Idealize.ShloMosaic.ValueKit Idealize.SL.Sem

variable {F : FTy → Type} [FloatOps F]

/-! ## Indices and blocks -/

def ixI (r : ℕ) (b : Fin 1024) : S8192x1024.Idx
  | ⟨0, _⟩ => (⟨r % 8192, Nat.mod_lt _ (by decide)⟩ : Fin 8192)
  | ⟨1, _⟩ => b

theorem ixI_eq (i : S8192x1024.Idx) (r : ℕ) (b : Fin 1024) (h0 : (i 0).val = r) (h1 : (i 1).val = b.val) : i = ixI r b := by
  have hi := (i 0).isLt
  funext a
  fin_cases a
  · apply Fin.ext; show (i 0).val = r % 8192; have : (i 0).val < 8192 := hi; omega
  · exact Fin.ext h1

def blkI (n : ℕ) : Finset S8192x1024.Idx := Finset.univ.filter fun i => (i 0).val / 128 = n
def blkO (n : ℕ) : Finset S16384x1024.Idx := Finset.univ.filter fun i => (i 0).val / 128 = n
def blkM (n : ℕ) : Finset S2816x1024.Idx := Finset.univ.filter fun i => (i 0).val / 128 = n
def blkS (n : ℕ) : Finset S2x128x1024.Idx := Finset.univ.filter fun i => (i 0).val = n

/-- The number of a chunk's block in the output: on the device's own half, and on the other half. -/
def ob (d : Dev nD) (n : ℕ) : ℕ := 64 * yc d + n
def pb (d : Dev nD) (n : ℕ) : ℕ := 64 * (1 - yc d) + n

theorem mem_rows {M : ℕ} {off : Fin 2 → ℕ} (n : ℕ) (hoff : off = ![128 * n, 0]) (inb)
    (i : (⟨2, ![M, 1024]⟩ : Shape).Idx) :
    i ∈ (Rect.unit (s := ⟨2, ![M, 1024]⟩) off S128x1024.size inb).set ↔ (i 0).val / 128 = n := by
  subst hoff
  rw [Rect.mem_set_unit]
  constructor
  · intro h
    have := h 0
    have h1 : 128 * n ≤ (i 0).val ∧ (i 0).val < 128 * n + 128 := this
    omega
  · intro h a
    fin_cases a
    · show 128 * n ≤ (i 0).val ∧ (i 0).val < 128 * n + 128; omega
    · have : (i 1).val < 1024 := (i 1).isLt
      show 0 ≤ (i 1).val ∧ (i 1).val < 0 + 1024; omega

theorem ownOff_ob (d : Dev nD) (k : Cls) (j : ℕ) (h : chunk d k j < 64) : ownOff d k j = ![128 * ob d (chunk d k j), 0] := by
  rw [ownOff_eq d k j h]; unfold ob; congr 1; omega
theorem oppOff_pb (d : Dev nD) (k : Cls) (j : ℕ) (h : chunk d k j < 64) : oppOff d k j = ![128 * pb d (chunk d k j), 0] := by
  rw [oppOff_eq d k j h]; unfold pb; congr 1; omega

theorem in_set (d : Dev nD) (k : Cls) (j : ℕ) (h : chunk d k j < 64) : (inV d k j h).view.set = blkI (chunk d k j) := by
  rw [show (inV d k j h).view.set = (inRect d k j h).set from View.set_slice_whole _ _]
  ext i; rw [mem_rows _ (inOff_eq d k j h)]; simp [blkI]
theorem own_set (d : Dev nD) (k : Cls) (j : ℕ) (h : chunk d k j < 64) : (ownV d k j h).view.set = blkO (ob d (chunk d k j)) := by
  rw [show (ownV d k j h).view.set = (ownRect d k j h).set from View.set_slice_whole _ _]
  ext i; rw [mem_rows _ (ownOff_ob d k j h)]; simp [blkO]
theorem opp_set (d : Dev nD) (k : Cls) (j : ℕ) (h : chunk d k j < 64) : (oppV d k j h).view.set = blkO (pb d (chunk d k j)) := by
  rw [show (oppV d k j h).view.set = (oppRect d k j h).set from View.set_slice_whole _ _]
  ext i; rw [mem_rows _ (oppOff_pb d k j h)]; simp [blkO]
theorem mine_set (j : Fin 22) : (mineV j).view.set = blkM j.val := by
  rw [show (mineV j).view.set = (mineRect j).set from View.set_slice_whole _ _]
  ext i; rw [mem_rows _ rfl]; simp [blkM]
theorem slot_rect_set (s : Fin 2) : (slotRect s).set = blkS s.val := by
  ext i
  rw [Rect.mem_set_unit]
  simp only [blkS, Finset.mem_filter, Finset.mem_univ, true_and]
  constructor
  · intro h
    have h1 : s.val ≤ (i 0).val ∧ (i 0).val < s.val + 1 := h 0
    omega
  · intro h a
    fin_cases a
    · show s.val ≤ (i 0).val ∧ (i 0).val < s.val + 1; omega
    · have : (i 1).val < 128 := (i 1).isLt
      show 0 ≤ (i 1).val ∧ (i 1).val < 0 + 128; omega
    · have : (i 2).val < 1024 := (i 2).isLt
      show 0 ≤ (i 2).val ∧ (i 2).val < 0 + 1024; omega
theorem load_set (s : Fin 2) : (loadV s).view.set = blkS s.val := by
  rw [show (loadV s).view.set = (A3.view.slice (slotRect s)).set from View.set_reshape _ _, View.set_slice_whole, slot_rect_set]
theorem stage_set (s : Fin 2) : (stageV s).view.set = blkS s.val := by
  rw [show (stageV s).view.set = (A4.view.slice (slotRect s)).set from View.set_reshape _ _, View.set_slice_whole, slot_rect_set]

/-! Where a view places its indices. -/

theorem in_emb (d : Dev nD) (k : Cls) (j : ℕ) (h : chunk d k j < 64) (x : S128x1024.Idx) :
    (inV d k j h).view.emb x = ixI (128 * chunk d k j + (x 0).val) (x 1) := by
  apply ixI_eq
  · rw [show (((inV d k j h).view.emb x 0 : Fin _) : ℕ) = inOff d k j 0 + x 0 from view_emb_slice_whole_unit_val main_arg0 _ _ _ x 0,
      inOff_eq d k j h]; rfl
  · rw [show (((inV d k j h).view.emb x 1 : Fin _) : ℕ) = inOff d k j 1 + x 1 from view_emb_slice_whole_unit_val main_arg0 _ _ _ x 1,
      inOff_eq d k j h]; exact Nat.zero_add _
theorem own_emb (d : Dev nD) (k : Cls) (j : ℕ) (h : chunk d k j < 64) (x : S128x1024.Idx) :
    ((ownV d k j h).view.emb x 0).val = 128 * ob d (chunk d k j) + (x 0).val ∧ ((ownV d k j h).view.emb x 1).val = (x 1).val := by
  constructor
  · rw [show (((ownV d k j h).view.emb x 0 : Fin _) : ℕ) = ownOff d k j 0 + x 0 from view_emb_slice_whole_unit_val main_v1 _ _ _ x 0,
      ownOff_ob d k j h]; rfl
  · rw [show (((ownV d k j h).view.emb x 1 : Fin _) : ℕ) = ownOff d k j 1 + x 1 from view_emb_slice_whole_unit_val main_v1 _ _ _ x 1,
      ownOff_ob d k j h]; exact Nat.zero_add _
theorem mine_emb (j : Fin 22) (x : S128x1024.Idx) :
    ((mineV j).view.emb x 0).val = 128 * j.val + (x 0).val ∧ ((mineV j).view.emb x 1).val = (x 1).val :=
  ⟨view_emb_slice_whole_unit_val cc0_scratch0 _ _ _ x 0,
   (view_emb_slice_whole_unit_val cc0_scratch0 _ _ _ x 1).trans (Nat.zero_add _)⟩
/-- The index of a slot under its leading axis of length one. -/
def lead (x : S128x1024.Idx) : S1x128x1024.Idx := Fin.cons (⟨0, Nat.one_pos⟩ : Fin 1) x
theorem lead_eq (h : S128x1024.numel = S1x128x1024.numel) (x : S128x1024.Idx) : Shape.reshapeEquiv h x = lead x := by
  apply Shape.reshapeEquiv_eq_of_rowMajor
  show (Shape.rowMajorPi (Matrix.vecCons 1 ![128, 1024]) (Fin.cons ⟨0, Nat.one_pos⟩ x)).val = (Shape.rowMajorPi ![128, 1024] x).val
  rw [Shape.rowMajorPi_succ_val]
  show 0 * _ + (Shape.rowMajorPi ![128, 1024] x).val = (Shape.rowMajorPi ![128, 1024] x).val
  simp
theorem slot_emb (s : Fin 2) (y : S1x128x1024.Idx) :
    ((slotRect s).emb y 0).val = s.val + (y 0).val ∧ ((slotRect s).emb y 1).val = (y 1).val ∧ ((slotRect s).emb y 2).val = (y 2).val :=
  have h := rect_emb_unit_val (s := S2x128x1024) ![s.val, 0, 0] S1x128x1024.size (slot_inb s.val s.isLt) y
  ⟨h (0 : Fin 3), (h (1 : Fin 3)).trans (Nat.zero_add _), (h (2 : Fin 3)).trans (Nat.zero_add _)⟩
theorem load_emb (s : Fin 2) (x : S128x1024.Idx) : (loadV s).view.emb x = (slotRect s).emb (lead x) :=
  congrArg (slotRect s).emb (lead_eq _ x)
theorem stage_emb (s : Fin 2) (x : S128x1024.Idx) : (stageV s).view.emb x = (slotRect s).emb (lead x) :=
  congrArg (slotRect s).emb (lead_eq _ x)

/-! ## The contents -/

/-- The rounding of one element. -/
def tr (a : F .f32) : F .bf16 := FloatOps.truncf .bf16 bitsLt_bf16_f32 a

variable (m : (ℓ : Loc nD τ sig) → Buf (Elt F) ℓ)

/-- The block of the argument a device holds at launch, and what the result's buffer holds then. -/
def xin (c : Dev nD) : Buf (Elt F) ((c : Thread nD τ).loc main_arg0) := m ((c : Thread nD τ).loc main_arg0)
def oin (c : Dev nD) : Buf (Elt F) ((c : Thread nD τ).loc main_v1) := m ((c : Thread nD τ).loc main_v1)

/-- The device whose rows of class `k` reach device `c`: directly from its `y` neighbour, by its `x` neighbour, or by
its `z` neighbour, which sends on what it took from its own `y` neighbour or by its own `x` neighbour. -/
def org (c : Dev nD) (k : ℕ) : Dev nD :=
  if k = Cls.my.num c then yN c else if k = Cls.xn.num c then yN (xN c)
  else if Cls.sz.num (zN c) = Cls.my.num (zN c) then yN (zN c) else yN (xN (zN c))

/-- What the result's buffer holds in the end. -/
def fin (c : Dev nD) : Buf (Elt F) ((c : Thread nD τ).loc main_v1) := fun i : S16384x1024.Idx =>
  tr (xin m (if (i 0).val / 8192 = yc c then c else org c ((i 0).val % 8192 / 128 % 3)) (ixI ((i 0).val % 8192) (i 1)))
/-- The rounded chunks to send. -/
def mineF (c : Dev nD) : Buf (Elt F) ((c : Thread nD τ).loc cc0_scratch0) := fun i : S2816x1024.Idx =>
  tr (xin m c (ixI (128 * chunk c .my ((i 0).val / 128) + (i 0).val % 128) (i 1)))
/-- A slot that holds chunk `n`, before and after the rounding. -/
def slotF (c : Dev nD) (n : ℕ) : Buf (Elt F) ((c : Thread nD τ).loc cc0_scratch1) := fun i : S2x128x1024.Idx =>
  xin m c (ixI (128 * n + (i 1).val) (i 2))
def stF (c : Dev nD) (n : ℕ) : Buf (Elt F) ((c : Thread nD τ).loc cc0_scratch2) := fun i : S2x128x1024.Idx =>
  tr (xin m c (ixI (128 * n + (i 1).val) (i 2)))
/-- The vector read from a slot. -/
def vecF (c : Dev nD) (n : ℕ) : Vec F S1x128x1024 .f32 := fun y => xin m c (ixI (128 * n + (y 1).val) (y 2))

/-! ## Where the rows come from -/

theorem yN_yN (c : Dev nD) : yN (yN c) = c := by revert c; decide +kernel
theorem xN_xN (c : Dev nD) : xN (xN c) = c := by revert c; decide +kernel
theorem zN_zN (c : Dev nD) : zN (zN c) = c := by revert c; decide +kernel
theorem yc_y (c : Dev nD) : yc (yN c) = 1 - yc c := by revert c; decide +kernel
theorem yc_x (c : Dev nD) : yc (xN c) = yc c := by revert c; decide +kernel
theorem yc_z (c : Dev nD) : yc (zN c) = yc c := by revert c; decide +kernel
theorem my_y (c : Dev nD) : Cls.my.num (yN c) = Cls.my.num c := by revert c; decide +kernel
theorem xn_x (c : Dev nD) : Cls.xn.num (xN c) = Cls.my.num c := by revert c; decide +kernel
theorem my_x (c : Dev nD) : Cls.my.num (xN c) = Cls.xn.num c := by revert c; decide +kernel
theorem miss_z (c : Dev nD) : Cls.miss.num (zN c) = Cls.sz.num c := by revert c; decide +kernel
theorem sz_z (c : Dev nD) : Cls.sz.num (zN c) = Cls.miss.num c := by revert c; decide +kernel
theorem sz_or (c : Dev nD) : Cls.sz.num c = Cls.my.num c ∧ Cls.sz.num c ≠ Cls.xn.num c ∨ Cls.sz.num c ≠ Cls.my.num c ∧ Cls.sz.num c = Cls.xn.num c := by
  revert c; decide +kernel
theorem org_y (c : Dev nD) : org (yN c) (Cls.my.num c) = c := by revert c; decide +kernel
theorem org_x (c : Dev nD) : org (xN c) (Cls.my.num c) = org c (Cls.my.num c) := by revert c; decide +kernel
theorem org_z (c : Dev nD) : org (zN c) (Cls.sz.num c) = org c (Cls.sz.num c) := by revert c; decide +kernel
theorem org_yc (c : Dev nD) (k : Fin 3) : yc (org c k.val) = 1 - yc c := by revert c k; decide +kernel

theorem chunk_mod (c : Dev nD) (k : Cls) (j : ℕ) : chunk c k j % 3 = k.num c := by
  have := k.num_lt c; unfold chunk; omega
theorem chunk_div (c : Dev nD) (k : Cls) (j : ℕ) : chunk c k j / 3 = j := by
  have := k.num_lt c; unfold chunk; omega
theorem chunk_congr {c c' : Dev nD} {k k' : Cls} (h : k.num c = k'.num c') (j : ℕ) : chunk c k j = chunk c' k' j := by
  unfold chunk; rw [h]

/-! ## Every copy moves a block of one of these to a block of another -/

theorem load_val (c : Dev nD) (k : Cls) (j : ℕ) (h : chunk c k j < 64) (s : Fin 2) (x : S128x1024.Idx) :
    (inV c k j h).view.read (Elt F) (xin m c) x = slotF m c (chunk c k j) ((loadV s).view.emb x) := by
  show xin m c ((inV c k j h).view.emb x) = _
  rw [in_emb, load_emb]
  have e := slot_emb s (lead x)
  show _ = xin m c (ixI (128 * chunk c k j + ((slotRect s).emb (lead x) 1).val) ((slotRect s).emb (lead x) 2))
  congr 1
  have e2 : ((slotRect s).emb (lead x) 2) = x 1 := Fin.ext e.2.2
  rw [e.2.1, e2]; rfl

theorem vec_val (c : Dev nD) (n : ℕ) (s : Fin 2) :
    A3.view.readAt (Elt F) (slotRect s).toLoadRect (slotF m c n) = vecF m c n := by
  funext y
  show slotF m c n ((slotRect s).emb y) = _
  have e := slot_emb s y
  show xin m c (ixI (128 * n + ((slotRect s).emb y 1).val) ((slotRect s).emb y 2)) = _
  have e2 : ((slotRect s).emb y 2) = y 2 := Fin.ext e.2.2
  rw [e.2.1, e2]; rfl

theorem pay1_val (c : Dev nD) (n : ℕ) (x : S128x1024.Idx) :
    k0_pay1 (vecF m c n) x = tr (xin m c (ixI (128 * n + (x 0).val) (x 1))) := by
  unfold k0_pay1
  simp only [shapeCast_self]
  show tr (shapeCast S128x1024 (vecF m c n) shapeCasts_S1x128x1024_S128x1024 x) = _
  rw [show shapeCast S128x1024 (vecF m c n) shapeCasts_S1x128x1024_S128x1024 x = vecF m c n (lead x) from
    shapeCast_dropUnit_apply ![128, 1024] (vecF m c n) _ x]
  rfl

theorem pay25_val (c : Dev nD) (n : ℕ) (y : S1x128x1024.Idx) :
    k0_pay25 (vecF m c n) y = tr (xin m c (ixI (128 * n + (y 1).val) (y 2))) := by
  unfold k0_pay25
  refine (shapeCast_addUnit_apply ![128, 1024] _ _ y).trans ?_
  show tr (shapeCast S128x1024 (vecF m c n) shapeCasts_S1x128x1024_S128x1024 (fun a : Fin 2 => y a.succ)) = _
  rw [show shapeCast S128x1024 (vecF m c n) shapeCasts_S1x128x1024_S128x1024 (fun a : Fin 2 => y a.succ) = vecF m c n (lead (fun a : Fin 2 => y a.succ)) from
    shapeCast_dropUnit_apply ![128, 1024] (vecF m c n) _ _]
  rfl

theorem mineS_val (c : Dev nD) (j : Fin 22) (x : S128x1024.Idx) :
    k0_pay1 (vecF m c (chunk c .my j)) x = mineF m c ((mineV j).view.emb x) := by
  rw [pay1_val]
  have e := mine_emb j x
  have hx : (x 0).val < 128 := (x 0).isLt
  show _ = tr (xin m c (ixI (128 * chunk c .my (((mineV j).view.emb x 0).val / 128) + ((mineV j).view.emb x 0).val % 128) ((mineV j).view.emb x 1)))
  have e2 : ((mineV j).view.emb x 1) = x 1 := Fin.ext e.2
  rw [e.1, e2, show (128 * j.val + (x 0).val) / 128 = j.val by omega, show (128 * j.val + (x 0).val) % 128 = (x 0).val by omega]

theorem stS_val (c : Dev nD) (n : ℕ) (s : Fin 2) (y : S1x128x1024.Idx) :
    k0_pay25 (vecF m c n) y = stF m c n ((slotRect s).emb y) := by
  rw [pay25_val]
  have e := slot_emb s y
  show _ = tr (xin m c (ixI (128 * n + ((slotRect s).emb y 1).val) ((slotRect s).emb y 2)))
  have e2 : ((slotRect s).emb y 2) = y 2 := Fin.ext e.2.2
  rw [e.2.1, e2]

theorem fin_own (c : Dev nD) (k : Cls) (j : ℕ) (h : chunk c k j < 64) (x : S128x1024.Idx) :
    fin m c ((ownV c k j h).view.emb x) = tr (xin m c (ixI (128 * chunk c k j + (x 0).val) (x 1))) := by
  have e := own_emb c k j h x
  have hx : (x 0).val < 128 := (x 0).isLt
  have hy := yc_lt c
  have e2 : ((ownV c k j h).view.emb x 1) = x 1 := Fin.ext e.2
  show tr (xin m (if ((ownV c k j h).view.emb x 0).val / 8192 = yc c then c else _) (ixI (((ownV c k j h).view.emb x 0).val % 8192) ((ownV c k j h).view.emb x 1))) = _
  rw [e.1, e2]; unfold ob
  rw [if_pos (by omega), show (128 * (64 * yc c + chunk c k j) + (x 0).val) % 8192 = 128 * chunk c k j + (x 0).val by omega]

theorem mineC_val (c : Dev nD) (j : Fin 22) (h : chunk c .my j < 64) (x : S128x1024.Idx) :
    (mineV j).view.read (Elt F) (mineF m c) x = fin m c ((ownV c .my j h).view.emb x) := by
  show mineF m c ((mineV j).view.emb x) = _
  rw [← mineS_val, pay1_val, fin_own]

theorem stC_val (c : Dev nD) (k : Cls) (j : ℕ) (h : chunk c k j < 64) (s : Fin 2) (x : S128x1024.Idx) :
    (stageV s).view.read (Elt F) (stF m c (chunk c k j)) x = fin m c ((ownV c k j h).view.emb x) := by
  show stF m c (chunk c k j) ((stageV s).view.emb x) = _
  rw [stage_emb, ← stS_val, pay25_val, fin_own]; rfl

theorem ys_val (c : Dev nD) (j : Fin 22) (h : chunk c .my j < 64) (x : S128x1024.Idx) :
    (mineV j).view.read (Elt F) (mineF m c) x = fin m (yN c) ((ownV c .my j h).view.emb x) := by
  rw [mineC_val m c j h, fin_own]
  have e := own_emb c .my j h x
  have hx : (x 0).val < 128 := (x 0).isLt
  have hy := yc_lt c
  have e2 : ((ownV c .my j h).view.emb x 1) = x 1 := Fin.ext e.2
  show _ = tr (xin m (if ((ownV c .my j h).view.emb x 0).val / 8192 = yc (yN c) then yN c else org (yN c) (((ownV c .my j h).view.emb x 0).val % 8192 / 128 % 3)) (ixI (((ownV c .my j h).view.emb x 0).val % 8192) ((ownV c .my j h).view.emb x 1)))
  rw [e.1, e2, yc_y]; unfold ob
  rw [if_neg (by omega), show (128 * (64 * yc c + chunk c .my j) + (x 0).val) % 8192 = 128 * chunk c .my j + (x 0).val by omega,
    show (128 * chunk c .my j + (x 0).val) / 128 = chunk c .my j by omega, chunk_mod, org_y]

/-- Two devices with the same `y` whose rows of a class come from the same device end with the same block. -/
theorem fin_fwd (c n : Dev nD) (k : Cls) (j : ℕ) (h : chunk c k j < 64) (hy : yc n = yc c) (ho : org n (k.num c) = org c (k.num c))
    (i : S16384x1024.Idx) (hi : i ∈ blkO (pb c (chunk c k j))) : fin m n i = fin m c i := by
  have hc := yc_lt c
  have hi' : (i 0).val / 128 = pb c (chunk c k j) := (Finset.mem_filter.1 hi).2
  unfold pb at hi'
  show tr (xin m (if (i 0).val / 8192 = yc n then n else org n ((i 0).val % 8192 / 128 % 3)) _) = tr (xin m (if (i 0).val / 8192 = yc c then c else org c ((i 0).val % 8192 / 128 % 3)) _)
  rw [hy, if_neg (by omega), if_neg (by omega), show (i 0).val % 8192 / 128 = chunk c k j by omega, chunk_mod, ho]

/-- A copy leaves the contents `g` on the block it writes if what it reads is `g` there. -/
theorem copied {κ : Kind} {sp : Space} {s : Shape} {e : EltTy} {dst : View sig κ sp s e} (w : s.Idx → Elt F e)
    (fd g : dst.ty.Contents (Elt F)) (h : ∀ x, dst.read (Elt F) g x = w x) (i : dst.ty.Idx) (hi : i ∈ dst.set) :
    dst.write (Elt F) fd w Finset.univ i = g i := by
  obtain ⟨x, -, rfl⟩ := Finset.mem_map.1 hi
  rw [View.write_emb_of_mem _ _ (Finset.mem_univ x), ← h, View.read_apply]
  simp

end Cert.KernelIdeal.Prf
end
-- ==== Proof.Protocol.lean ====
/-
# The protocol across the devices

Every semaphore's rounds: who raises it in which round, by how much, and what memory the units hand to the device that
waits. A device signals its three neighbours once at the start; the signal hands each of them the blocks of the result
that this neighbour will write. A copy's semaphore hands back what the copy read and the block it wrote; of a copy to
another device the sender's semaphore hands back what was read and the receiver's the block written.
-/
module

public import proofs.«01_k».proof.Proof.Contents

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

def fj (j : ℕ) : Fin 22 := ⟨j % 22, Nat.mod_lt _ (by decide)⟩
theorem fj_val (j : Fin 22) : fj j.val = j := Fin.ext (Nat.mod_eq_of_lt j.isLt)

/-- The arrays with a semaphore per chunk: of the copies of own chunks to the output, then for each axis of the sends
and of what arrives. -/
abbrev arr : Fin 7 → DmaSems sig S22
  | 0 => cc0_scratch5 | 1 => cc0_scratch6 | 2 => cc0_scratch7 | 3 => cc0_scratch8
  | 4 => cc0_scratch9 | 5 => cc0_scratch10 | 6 => cc0_scratch11
abbrev sB : SemLoc sig := .reg barS
abbrev sL (s : Fin 2) : SemLoc sig := .dma (sem2 cc0_scratch3 s)
abbrev sS (s : Fin 2) : SemLoc sig := .dma (sem2 cc0_scratch4 s)
abbrev sF (q : Fin 7) (j : ℕ) : SemLoc sig := .dma (sem22 (arr q) (fj j))

/-- Which semaphore a number names. -/
inductive Tag
  | bar | ld (s : Fin 2) | st (s : Fin 2) | fam (q : Fin 7) (j : ℕ)
  deriving DecidableEq

def tagN (n : ℕ) : Tag :=
  if n < 2 then .ld (par n) else if n < 4 then .st (par n)
  else .fam ⟨(n - 4) / 22 % 7, Nat.mod_lt _ (by decide)⟩ ((n - 4) % 22)
def tagOf : SemLoc sig → Tag
  | .reg _ => .bar
  | .dma i => tagN i.val

theorem tag_B : tagOf sB = .bar := rfl
theorem tag_L (s : Fin 2) : tagOf (sL s) = .ld s := by revert s; decide +kernel
theorem tag_S (s : Fin 2) : tagOf (sS s) = .st s := by revert s; decide +kernel
theorem tag_F' (q : Fin 7) (j : Fin 22) : tagOf (.dma (sem22 (arr q) j)) = .fam q j.val := by revert q j; decide +kernel
theorem tag_F (q : Fin 7) (j : ℕ) (h : j < 22) : tagOf (sF q j) = .fam q j := by
  rw [show sF q j = .dma (sem22 (arr q) ⟨j, h⟩) from by unfold sF; congr 2; exact fj_val ⟨j, h⟩]
  exact tag_F' q ⟨j, h⟩

abbrev cell (c : Dev nD) (s : SemLoc sig) : GSem nD τ sig := ((c : Thread nD τ), s)

/-! ## The jobs -/

abbrev ok (c : Dev nD) (k : Cls) (j : ℕ) : Prop := chunk c k j < 64

/-- The class of the chunks of each array. -/
def famCls : Fin 7 → Cls
  | 0 => .my | 1 => .my | 2 => .my | 3 => .my | 4 => .xn | 5 => .sz | 6 => .miss

/-- How many own chunks go through slot 1. -/
def odd (c : Dev nD) : ℕ := if Cls.my.num c = 0 then 11 else 10
/-- The chunk loaded into a slot in its round `r`. -/
def ldAt (c : Dev nD) (s : Fin 2) (r : ℕ) : Cls × ℕ :=
  if s = 0 then (if r < 11 then (.my, 2 * r) else (.ta, r - 11))
  else (if r < odd c then (.my, 2 * r + 1) else (.tb, r - odd c))
def stCls (s : Fin 2) : Cls := if s = 0 then .ta else .tb

/-- Whether a semaphore has a round `r`. -/
def due (c : Dev nD) : Tag → ℕ → Prop
  | .bar, r => r = 0
  | .ld s, r => ok c (ldAt c s r).1 (ldAt c s r).2
  | .st s, r => ok c (stCls s) r
  | .fam q j, r => r = 0 ∧ ok c (famCls q) j
instance (c : Dev nD) (t : Tag) (r : ℕ) : Decidable (due c t r) := by
  cases t <;> (unfold due; infer_instance)

def N16 : ℕ := 8192
def N32 : ℕ := 16384

def amt : Tag → ℕ
  | .bar => 1 | .ld _ => N32 | .st _ => N16 | .fam _ _ => N16
theorem amt_pos (t : Tag) : 0 < amt t := by cases t <;> simp [amt, N16, N32]

/-! ## What the units hand over -/

section
variable (m : (ℓ : Loc nD τ sig) → Buf (Elt F) ℓ)

abbrev lIn (c : Dev nD) : Loc nD τ sig := (c : Thread nD τ).loc main_arg0
abbrev lOut (c : Dev nD) : Loc nD τ sig := (c : Thread nD τ).loc main_v1
abbrev lMine (c : Dev nD) : Loc nD τ sig := (c : Thread nD τ).loc cc0_scratch0
abbrev lLd (c : Dev nD) : Loc nD τ sig := (c : Thread nD τ).loc cc0_scratch1
abbrev lSt (c : Dev nD) : Loc nD τ sig := (c : Thread nD τ).loc cc0_scratch2

def pIn (c : Dev nD) (n : ℕ) : sProp 𝕄 := lIn c ↦[blkI n]{fullShare} xin m c
def pOut (c : Dev nD) (b : ℕ) (q : PosShare TreeShare) (f : Buf (Elt F) (lOut c)) : sProp 𝕄 := lOut c ↦[blkO b]{q} f
def pMi (c : Dev nD) (j : ℕ) (q : PosShare TreeShare) (f : Buf (Elt F) (lMine c)) : sProp 𝕄 := lMine c ↦[blkM j]{q} f
def pLd (c : Dev nD) (s : Fin 2) (f : Buf (Elt F) (lLd c)) : sProp 𝕄 := lLd c ↦[blkS s.val]{fullShare} f
def pSt (c : Dev nD) (s : Fin 2) (f : Buf (Elt F) (lSt c)) : sProp 𝕄 := lSt c ↦[blkS s.val]{fullShare} f

instance pIn_st (c n) : BI.Storable (upEmb : UEmb _ 𝕄) (pIn m c n) := by unfold pIn; infer_instance
instance pOut_st (c b q f) : BI.Storable (upEmb : UEmb _ 𝕄) (pOut (F := F) c b q f) := by unfold pOut; infer_instance
instance pMi_st (c j q f) : BI.Storable (upEmb : UEmb _ 𝕄) (pMi (F := F) c j q f) := by unfold pMi; infer_instance
instance pLd_st (c s f) : BI.Storable (upEmb : UEmb _ 𝕄) (pLd (F := F) c s f) := by unfold pLd; infer_instance
instance pSt_st (c s f) : BI.Storable (upEmb : UEmb _ 𝕄) (pSt (F := F) c s f) := by unfold pSt; infer_instance

/-- `A` if `p` holds. -/
def gd (p : Prop) [Decidable p] (A : sProp 𝕄) : sProp 𝕄 := if p then A else iprop(emp)
theorem gd_pos {p : Prop} [Decidable p] (h : p) (A : sProp 𝕄) : gd p A = A := if_pos h
theorem gd_neg {p : Prop} [Decidable p] (h : ¬p) (A : sProp 𝕄) : gd p A = iprop(emp) := if_neg h
instance gd_st (p : Prop) [Decidable p] (A : sProp 𝕄) [BI.Storable (upEmb : UEmb _ 𝕄) A] :
    BI.Storable (upEmb : UEmb _ 𝕄) (gd p A) := by unfold gd; split <;> infer_instance

/-- The neighbour along an axis (`y`, `x`, `z`), the class sent there, and the arrays of the sends and arrivals. -/
def nbr (t : Fin 3) (c : Dev nD) : Dev nD := match t with | 0 => yN c | 1 => xN c | 2 => zN c
def tCls : Fin 3 → Cls | 0 => .my | 1 => .my | 2 => .sz
def sq : Fin 3 → Fin 7 | 0 => 1 | 1 => 3 | 2 => 5
def rq : Fin 3 → Fin 7 | 0 => 2 | 1 => 4 | 2 => 6
/-- The block of the result, on the neighbour, that a send writes. -/
def dst (t : Fin 3) (c : Dev nD) (j : ℕ) : ℕ := match t with
  | 0 => ob c (chunk c .my j) | 1 => pb c (chunk c .my j) | 2 => pb c (chunk c .sz j)

theorem nbr_nbr (t : Fin 3) (c : Dev nD) : nbr t (nbr t c) = c := by
  fin_cases t
  · exact yN_yN c
  · exact xN_xN c
  · exact zN_zN c

/-- What the signal along an axis hands to device `c`: the blocks it will write there. -/
def barPay (c : Dev nD) (t : Fin 3) : sProp 𝕄 :=
  bigSep (Finset.range 22) fun j => gd (ok c (tCls t) j) (pOut (nbr t c) (dst t c j) fullShare (oin m (nbr t c)))

def ldPay (c : Dev nD) (s : Fin 2) (n : ℕ) : sProp 𝕄 := iprop(pLd c s (slotF m c n) ∗ pIn m c n)
def stPay (c : Dev nD) (s : Fin 2) (n : ℕ) : sProp 𝕄 :=
  iprop(pOut c (ob c n) fullShare (fin m c) ∗ pSt c s (stF m c n))
def famPay (c : Dev nD) (q : Fin 7) (j : ℕ) : sProp 𝕄 := match q with
  | 0 => iprop(pOut c (ob c (chunk c .my j)) fullShare (fin m c) ∗ pMi c j fullShare.left (mineF m c))
  | 1 => pMi c j fullShare.right (mineF m c)
  | 2 => pOut c (pb c (chunk c .my j)) fullShare (fin m c)
  | 3 => pOut c (pb c (chunk c .my j)) fullShare.left (fin m c)
  | 4 => pOut c (pb c (chunk c .xn j)) fullShare (fin m c)
  | 5 => pOut c (pb c (chunk c .sz j)) fullShare.right (fin m c)
  | 6 => pOut c (pb c (chunk c .miss j)) fullShare (fin m c)

def pay (c : Dev nD) (d : Fin 3) : Tag → ℕ → sProp 𝕄
  | .bar, _ => barPay m c d
  | .ld s, r => ldPay m c s (chunk c (ldAt c s r).1 (ldAt c s r).2)
  | .st s, r => stPay m c s (chunk c (stCls s) r)
  | .fam q j, _ => famPay m c q j

instance pay_st (c : Dev nD) (d : Fin 3) (t : Tag) (r : ℕ) : BI.Storable (upEmb : UEmb _ 𝕄) (pay m c d t r) := by
  cases t with
  | bar => unfold pay barPay; infer_instance
  | ld s => unfold pay ldPay; infer_instance
  | st s => unfold pay stPay; infer_instance
  | fam q j => unfold pay famPay; fin_cases q <;> (dsimp only; infer_instance)

def sch : Rounds.Schedule (GSem nD τ sig) (Fin 3) 𝕄 where
  duties g r := if g.1.2 = .tc ∧ due g.1.1 (tagOf g.2) r then (if tagOf g.2 = .bar then Finset.univ else {0}) else ∅
  unitless _ := False
  amount g _ _ := amt (tagOf g.2)
  payload g r d := pay m g.1.1 d (tagOf g.2) r
  amount_pos g _ _ _ := amt_pos _

instance sch_st (g : GSem nD τ sig) (r : ℕ) (d : Fin 3) : BI.Storable (upEmb : UEmb _ 𝕄) ((sch (F := F) m).payload g r d) :=
  pay_st m g.1.1 d (tagOf g.2) r

theorem sch_duties (c : Dev nD) (s : SemLoc sig) (r : ℕ) : (sch m).duties (cell c s) r =
    if due c (tagOf s) r then (if tagOf s = .bar then Finset.univ else {0}) else ∅ := by
  unfold sch; dsimp only; exact if_congr (and_iff_right rfl) rfl rfl
theorem sch_payload (c : Dev nD) (s : SemLoc sig) (r : ℕ) (d : Fin 3) :
    (sch m).payload (cell c s) r d = pay m c d (tagOf s) r := rfl
theorem sch_amount (c : Dev nD) (s : SemLoc sig) (r : ℕ) (d : Fin 3) : (sch m).amount (cell c s) r d = amt (tagOf s) := rfl

theorem duties_one (c : Dev nD) (s : SemLoc sig) (t : Tag) (ht : tagOf s = t) (hb : t ≠ .bar) (r : ℕ) (h : due c t r) :
    (sch m).duties (cell c s) r = {0} := by
  subst ht
  rw [sch_duties, if_pos h, if_neg hb]
theorem duties_none (c : Dev nD) (s : SemLoc sig) (t : Tag) (ht : tagOf s = t) (r : ℕ) (h : ¬due c t r) :
    (sch m).duties (cell c s) r = ∅ := by
  subst ht
  rw [sch_duties, if_neg h]
theorem duties_bar (c : Dev nD) : (sch m).duties (cell c sB) 0 = Finset.univ := by
  rw [sch_duties, tag_B, if_pos (show due c .bar 0 from rfl), if_pos rfl]

theorem expect_one (c : Dev nD) (s : SemLoc sig) (t : Tag) (ht : tagOf s = t) (hb : t ≠ .bar) (r : ℕ) (h : due c t r) :
    (sch m).expect (cell c s) r = amt t := by
  unfold Schedule.expect Schedule.amountOf
  rw [duties_one m c s t ht hb r h, Finset.sum_singleton]
  subst ht; rfl
theorem expect_bar (c : Dev nD) : (sch m).expect (cell c sB) 0 = 3 := by
  unfold Schedule.expect Schedule.amountOf
  rw [duties_bar]
  simp only [sch_amount, tag_B, amt]
  rfl

theorem rest_one (c : Dev nD) (s : SemLoc sig) (t : Tag) (ht : tagOf s = t) (hb : t ≠ .bar) (r : ℕ) (h : due c t r) :
    bigSep ((sch m).duties (cell c s) r \ ∅) (fun d => (sch m).payload (cell c s) r d) = pay m c 0 t r := by
  rw [Finset.sdiff_empty, duties_one m c s t ht hb r h, bigSep_singleton]
  subst ht; rfl
theorem rest_bar (c : Dev nD) :
    bigSep ((sch m).duties (cell c sB) 0 \ ∅) (fun d => (sch m).payload (cell c sB) 0 d) = iprop(barPay m c 0 ∗ barPay m c 1 ∗ barPay m c 2) := by
  rw [Finset.sdiff_empty, duties_bar]
  simp only [sch_payload, tag_B, pay]
  exact bigSep_univ_eq_bigSepL [0, 1, 2] (by decide) (by decide) _

end

/-! ## What a device owes, and the order of the waits -/

/-- The arrival of its send `j` along an axis, which the neighbour is owed. -/
def term (t : Fin 3) (c : Dev nD) (j : ℕ) : CellTallies nD τ sig Unit :=
  if ok c (tCls t) j then tallyAt (cell (nbr t c) (sF (rq t) j)) () N16 else 0
/-- The sends from the `a`th on. -/
def OT (t : Fin 3) (c : Dev nD) (a : ℕ) : CellTallies nD τ sig Unit := ∑ j ∈ Finset.Ico a 22, term t c j
def O3 (c : Dev nD) (a b e : ℕ) : CellTallies nD τ sig Unit := OT 0 c a + OT 1 c b + OT 2 c e
def oB (t : Fin 3) (c : Dev nD) : CellTallies nD τ sig Unit := tallyAt (cell (nbr t c) sB) () 1
def O₀ (c : Dev nD) : CellTallies nD τ sig Unit := O3 c 0 0 0 + oB 2 c + oB 1 c + oB 0 c

theorem ico_bot {a : ℕ} (h : a < 22) : Finset.Ico a 22 = insert a (Finset.Ico (a + 1) 22) := by
  ext x; simp only [Finset.mem_Ico, Finset.mem_insert]; omega
theorem ico_not (a : ℕ) : a ∉ Finset.Ico (a + 1) 22 := by simp
theorem OT_step (t : Fin 3) (c : Dev nD) (a : ℕ) (h : a < 22) (hk : ok c (tCls t) a) :
    OT t c a = OT t c (a + 1) + tallyAt (cell (nbr t c) (sF (rq t) a)) () N16 := by
  unfold OT
  rw [ico_bot h, Finset.sum_insert (ico_not a), add_comm]
  congr 1
  exact if_pos hk
theorem OT_skip (t : Fin 3) (c : Dev nD) (a : ℕ) (h : a < 22) (hk : ¬ok c (tCls t) a) : OT t c a = OT t c (a + 1) := by
  unfold OT
  rw [ico_bot h, Finset.sum_insert (ico_not a), show term t c a = 0 from if_neg hk, zero_add]
theorem OT_end (t : Fin 3) (c : Dev nD) : OT t c 22 = 0 := by unfold OT; simp

def lev : Tag → ℕ
  | .bar => 1
  | .ld _ => 0
  | .st _ => 0
  | .fam q j => if q = 2 then 2 else if q = 4 then 3 + j else if q = 6 then 100 else 0
def L (g : GSem nD τ sig) : Finset Unit := if g.1.2 = .tc then {()} else ∅
def lv (g : GSem nD τ sig) (_ : Unit) : ℕ := lev (tagOf g.2)
theorem L_of_ne (g : GSem nD τ sig) (h : g.1.2 ≠ .tc) : L g = ∅ := if_neg h
theorem L_tc (c : Dev nD) (s : SemLoc sig) : L (cell c s) = {()} := if_pos rfl

theorem add_pos_or {A B : CellTallies nD τ sig Unit} {g : GSem nD τ sig} {i : Unit} (h : 0 < (A + B) g i) : 0 < A g i ∨ 0 < B g i := by
  rw [Pi.add_apply, Finsupp.add_apply] at h
  omega
theorem tally_pos {g' : GSem nD τ sig} {n : ℕ} {g : GSem nD τ sig} {i : Unit} (h : 0 < tallyAt g' () n g i) : g = g' := by
  rw [tallyAt_apply] at h
  by_contra hn
  rw [if_neg (fun h' => hn h'.1)] at h
  exact Nat.lt_irrefl 0 h
theorem OT_pos {t : Fin 3} {c : Dev nD} {a : ℕ} {g : GSem nD τ sig} {i : Unit} (h : 0 < OT t c a g i) :
    ∃ j, a ≤ j ∧ j < 22 ∧ g = cell (nbr t c) (sF (rq t) j) := by
  obtain ⟨j, hj, h⟩ := Pipeline.sum_pos_exists h
  obtain ⟨h1, h2⟩ := Finset.mem_Ico.1 hj
  refine ⟨j, h1, h2, ?_⟩
  unfold term at h
  split at h
  · exact tally_pos h
  · exact absurd h (Nat.lt_irrefl 0)

/-- A wait is allowed before every send that is still owed and whose arrival is later in the order. -/
theorem may (c : Dev nD) (s : SemLoc sig) (t : Tag) (ht : tagOf s = t) (a b e : ℕ)
    (h0 : lev t < 2 ∨ 22 ≤ a) (h1 : lev t < 3 + b ∨ 22 ≤ b) (h2 : lev t < 100 ∨ 22 ≤ e) :
    (levAts L lv : sProp 𝕄) ⊢ MayWait (c : Thread nD τ) s () (O3 c a b e) :=
  Pipeline.mayWait_of_levAts (L := L) (lev := lv) (by rw [show L ((c : Thread nD τ), s) = {()} from L_tc c s]; exact Finset.mem_singleton_self _) (fun g i hg => by
    subst ht
    show _ ∧ lev (tagOf s) < _
    rcases add_pos_or hg with hg | hg
    · rcases add_pos_or hg with hg | hg
      · obtain ⟨j, h, h', rfl⟩ := OT_pos hg
        refine ⟨by rw [L_tc]; exact Finset.mem_singleton_self _, ?_⟩
        show _ < lev (tagOf (sF 2 j))
        rw [tag_F 2 j h']
        show _ < 2
        omega
      · obtain ⟨j, h, h', rfl⟩ := OT_pos hg
        refine ⟨by rw [L_tc]; exact Finset.mem_singleton_self _, ?_⟩
        show _ < lev (tagOf (sF 4 j))
        rw [tag_F 4 j h']
        show _ < 3 + j
        omega
    · obtain ⟨j, h, h', rfl⟩ := OT_pos hg
      refine ⟨by rw [L_tc]; exact Finset.mem_singleton_self _, ?_⟩
      show _ < lev (tagOf (sF 6 j))
      rw [tag_F 6 j h']
      show _ < 100
      omega)

/-! ## What every device knows throughout -/

section
variable (m : (ℓ : Loc nD τ sig) → Buf (Elt F) ℓ)

def Ctx (K : Dev nD × SemLoc sig → ℕ) : sProp 𝕄 :=
  iprop((bigSep Finset.univ fun x : Dev nD × SemLoc sig => cellInv ER (sch m) (K x) (cell x.1 x.2))
    ∗ (bigSep Finset.univ fun x : Dev nD × SemLoc sig => reached ER (cell x.1 x.2) 0) ∗ levAts L lv)
instance Ctx_persistent (K : Dev nD × SemLoc sig → ℕ) : BI.Persistent (Ctx m K) := by unfold Ctx; infer_instance

theorem inv_at (K : Dev nD × SemLoc sig → ℕ) (x : Dev nD × SemLoc sig) :
    (bigSep Finset.univ fun x : Dev nD × SemLoc sig => (cellInv ER (sch m) (K x) (cell x.1 x.2) : sProp 𝕄)) ⊢ cellInv ER (sch m) (K x) (cell x.1 x.2) :=
  bigSep_elim (Finset.mem_univ x)
theorem reached_at (x : Dev nD × SemLoc sig) :
    (bigSep Finset.univ fun x : Dev nD × SemLoc sig => (reached ER (cell x.1 x.2) 0 : sProp 𝕄)) ⊢ reached ER (cell x.1 x.2) 0 :=
  bigSep_elim (Finset.mem_univ x)
theorem ctx_inv (K : Dev nD × SemLoc sig → ℕ) (c : Dev nD) (s : SemLoc sig) :
    Ctx m K ⊢ cellInv ER (sch m) (K (c, s)) (cell c s) := by
  unfold Ctx
  iintro ⟨H, -⟩
  iapply (inv_at m K (c, s)); iexact H
theorem ctx_reached (K : Dev nD × SemLoc sig → ℕ) (c : Dev nD) (s : SemLoc sig) :
    Ctx m K ⊢ reached ER (cell c s) 0 := by
  unfold Ctx
  iintro ⟨-, H, -⟩
  iapply (reached_at (F := F) (c, s)); iexact H
theorem ctx_may (K : Dev nD × SemLoc sig → ℕ) (c : Dev nD) (s : SemLoc sig) (t : Tag) (ht : tagOf s = t) (a b e : ℕ)
    (h0 : lev t < 2 ∨ 22 ≤ a) (h1 : lev t < 3 + b ∨ 22 ≤ b) (h2 : lev t < 100 ∨ 22 ≤ e) :
    Ctx m K ⊢ MayWait (c : Thread nD τ) s () (O3 c a b e) := by
  unfold Ctx
  iintro ⟨-, -, H⟩
  iapply (may (F := F) c s t ht a b e h0 h1 h2)
  iexact H

end

end Cert.KernelIdeal.Prf
end
-- ==== Proof.Steps.lean ====
/-
# Each instruction's rule

`Tr l A B`: from `A`, the instructions `l` run without fault and what follows them may start from `B`. The rules here
are one per kind of instruction, for every chunk, class and device.
-/
module

public import proofs.«01_k».proof.Proof.Protocol

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × SemLoc sig → ℕ) (c : Dev nD)

abbrev WP (p : Prog (EF F) PUnit.{1}) (Q : PUnit.{1} → sProp 𝕄) : sProp 𝕄 :=
  wp frame (wpE (defs₀ (F := F)) 𝒱₀ (c : Thread nD τ) none) Set.univ p Q

def Tr (l : List (Ins F)) (A B : sProp 𝕄) : Prop :=
  ∀ (r : Reg F) (k : Reg F → Prog (EF F) PUnit.{1}) (Q : PUnit.{1} → sProp 𝕄),
    iprop(Ctx m K ∗ A) ⊢ iprop((∀ r', B -∗ WP c (k r') Q) -∗ WP c (run l r k) Q)

variable {m K c}

theorem Tr.nil {A B : sProp 𝕄} (h : A ⊢ B) : Tr m K c [] A B := fun r k Q => by
  iintro ⟨-, HA⟩ Hk
  ispecialize Hk $$ %r
  iapply Hk
  iapply h; iexact HA

theorem Tr.app {l l' : List (Ins F)} {A B C : sProp 𝕄} (h : Tr m K c l A B) (h' : Tr m K c l' B C) : Tr m K c (l ++ l') A C := fun r k Q => by
  rw [run_append]
  iintro ⟨#HC, HA⟩ Hk
  iapply (h r (fun r' => run l' r' k) Q) $$ [HA]
  · isplitr; · iexact HC
    iexact HA
  iintro %r' HB
  iapply (h' r' k Q) $$ [HB]
  · isplitr; · iexact HC
    iexact HB
  iexact Hk

theorem Tr.cons {i : Ins F} {l : List (Ins F)} {A B C : sProp 𝕄} (h : Tr m K c [i] A B) (h' : Tr m K c l B C) : Tr m K c (i :: l) A C :=
  Tr.app h h'

theorem Tr.frm {l : List (Ins F)} {A B A' B' : sProp 𝕄} (R : sProp 𝕄) (h : Tr m K c l A B) (h1 : A' ⊢ iprop(A ∗ R)) (h2 : iprop(B ∗ R) ⊢ B') :
    Tr m K c l A' B' := fun r k Q => by
  iintro ⟨#HC, HA⟩ Hk
  ihave H := h1 $$ HA
  icases H with ⟨HA, HR⟩
  iapply (h r k Q) $$ [HA]
  · isplitr; · iexact HC
    iexact HA
  iintro %r' HB
  ispecialize Hk $$ %r'
  iapply Hk
  iapply h2
  isplitl [HB] <;> iassumption

theorem Tr.mono {l : List (Ins F)} {A B A' B' : sProp 𝕄} (h : Tr m K c l A B) (h1 : A' ⊢ A) (h2 : B ⊢ B') : Tr m K c l A' B' := fun r k Q => by
  iintro ⟨#HC, HA⟩ Hk
  iapply (h r k Q) $$ [HA]
  · isplitr; · iexact HC
    iapply h1; iexact HA
  iintro %r' HB
  ispecialize Hk $$ %r'
  iapply Hk
  iapply h2
  iexact HB

theorem run_when (b : BitVec 1) (l : b = 1#1 → List (Ins F)) (r : Reg F) (k : Reg F → Prog (EF F) PUnit.{1}) :
    run [whenI b l] r k = if h : b = 1#1 then run (l h) r (fun _ => k r) else k r := by
  show Prog.bind _ _ = _
  split
  · rw [run_bind]; rfl
  · rfl

theorem Tr.when {b : BitVec 1} {l : b = 1#1 → List (Ins F)} {A B : sProp 𝕄} (h : ∀ hb, Tr m K c (l hb) A B) (h' : b ≠ 1#1 → A ⊢ B) :
    Tr m K c [whenI b l] A B := fun r k Q => by
  rw [run_when]
  split
  · next hb =>
    iintro ⟨#HC, HA⟩ Hk
    iapply (h hb r (fun _ => k r) Q) $$ [HA]
    · isplitr; · iexact HC
      iexact HA
    iintro %r' HB
    ispecialize Hk $$ %r
    iapply Hk
    iexact HB
  · next hb => exact Tr.nil (h' hb) r k Q

theorem bs_succ (n : ℕ) (A : ℕ → sProp 𝕄) : bigSep (Finset.range (n + 1)) A = iprop(A n ∗ bigSep (Finset.range n) A) := by
  rw [Finset.range_add_one, bigSep_insert Finset.notMem_range_self]; rfl

/-- A loop: an invariant `I`, what each round takes and what it leaves. -/
theorem Tr.loop {N : ℕ} (f : Fin N → List (Ins F)) (I R D : ℕ → sProp 𝕄)
    (h : ∀ j : Fin N, Tr m K c (f j) iprop(I j.val ∗ R j.val) iprop(I (j.val + 1) ∗ D j.val)) :
    Tr m K c ((List.finRange N).flatMap f) iprop(I 0 ∗ bigSep (Finset.range N) R) iprop(I N ∗ bigSep (Finset.range N) D) := by
  induction N with
  | zero => exact Tr.nil (by rw [Finset.range_zero, bigSep_empty, bigSep_empty])
  | succ N ih =>
    rw [List.finRange_succ_last, List.flatMap_append, List.flatMap_map]
    have h1 := ih (fun j => f j.castSucc) (fun j => h j.castSucc)
    refine Tr.app (Tr.frm (R N) h1 ?_ (BI.Entails.refl _)) ?_
    · rw [bs_succ]
      iintro ⟨HI, HN, HR⟩
      isplitl [HI HR]
      · isplitl [HI] <;> iassumption
      iexact HN
    · have hl := h (Fin.last N)
      simp only [Fin.val_last] at hl
      rw [List.flatMap_cons, List.flatMap_nil, List.append_nil]
      refine Tr.frm (bigSep (Finset.range N) D) hl ?_ ?_
      · iintro ⟨⟨HI, HD⟩, HN⟩
        isplitl [HI HN]
        · isplitl [HI] <;> iassumption
        iexact HD
      · rw [bs_succ]
        iintro ⟨⟨HI, HN⟩, HD⟩
        isplitl [HI]; · iexact HI
        isplitl [HN] <;> iassumption

/-! ## What the rules speak of -/

variable (m c)

/-- Device `c` owes `O`. -/
def ow (O : CellTallies nD τ sig Unit) : sProp 𝕄 := iprop(∃ W, owes (c : Thread nD τ) O W)
/-- The right to raise a semaphore of device `n` in a round; `c`'s place at a semaphore; that a round is reached; that it
will be raised. -/
def tk (n : Dev nD) (s : SemLoc sig) (r : ℕ) : sProp 𝕄 := dutyTok ER (cell n s) r (0 : Fin 3)
def pos (s : SemLoc sig) (r : ℕ) : sProp 𝕄 := atPos ER (cell c s) r ∅ 0
def rc (s : SemLoc sig) (r : ℕ) : sProp 𝕄 := reached ER (cell c s) r
def cr (s : SemLoc sig) (n : ℕ) : sProp 𝕄 := cred (tallyAt (cell c s) () n)

theorem credit_own (k : Cls) (j : ℕ) (h : ok c k j) : (ownV c k j h).view.dmaCredit = N16 :=
  View.dmaCredit_closed _ S128x1024 rfl main_v1.idx rfl _ (by decide +kernel)
theorem credit_opp (k : Cls) (j : ℕ) (h : ok c k j) : (oppV c k j h).view.dmaCredit = N16 :=
  View.dmaCredit_closed _ S128x1024 rfl main_v1.idx rfl _ (by decide +kernel)
theorem credit_row (j : Fin 22) : (rowV j).view.dmaCredit = N16 :=
  View.dmaCredit_closed _ S128x1024 rfl main_v1.idx rfl _ (by decide +kernel)
theorem credit_mine (j : Fin 22) : (mineV j).view.dmaCredit = N16 :=
  View.dmaCredit_closed _ S128x1024 rfl cc0_scratch0.idx rfl _ (by decide +kernel)
theorem credit_load (s : Fin 2) : (loadV s).view.dmaCredit = N32 :=
  View.dmaCredit_closed _ S128x1024 rfl cc0_scratch1.idx rfl _ (by decide +kernel)
theorem credit_stage (s : Fin 2) : (stageV s).view.dmaCredit = N16 :=
  View.dmaCredit_closed _ S128x1024 rfl cc0_scratch2.idx rfl _ (by decide +kernel)

variable {c}

/-! ## Waits -/

/-- A wait for the round a semaphore is in. -/
theorem tr_wait (w : EF F PUnit) (s : SemLoc sig) (t : Tag) (ht : tagOf s = t) (hb : t ≠ .bar) (R : ℕ) (hd : due c t R)
    (hw : ∀ Q : PUnit → sProp 𝕄, wpE (defs₀ (F := F)) 𝒱₀ (c : Thread nD τ) none Set.univ w Q = waitSpec (c : Thread nD τ) Set.univ s (amt t) Q)
    (a b e : ℕ) (h0 : lev t < 2 ∨ 22 ≤ a) (h1 : lev t < 3 + b ∨ 22 ≤ b) (h2 : lev t < 100 ∨ 22 ≤ e) :
    Tr m K c [opU w] iprop(ow c (O3 c a b e) ∗ cr c s (amt t) ∗ pos c s R)
      iprop(ow c (O3 c a b e) ∗ pos c s (R + 1) ∗ rc c s (R + 1) ∗ pay m c 0 t R) := fun r k Q => by
  show _ ⊢ iprop(_ -∗ WP c (.op w (fun _ => k r)) Q)
  unfold ow cr pos rc
  iintro ⟨#HC, ⟨%W, HO⟩, Hc, Ha⟩ Hk
  iapply (Rounds.wp_wait_rest_token 𝒱₀ ER (sch m) (c : Thread nD τ) none (κ := K (c, s)) hw (Set.mem_univ _) () (O := O3 c a b e) (W := W)
    (R := R) (m := 0) (T := ∅) (by rw [Nat.zero_add]; exact (expect_one m c s t ht hb R hd).symm)) $$ [Hc HO Ha]
  · isplitr; · iapply (ctx_inv m K c s); iexact HC
    isplitl [Hc]; · iexact Hc
    isplitl [HO]; · iexact HO
    isplitr; · iapply (ctx_may m K c s t ht a b e h0 h1 h2); iexact HC
    iexact Ha
  iintro ⟨HO, Ha, Hr, Hp⟩
  ispecialize Hk $$ %r
  iapply Hk
  isplitl [HO]; · iexists _; iexact HO
  isplitl [Ha]; · iexact Ha
  isplitl [Hr]; · iexact Hr
  ihave Hp' := (Entails.of_eq (rest_one m c s t ht hb R hd)) $$ Hp
  iexact Hp'

/-- The wait on the barrier. -/
theorem tr_bar :
    Tr m K c [iBar] iprop(ow c (O3 c 0 0 0) ∗ cr c sB 3 ∗ pos c sB 0)
      iprop(ow c (O3 c 0 0 0) ∗ pos c sB 1 ∗ barPay m c 0 ∗ barPay m c 1 ∗ barPay m c 2) := fun r k Q => by
  show _ ⊢ iprop(_ -∗ WP c (.op (.semWait barS 3) (fun _ => k r)) Q)
  unfold ow cr pos
  iintro ⟨#HC, ⟨%W, HO⟩, Hc, Ha⟩ Hk
  iapply (Rounds.wp_wait_rest_token 𝒱₀ ER (sch m) (c : Thread nD τ) none (κ := K (c, sB)) (wpE_semWait_eq 𝒱₀ (c : Thread nD τ) none Set.univ) (Set.mem_univ _) ()
    (O := O3 c 0 0 0) (W := W) (R := 0) (m := 0) (T := ∅) (by rw [Nat.zero_add]; exact (expect_bar m c).symm)) $$ [Hc HO Ha]
  · isplitr; · iapply (ctx_inv m K c sB); iexact HC
    isplitl [Hc]; · iexact Hc
    isplitl [HO]; · iexact HO
    isplitr
    · iapply (ctx_may m K c sB .bar tag_B 0 0 0 (.inl (by decide)) (.inl (by decide)) (.inl (by decide))); iexact HC
    iexact Ha
  iintro ⟨HO, Ha, -, Hp⟩
  ispecialize Hk $$ %r
  iapply Hk
  isplitl [HO]; · iexists _; iexact HO
  isplitl [Ha]; · iexact Ha
  ihave Hp' := (Entails.of_eq (rest_bar m c)) $$ Hp
  iexact Hp'

/-- A signal to a neighbour. -/
theorem tr_sig (t : Fin 3) (n : Dev nD) (hn : n = nbr t c) (O : CellTallies nD τ sig Unit) :
    Tr m K c [iSig n] iprop(ow c (O + oB t c) ∗ dutyTok ER (cell (nbr t c) sB) 0 t ∗ barPay m (nbr t c) t) (ow c O) := fun r k Q => by
  subst hn
  show _ ⊢ iprop(_ -∗ WP c (.op (.semSignal (nbr t c : Thread nD τ) barS 1) (fun _ => k r)) Q)
  unfold ow
  iintro ⟨#HC, ⟨%W, HO⟩, Ht, Hp⟩ Hk
  iapply (Rounds.wp_signal 𝒱₀ ER (sch m) (c : Thread nD τ) none (dst := (nbr t c : Thread nD τ)) (κ := K (nbr t c, sB)) (r := 0) (d := t)
      (by rw [show (((nbr t c : Thread nD τ), .reg barS) : GSem nD τ sig) = cell (nbr t c) sB from rfl, duties_bar]; exact Finset.mem_univ _)
      (show amt (tagOf sB) = 1 from rfl) () O rfl) $$ [HO Ht Hp]
  · isplitr; · iapply (ctx_inv m K (nbr t c) sB); iexact HC
    isplitl [HO]; · iexact HO
    isplitl [Ht]; · iexact Ht
    isplitl [Hp]; · iapply (Entails.of_eq (show barPay m (nbr t c) t = (sch m).payload (cell (nbr t c) sB) 0 t from rfl)); iexact Hp
    iapply (ctx_reached m K (nbr t c) sB); iexact HC
  iintro HO
  ispecialize Hk $$ %r
  iapply Hk
  iexists W; iexact HO

end Cert.KernelIdeal.Prf
end
-- ==== Proof.Moves.lean ====
/-
# The rules of the kernel's own operations

The copies, sends, waits and rounding steps of this kernel, each for every class, chunk and device.
-/
module

public import proofs.«01_k».proof.Proof.Steps

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) {K : Dev nD × SemLoc sig → ℕ} {c : Dev nD}

theorem sF_val (q : Fin 7) (j : Fin 22) : sF q j.val = .dma (sem22 (arr q) j) :=
  congrArg (fun x => SemLoc.dma (sem22 (arr q) x)) (fj_val j)

/-! ## A copy on the device -/

theorem tr_copy {sp sp' : Space} {e : EltTy} {src : Memref sig .tc sp S128x1024 e} {dst : Memref sig .tc sp' S128x1024 e} {s : SemLoc sig}
    {hsrc : src.view.WordExact} {hdst : dst.view.WordExact} {hsem : DmaTarget.Typed sp s (.here dst : DmaTarget nD τ sig .tc sp' S128x1024 e)}
    (t : Tag) (ht : tagOf s = t) (hb : t ≠ .bar) (R : ℕ) (hd : due c t R) (hN : dst.view.amount s = amt t)
    (q : PosShare TreeShare) (fs : Buf (Elt F) (src.view.loc (c : Thread nD τ))) (fd g : Buf (Elt F) (dst.view.loc (c : Thread nD τ)))
    (hv : ∀ x, dst.view.read (Elt F) g x = src.view.read (Elt F) fs x)
    (hpay : (iprop((dst.view.loc (c : Thread nD τ) ↦[dst.view.set]{fullShare} g) ∗ (src.view.loc (c : Thread nD τ) ↦[src.view.set]{q} fs)) : sProp 𝕄) ⊢ pay m c 0 t R) :
    Tr m K c [opU (.enqueueDma src (.here dst) s hsrc hdst hsem)]
      iprop((src.view.loc (c : Thread nD τ) ↦[src.view.set]{q} fs) ∗ (dst.view.loc (c : Thread nD τ) ↦[dst.view.set]{fullShare} fd) ∗ tk c s R ∗ rc c s R)
      (cr c s (amt t)) := fun r k Q => by
  show _ ⊢ iprop(_ -∗ WP c (.op (.enqueueDma src (.here dst) s hsrc hdst hsem) (fun _ => k r)) Q)
  unfold tk rc cr
  subst ht
  iintro ⟨#HC, Hs, Hd, Ht, Hr⟩ Hk
  iapply (Rounds.wp_copy_pointsTo 𝒱₀ ER (sch m) (c : Thread nD τ) none (κ := K (c, s)) (r := R) (d := (0 : Fin 3))
    (by rw [show (((c : Thread nD τ), s) : GSem nD τ sig) = cell c s from rfl, duties_one m c s _ rfl hb R hd]; exact Finset.mem_singleton_self _) () (amt (tagOf s)) hN rfl
    (by rw [pointsTo_congr (fun i hi => copied _ fd g hv i hi)]; exact hpay)) $$ [Hs Hd Ht Hr]
  · isplitr; · iapply (ctx_inv m K c s); iexact HC
    isplitl [Hs]; · iexact Hs
    isplitl [Hd]; · iexact Hd
    isplitl [Ht] <;> iassumption
  iintro H
  ispecialize Hk $$ %r
  iapply Hk
  iexact H

/-- Load a chunk of the input. -/
theorem tr_ld (k : Cls) (j : ℕ) (h : ok c k j) (s : Fin 2) (R : ℕ) (hl : ldAt c s R = (k, j)) :
    Tr m K c [iLd c k j h s] iprop((pIn m c (chunk c k j) ∗ tk c (sL s) R) ∗ rc c (sL s) R ∗ ∃ f, pLd c s f) (cr c (sL s) N32) := fun r kk Q => by
  unfold pIn pLd
  iintro ⟨#HC, ⟨HI, Ht⟩, Hr, ⟨%f, Hf⟩⟩ Hk
  iapply (tr_copy m (K := K) (c := c) (src := inV c k j h) (dst := loadV s) (.ld s) (tag_L s) (by simp) R (show ok c (ldAt c s R).1 (ldAt c s R).2 by rw [hl]; exact h)
    (credit_load s) fullShare (xin m c) f (slotF m c (chunk c k j)) (fun x => (load_val m c k j h s x).symm)
    (by
      show _ ⊢ ldPay m c s (chunk c (ldAt c s R).1 (ldAt c s R).2)
      rw [hl]; unfold ldPay pLd pIn; rw [in_set, load_set]) r kk Q) $$ [HI Ht Hr Hf]
  · isplitr; · iexact HC
    isplitl [HI]; · rw [in_set]; iexact HI
    isplitl [Hf]; · rw [load_set]; iexact Hf
    isplitl [Ht] <;> iassumption
  iexact Hk

/-- Copy a rounded chunk to its place in the output. -/
theorem tr_mineC (j : Fin 22) (h : ok c .my j) (f : Buf (Elt F) (lOut c)) :
    Tr m K c [iMineC c j h] iprop(pMi c j fullShare.left (mineF m c) ∗ pOut c (ob c (chunk c .my j)) fullShare f ∗ tk c (sF 0 j) 0 ∗ rc c (sF 0 j) 0)
      (cr c (sF 0 j) N16) := by
  unfold pMi pOut
  have H := tr_copy m (K := K) (c := c) (src := mineV j) (dst := ownV c .my j h) (s := .dma (sem22 (arr 0) j)) (hsrc := ((Memref.isWhole_whole _).wordExact_slice rfl _ (.inl (mineRect_packed j))))
    (hdst := ((Memref.isWhole_whole _).wordExact_slice rfl _ (.inl (ownRect_packed c .my j h)))) (hsem := ⟨Or.inl rfl, trivial⟩)
    (.fam 0 j.val) (tag_F' 0 j) (by simp) 0 ⟨rfl, h⟩ (credit_own c .my j h) fullShare.left (mineF m c) f (fin m c) (fun x => (mineC_val m c j h x).symm)
    (by unfold pay famPay pMi pOut; rw [mine_set, own_set])
  rw [mine_set, own_set] at H
  rw [sF_val]
  exact H

/-- Copy a staged chunk to its place in the output. -/
theorem tr_stC (k : Cls) (j : ℕ) (h : ok c k j) (s : Fin 2) (hs : stCls s = k) (f : Buf (Elt F) (lOut c)) :
    Tr m K c [iStC c s k j h] iprop(pSt c s (stF m c (chunk c k j)) ∗ pOut c (ob c (chunk c k j)) fullShare f ∗ tk c (sS s) j ∗ rc c (sS s) j)
      (cr c (sS s) N16) := by
  unfold pSt pOut
  subst hs
  have H := tr_copy m (K := K) (c := c) (src := stageV s) (dst := ownV c (stCls s) j h) (s := sS s) (hsrc := (((Memref.isWhole_whole _).wordExact_slice rfl _ (slotRect_words s)).reshape _ _))
    (hdst := ((Memref.isWhole_whole _).wordExact_slice rfl _ (.inl (ownRect_packed c (stCls s) j h)))) (hsem := ⟨Or.inl rfl, trivial⟩)
    (.st s) (tag_S s) (by simp) j h (credit_own c (stCls s) j h) fullShare (stF m c (chunk c (stCls s) j)) f (fin m c) (fun x => (stC_val m c (stCls s) j h s x).symm)
    (by unfold pay stPay pSt pOut; rw [stage_set, own_set])
  rw [stage_set, own_set] at H
  exact H

/-! ## A copy to another device -/

theorem tr_send {sp sp' : Space} {e : EltTy} {src : Memref sig .tc sp S128x1024 e} {dst : Memref sig .tc sp' S128x1024 e} {sS sR : SemLoc sig} {n : Dev nD}
    {hsc : dst.view.ref.isScScratch = false} {hsrc : src.view.WordExact} {hdst : dst.view.WordExact} {hsem : DmaTarget.Typed sp sR (.remote (Dev.tc n) dst sS hsc)}
    (t t' : Tag) (ht : tagOf sS = t) (ht' : tagOf sR = t') (hb : t ≠ .bar) (hb' : t' ≠ .bar) (ha : amt t' = N16) (ha' : amt t = N16) (hd : due c t 0) (hd' : due n t' 0)
    (hN : dst.view.amount sR = N16)
    (q : PosShare TreeShare) (fs : Buf (Elt F) (src.view.loc (c : Thread nD τ))) (fd g : Buf (Elt F) (dst.view.loc (n : Thread nD τ)))
    (hv : ∀ x, dst.view.read (Elt F) g x = src.view.read (Elt F) fs x)
    (hpay : (src.view.loc (c : Thread nD τ) ↦[src.view.set]{q} fs : sProp 𝕄) ⊢ pay m c 0 t 0)
    (hpay' : (dst.view.loc (n : Thread nD τ) ↦[dst.view.set]{fullShare} g : sProp 𝕄) ⊢ pay m n 0 t' 0) (O : CellTallies nD τ sig Unit) :
    Tr m K c [opU (.enqueueDma src (.remote (Dev.tc n) dst sS hsc) sR hsrc hdst hsem)]
      iprop((src.view.loc (c : Thread nD τ) ↦[src.view.set]{q} fs) ∗ (dst.view.loc (n : Thread nD τ) ↦[dst.view.set]{fullShare} fd) ∗ tk c sS 0 ∗ tk n sR 0
        ∗ ow c (O + tallyAt (cell n sR) () N16))
      iprop(cr c sS N16 ∗ ow c O) := fun r k Q => by
  show _ ⊢ iprop(_ -∗ WP c (.op (.enqueueDma src (.remote (Dev.tc n) dst sS hsc) sR hsrc hdst hsem) (fun _ => k r)) Q)
  unfold tk cr ow
  subst ht ht'
  iintro ⟨#HC, Hs, Hd, Ht, Ht', ⟨%W, HO⟩⟩ Hk
  iapply (Rounds.wp_send_pointsTo 𝒱₀ ER (sch m) (c : Thread nD τ) none (κ₁ := K (c, sS)) (κ₂ := K (n, sR)) (r₁ := 0) (r₂ := 0) (d₁ := (0 : Fin 3)) (d₂ := (0 : Fin 3)) (fd := fd)
    (by rw [show (((c : Thread nD τ), sS) : GSem nD τ sig) = cell c sS from rfl, duties_one m c sS _ rfl hb 0 hd]; exact Finset.mem_singleton_self _)
    (by rw [show (((Dev.tc n : Thread nD τ), sR) : GSem nD τ sig) = cell n sR from rfl, duties_one m n sR _ rfl hb' 0 hd']; exact Finset.mem_singleton_self _)
    () () N16 hN ha' ha O rfl (W := W) hpay (by rw [pointsTo_congr (fun i hi => copied _ fd g hv i hi)]; exact hpay')) $$ [Hs Hd Ht Ht' HO]
  · isplitr; · iapply (ctx_inv m K c sS); iexact HC
    isplitr; · iapply (ctx_inv m K n sR); iexact HC
    isplitl [Hs]; · iexact Hs
    isplitl [Hd]; · iexact Hd
    isplitl [HO]; · iexact HO
    isplitl [Ht]; · iexact Ht
    isplitr; · iapply (ctx_reached m K c sS); iexact HC
    isplitl [Ht']; · iexact Ht'
    iapply (ctx_reached m K n sR); iexact HC
  iintro ⟨H, HO⟩
  ispecialize Hk $$ %r
  iapply Hk
  isplitl [H]; · iexact H
  iexists W; iexact HO

theorem pb_y (c : Dev nD) (n : ℕ) : pb (yN c) n = ob c n := by
  have := yc_lt c
  unfold pb ob; rw [yc_y]; omega
theorem pb_x (c : Dev nD) (n : ℕ) : pb (xN c) n = pb c n := by unfold pb; rw [yc_x]
theorem pb_z (c : Dev nD) (n : ℕ) : pb (zN c) n = pb c n := by unfold pb; rw [yc_z]

/-- Send a rounded chunk to the `y` neighbour. -/
theorem tr_ys (j : Fin 22) (h : ok c .my j) (f : Buf (Elt F) (lOut (yN c))) (O : CellTallies nD τ sig Unit) :
    Tr m K c [iYs c j h] iprop(pMi c j fullShare.right (mineF m c) ∗ pOut (yN c) (ob c (chunk c .my j)) fullShare f ∗ tk c (sF 1 j) 0 ∗ tk (yN c) (sF 2 j) 0
        ∗ ow c (O + tallyAt (cell (yN c) (sF 2 j)) () N16))
      iprop(cr c (sF 1 j) N16 ∗ ow c O) := by
  unfold pMi pOut
  have hk : chunk (yN c) .my j = chunk c .my j := chunk_congr (my_y c) j
  have H := tr_send m (K := K) (c := c) (n := yN c) (src := mineV j) (dst := ownV c .my j h) (sS := .dma (sem22 (arr 1) j)) (sR := .dma (sem22 (arr 2) j)) (hsc := rfl)
    (hsrc := ((Memref.isWhole_whole _).wordExact_slice rfl _ (.inl (mineRect_packed j))))
    (hdst := ((Memref.isWhole_whole _).wordExact_slice rfl _ (.inl (ownRect_packed c .my j h)))) (hsem := ⟨⟨rfl, Or.inl rfl⟩, trivial⟩)
    (.fam 1 j.val) (.fam 2 j.val) (tag_F' 1 j) (tag_F' 2 j) (by simp) (by simp) rfl rfl ⟨rfl, h⟩ ⟨rfl, by unfold famCls; show chunk _ _ _ < 64; rw [hk]; exact h⟩
    (credit_own c .my j h) fullShare.right (mineF m c) f (fin m (yN c)) (fun x => (ys_val m c j h x).symm)
    (by rw [mine_set]; exact BI.Entails.refl _)
    (by show _ ⊢ pOut (yN c) (pb (yN c) (chunk (yN c) .my j)) fullShare (fin m (yN c))
        unfold pOut; rw [own_set, hk, pb_y]) O
  rw [mine_set, own_set] at H
  rw [sF_val, sF_val]
  exact H

/-- Send a chunk of the far half on. -/
theorem tr_oppS (n : Dev nD) (q q' : Fin 7) (k : Cls) (j : Fin 22) (h : ok c k j) (hq : famCls q = k) (hq' : chunk n (famCls q') j = chunk c k j)
    (hb : pb n (chunk c k j) = pb c (chunk c k j)) (hy : yc n = yc c) (ho : org n (k.num c) = org c (k.num c)) (sh : PosShare TreeShare)
    (hp : (pOut c (pb c (chunk c k j)) sh (fin m c) : sProp 𝕄) ⊢ famPay m c q j)
    (hp' : (pOut n (pb n (chunk n (famCls q') j)) fullShare (fin m n) : sProp 𝕄) ⊢ famPay m n q' j)
    (f : Buf (Elt F) (lOut n)) (O : CellTallies nD τ sig Unit) :
    Tr m K c [iOppS c n (sem22 (arr q) j) (sem22 (arr q') j) k j h] iprop(pOut c (pb c (chunk c k j)) sh (fin m c) ∗ pOut n (pb c (chunk c k j)) fullShare f
        ∗ tk c (sF q j) 0 ∗ tk n (sF q' j) 0 ∗ ow c (O + tallyAt (cell n (sF q' j)) () N16))
      iprop(cr c (sF q j) N16 ∗ ow c O) := by
  unfold pOut at *
  have H := tr_send m (K := K) (c := c) (n := n) (src := oppV c k j h) (dst := oppV c k j h) (sS := .dma (sem22 (arr q) j)) (sR := .dma (sem22 (arr q') j)) (hsc := rfl)
    (hsrc := ((Memref.isWhole_whole _).wordExact_slice rfl _ (.inl (oppRect_packed c k j h))))
    (hdst := ((Memref.isWhole_whole _).wordExact_slice rfl _ (.inl (oppRect_packed c k j h)))) (hsem := ⟨⟨rfl, Or.inl rfl⟩, trivial⟩)
    (.fam q j.val) (.fam q' j.val) (tag_F' q j) (tag_F' q' j) (by simp) (by simp) rfl rfl ⟨rfl, by rw [hq]; exact h⟩
    ⟨rfl, by show chunk _ _ _ < 64; rw [hq']; exact h⟩
    (credit_opp c k j h) sh (fin m c) f (fin m n)
    (fun x => fin_fwd m c n k j h hy ho _ (by rw [← opp_set c k j h]; exact View.emb_mem_set _ x))
    (by rw [opp_set]; exact hp)
    (by rw [opp_set, ← hb, ← hq']; exact hp') O
  rw [opp_set] at H
  rw [sF_val, sF_val]
  exact H

theorem tr_xs (j : Fin 22) (h : ok c .my j) (f : Buf (Elt F) (lOut (xN c))) (O : CellTallies nD τ sig Unit) :
    Tr m K c [iXs c j h] iprop(pOut c (pb c (chunk c .my j)) fullShare.left (fin m c) ∗ pOut (xN c) (pb c (chunk c .my j)) fullShare f
        ∗ tk c (sF 3 j) 0 ∗ tk (xN c) (sF 4 j) 0 ∗ ow c (O + tallyAt (cell (xN c) (sF 4 j)) () N16))
      iprop(cr c (sF 3 j) N16 ∗ ow c O) :=
  tr_oppS m (xN c) 3 4 .my j h rfl (chunk_congr (xn_x c) j) (pb_x c _) (yc_x c) (org_x c) fullShare.left (BI.Entails.refl _) (BI.Entails.refl _) f O
theorem tr_zs (j : Fin 22) (h : ok c .sz j) (f : Buf (Elt F) (lOut (zN c))) (O : CellTallies nD τ sig Unit) :
    Tr m K c [iZs c j h] iprop(pOut c (pb c (chunk c .sz j)) fullShare.right (fin m c) ∗ pOut (zN c) (pb c (chunk c .sz j)) fullShare f
        ∗ tk c (sF 5 j) 0 ∗ tk (zN c) (sF 6 j) 0 ∗ ow c (O + tallyAt (cell (zN c) (sF 6 j)) () N16))
      iprop(cr c (sF 5 j) N16 ∗ ow c O) :=
  tr_oppS m (zN c) 5 6 .sz j h rfl (chunk_congr (miss_z c) j) (pb_z c _) (yc_z c) (org_z c) fullShare.right (BI.Entails.refl _) (BI.Entails.refl _) f O

/-! ## The kernel's waits -/

/-- The wait for a load. -/
theorem tr_ldW (k : Cls) (j : ℕ) (h : ok c k j) (s : Fin 2) (R : ℕ) (hl : ldAt c s R = (k, j)) (a b e : ℕ) :
    Tr m K c [iLdW c k j h s] iprop(ow c (O3 c a b e) ∗ cr c (sL s) N32 ∗ pos c (sL s) R)
      iprop(ow c (O3 c a b e) ∗ pos c (sL s) (R + 1) ∗ rc c (sL s) (R + 1) ∗ pLd c s (slotF m c (chunk c k j)) ∗ pIn m c (chunk c k j)) := by
  have H := tr_wait m (K := K) (c := c) (.waitDma2 (sem2 cc0_scratch3 s) (inV c k j h) (loadV s) (View.wordExact_bits rfl) ((View.wordExact_bits rfl).reshape _ _))
    (sL s) (.ld s) (tag_L s) (by simp) R (show ok c (ldAt c s R).1 (ldAt c s R).2 by rw [hl]; exact h)
    (fun Q => by rw [wpE_waitDma2_eq, credit_load]; rfl) a b e (.inl (by show 0 < 2; decide)) (.inl (by show 0 < 3 + b; omega)) (.inl (by show 0 < 100; decide))
  rw [show pay m c 0 (.ld s) R = ldPay m c s (chunk c (ldAt c s R).1 (ldAt c s R).2) from rfl, hl] at H
  exact H

/-- The wait for a staging slot's copy. -/
theorem tr_stW (s : Fin 2) (R : ℕ) (h : ok c (stCls s) R) (a b e : ℕ) :
    Tr m K c [iStW s] iprop(ow c (O3 c a b e) ∗ cr c (sS s) N16 ∗ pos c (sS s) R)
      iprop(ow c (O3 c a b e) ∗ pos c (sS s) (R + 1) ∗ rc c (sS s) (R + 1) ∗ stPay m c s (chunk c (stCls s) R)) :=
  tr_wait m (K := K) (c := c) (.waitDma2 (sem2 cc0_scratch4 s) (stageV s) (stageV s)
      (((Memref.isWhole_whole _).wordExact_slice rfl _ (slotRect_words s)).reshape _ _)
      (((Memref.isWhole_whole _).wordExact_slice rfl _ (slotRect_words s)).reshape _ _))
    (sS s) (.st s) (tag_S s) (by simp) R h
    (fun Q => by rw [wpE_waitDma2_eq, credit_stage]; rfl) a b e (.inl (by show 0 < 2; decide)) (.inl (by show 0 < 3 + b; omega)) (.inl (by show 0 < 100; decide))

/-- What a wait on a semaphore of its own chunk brings. -/
abbrev gotF (c : Dev nD) (q : Fin 7) (j : ℕ) : sProp 𝕄 := iprop(pos c (sF q j) 1 ∗ famPay m c q j)

theorem tr_fam (w : EF F PUnit) (q : Fin 7) (j : Fin 22) (h : ok c (famCls q) j)
    (hw : ∀ Q : PUnit → sProp 𝕄, wpE (defs₀ (F := F)) 𝒱₀ (c : Thread nD τ) none Set.univ w Q = waitSpec (c : Thread nD τ) Set.univ (.dma (sem22 (arr q) j)) N16 Q)
    (a b e : ℕ) (h0 : lev (.fam q j) < 2 ∨ 22 ≤ a) (h1 : lev (.fam q j) < 3 + b ∨ 22 ≤ b) (h2 : lev (.fam q j) < 100 ∨ 22 ≤ e) :
    Tr m K c [opU w] iprop(ow c (O3 c a b e) ∗ cr c (sF q j) N16 ∗ pos c (sF q j) 0)
      iprop(ow c (O3 c a b e) ∗ gotF m c q j) := by
  rw [sF_val]
  refine Tr.mono (tr_wait m (K := K) (c := c) w (.dma (sem22 (arr q) j)) (.fam q j) (tag_F' q j) (by simp) 0 ⟨rfl, h⟩ hw a b e h0 h1 h2) (BI.Entails.refl _) ?_
  unfold gotF
  rw [sF_val]
  iintro ⟨HO, Hp, -, HP⟩
  isplitl [HO]; · iexact HO
  isplitl [Hp]; · iexact Hp
  iapply (Entails.of_eq (show pay m c 0 (.fam q j) 0 = famPay m c q j from rfl)); iexact HP

theorem tr_oppW (q : Fin 7) (k : Cls) (j : Fin 22) (hk : ok c k j) (h : ok c (famCls q) j)
    (a b e : ℕ) (h0 : lev (.fam q j) < 2 ∨ 22 ≤ a) (h1 : lev (.fam q j) < 3 + b ∨ 22 ≤ b) (h2 : lev (.fam q j) < 100 ∨ 22 ≤ e) :
    Tr m K c [iOppW c (sem22 (arr q) j) k j hk] iprop(ow c (O3 c a b e) ∗ cr c (sF q j) N16 ∗ pos c (sF q j) 0)
      iprop(ow c (O3 c a b e) ∗ gotF m c q j) :=
  tr_fam m _ q j h (fun Q => by rw [wpE_waitDma2_eq, credit_opp]) a b e h0 h1 h2
theorem tr_ysW (j : Fin 22) (h : ok c .my j) (a b e : ℕ) :
    Tr m K c [iYsW c j h] iprop(ow c (O3 c a b e) ∗ cr c (sF 1 j) N16 ∗ pos c (sF 1 j) 0)
      iprop(ow c (O3 c a b e) ∗ gotF m c 1 j) :=
  tr_fam m _ 1 j h (fun Q => by rw [wpE_waitDma2_eq, credit_mine]) a b e (.inl (by show 0 < 2; decide)) (.inl (by show 0 < 3 + b; omega)) (.inl (by show 0 < 100; decide))
theorem tr_mineW (j : Fin 22) (h : ok c .my j) (a b e : ℕ) :
    Tr m K c [iMineW j] iprop(ow c (O3 c a b e) ∗ cr c (sF 0 j) N16 ∗ pos c (sF 0 j) 0)
      iprop(ow c (O3 c a b e) ∗ gotF m c 0 j) :=
  tr_fam m _ 0 j h (fun Q => by rw [wpE_waitDma2_eq, credit_row]) a b e (.inl (by show 0 < 2; decide)) (.inl (by show 0 < 3 + b; omega)) (.inl (by show 0 < 100; decide))

/-! ## Rounding -/

theorem run_A (e : EF F (Vec F S1x128x1024 .f32)) (l : List (Ins F)) (r : Reg F) (k : Reg F → Prog (EF F) PUnit.{1}) :
    run (opA e :: l) r k = .op e (fun v => run l { r with a := v } k) := rfl
theorem run_B (e : EF F (Vec F S128x1024 .bf16)) (l : List (Ins F)) (r : Reg F) (k : Reg F → Prog (EF F) PUnit.{1}) :
    run (opB e :: l) r k = .op e (fun v => run l { r with b := v } k) := rfl
theorem run_C (e : EF F (Vec F S1x128x1024 .bf16)) (l : List (Ins F)) (r : Reg F) (k : Reg F → Prog (EF F) PUnit.{1}) :
    run (opC e :: l) r k = .op e (fun v => run l { r with c := v } k) := rfl
theorem run_S (e : Vec F S1x128x1024 .f32 → EF F PUnit) (l : List (Ins F)) (r : Reg F) (k : Reg F → Prog (EF F) PUnit.{1}) :
    run (opS e :: l) r k = .op (e r.a) (fun _ => run l r k) := rfl

theorem acc_slot3 (s : Fin 2) : (A3.access (slotRect s)).set = blkS s.val := (View.set_slice_whole _ _).trans (slot_rect_set s)
theorem acc_slot4 (s : Fin 2) : (A4.access (slotRect s)).set = blkS s.val := (View.set_slice_whole _ _).trans (slot_rect_set s)
theorem acc_mine (j : Fin 22) : (A2.access (mineRect j)).set = blkM j.val := mine_set j
theorem vec_val' (n : ℕ) (s : Fin 2) : (A3.access (slotRect s)).read (Elt F) (slotF m c n) = vecF m c n := vec_val m c n s

theorem at_mineS (j : Fin 22) (f : Buf (Elt F) (lMine c)) :
    (lMine c ↦[blkM j.val]{fullShare} ((A2.access (mineRect j)).write (Elt F) f (k0_pay1 (vecF m c (chunk c .my j))) Finset.univ) : sProp 𝕄)
      = (lMine c ↦[blkM j.val]{fullShare} mineF m c) :=
  pointsTo_congr (fun i hi => copied (dst := A2.access (mineRect j)) _ f (mineF m c) (fun x => (mineS_val m c j x).symm) i (by rw [acc_mine]; exact hi))
theorem at_stS (n : ℕ) (s : Fin 2) (f : Buf (Elt F) (lSt c)) :
    (lSt c ↦[blkS s.val]{fullShare} ((A4.access (slotRect s)).write (Elt F) f (k0_pay25 (vecF m c n)) Finset.univ) : sProp 𝕄)
      = (lSt c ↦[blkS s.val]{fullShare} stF m c n) :=
  pointsTo_congr (fun i hi => copied (dst := A4.access (slotRect s)) _ f (stF m c n) (fun x => (stS_val m c n s x).symm) i (by rw [acc_slot4]; exact hi))

/-- Read a loaded chunk and round it into its place among the chunks to send. -/
theorem tr_mineS (j : Fin 22) (s : Fin 2) :
    Tr m K c [iVec s, iMineR j, iMineS j] iprop(pLd c s (slotF m c (chunk c .my j)) ∗ ∃ f, pMi c j fullShare f)
      iprop(pLd c s (slotF m c (chunk c .my j)) ∗ pMi c j fullShare (mineF m c)) := fun r k Q => by
  unfold iVec iMineR iMineS
  rw [run_A]
  unfold pLd pMi
  iintro ⟨-, HL, ⟨%f, HM⟩⟩ Hk
  iapply (wp_load_rect 𝒱₀ (c : Thread nD τ) none Set.univ (m := A3) (r := slotRect s) (S := blkS s.val) (acc_slot3 s).subset) $$ HL; iintro HL
  rw [vec_val', run_B]
  iapply (wp_load_rect 𝒱₀ (c : Thread nD τ) none Set.univ (m := A2) (r := mineRect j) (S := blkM j.val) (acc_mine j).subset) $$ HM; iintro HM
  rw [run_S]
  iapply (wp_store 𝒱₀ (c : Thread nD τ) none Set.univ (m := A2) (r := mineRect j) (Mk := Finset.univ) (S := blkM j.val) (acc_mine j).subset) $$ HM; iintro HM
  ispecialize Hk $$ %_
  iapply Hk
  isplitl [HL]; · iexact HL
  iapply (Entails.of_eq (at_mineS m j f)); iexact HM

/-- Read a loaded chunk and round it into a staging slot. -/
theorem tr_stS (n : ℕ) (s : Fin 2) :
    Tr m K c [iVec s, iStR s, iStS s] iprop(pLd c s (slotF m c n) ∗ ∃ f, pSt c s f)
      iprop(pLd c s (slotF m c n) ∗ pSt c s (stF m c n)) := fun r k Q => by
  unfold iVec iStR iStS
  rw [run_A]
  unfold pLd pSt
  iintro ⟨-, HL, ⟨%f, HM⟩⟩ Hk
  iapply (wp_load_rect 𝒱₀ (c : Thread nD τ) none Set.univ (m := A3) (r := slotRect s) (S := blkS s.val) (acc_slot3 s).subset) $$ HL; iintro HL
  rw [vec_val', run_C]
  iapply (wp_load_rect 𝒱₀ (c : Thread nD τ) none Set.univ (m := A4) (r := slotRect s) (S := blkS s.val) (acc_slot4 s).subset) $$ HM; iintro HM
  rw [run_S]
  iapply (wp_store 𝒱₀ (c : Thread nD τ) none Set.univ (m := A4) (r := slotRect s) (Mk := Finset.univ) (S := blkS s.val) (acc_slot4 s).subset) $$ HM; iintro HM
  ispecialize Hk $$ %_
  iapply Hk
  isplitl [HL]; · iexact HL
  iapply (Entails.of_eq (at_stS m n s f)); iexact HM

end Cert.KernelIdeal.Prf
end
-- ==== Proof.Stages.lean ====
/-
# The kernel's recurring pieces

What is done with one chunk: rounding an own chunk and starting its copy, sending it, staging a chunk of another class,
and taking and passing on a chunk that arrives.
-/
module

public import proofs.«01_k».proof.Proof.Moves

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] cSame cTail cBoth Cls.num

variable (m : (ℓ : Loc nD τ sig) → Buf (Elt F) ℓ) (c : Dev nD)

/-! ## States -/

/-- A load slot before its round `r`, and while its load runs. -/
abbrev ldI (s : Fin 2) (r : ℕ) : sProp 𝕄 := iprop(pos c (sL s) r ∗ rc c (sL s) r ∗ ∃ f, pLd c s f)
abbrev ldB (s : Fin 2) (r : ℕ) : sProp 𝕄 := iprop(pos c (sL s) r ∗ cr c (sL s) N32)
def ldA (p : Prop) [Decidable p] (s : Fin 2) (r : ℕ) : sProp 𝕄 := if p then ldB c s r else ldI c s r
/-- A staging slot before its round `r`, and while its copy runs; before its `j`th use. -/
abbrev stI (s : Fin 2) (r : ℕ) : sProp 𝕄 := iprop(pos c (sS s) r ∗ rc c (sS s) r ∗ ∃ f, pSt c s f)
abbrev stB (s : Fin 2) (r : ℕ) : sProp 𝕄 := iprop(pos c (sS s) r ∗ cr c (sS s) N16)
def stX (s : Fin 2) (j : ℕ) : sProp 𝕄 := if j = 0 then stI c s 0 else stB c s (j - 1)

/-- What a load takes. -/
abbrev LdR (k : Cls) (s : Fin 2) (j r : ℕ) : sProp 𝕄 := iprop(pIn m c (chunk c k j) ∗ tk c (sL s) r)
/-- A block of the own half of the output. -/
abbrev own (k : Cls) (j : ℕ) (f : Buf (Elt F) (lOut c)) : sProp 𝕄 := pOut c (ob c (chunk c k j)) fullShare f
/-- A half share of a block of the far half. -/
abbrev oppL (k : Cls) (j : ℕ) : sProp 𝕄 := pOut c (pb c (chunk c k j)) fullShare.left (fin m c)
abbrev oppR (k : Cls) (j : ℕ) : sProp 𝕄 := pOut c (pb c (chunk c k j)) fullShare.right (fin m c)
abbrev oppB (k : Cls) (j : ℕ) : sProp 𝕄 := pOut c (pb c (chunk c k j)) fullShare (fin m c)
/-- What rounding an own chunk takes. -/
abbrev MineR (j : ℕ) : sProp 𝕄 := iprop((∃ f, pMi c j fullShare f) ∗ own c .my j (oin m c) ∗ tk c (sF 0 j) 0)
/-- What a send takes besides its source. -/
abbrev SndR (t : Fin 3) (j : ℕ) : sProp 𝕄 :=
  iprop(pOut (nbr t c) (dst t c j) fullShare (oin m (nbr t c)) ∗ tk c (sF (sq t) j) 0 ∗ tk (nbr t c) (sF (rq t) j) 0)
/-- What staging takes. -/
abbrev StR (k : Cls) (s : Fin 2) (j : ℕ) : sProp 𝕄 := iprop(own c k j (oin m c) ∗ tk c (sS s) j)
/-- What a wait on a chunk's own semaphore takes. -/
abbrev RcvR (q : Fin 7) (j : ℕ) : sProp 𝕄 := iprop(cr c (sF q j) N16 ∗ pos c (sF q j) 0)
/-- A chunk of class `k` was sent along `z`, or its right half share is still here. -/
def ZD (k : Cls) (j : ℕ) : sProp 𝕄 := if Cls.sz.num c = k.num c then cr c (sF 5 j) N16 else oppR m c k j
def ZR (k : Cls) (j : ℕ) : sProp 𝕄 := gd (Cls.sz.num c = k.num c) (SndR m c 2 j)

variable {m c} {K : Dev nD × SemLoc sig → ℕ}

theorem ldA_pos {p : Prop} [Decidable p] (h : p) (s : Fin 2) (r : ℕ) : ldA (F := F) c p s r = ldB c s r := if_pos h
theorem ldA_neg {p : Prop} [Decidable p] (h : ¬p) (s : Fin 2) (r : ℕ) : ldA (F := F) c p s r = ldI c s r := if_neg h

theorem run_cons (i : Ins F) (l : List (Ins F)) (r : Reg F) (k : Reg F → Prog (EF F) PUnit.{1}) :
    run (i :: l) r k = run [i] r (fun r' => run l r' k) := rfl

/-- The rest of a proof after its first instructions. -/
theorem Tr.step {l l' : List (Ins F)} {A B C D : sProp 𝕄} (R : sProp 𝕄) (h : Tr m K c l A B) (h1 : C ⊢ iprop(A ∗ R)) (h' : Tr m K c l' iprop(B ∗ R) D) :
    Tr m K c (l ++ l') C D :=
  Tr.app (Tr.frm R h h1 (BI.Entails.refl _)) h'

theorem Tr.pick {b : Bool} {i : b = true → Ins F} {i' : Ins F} {A B : sProp 𝕄} (h : ∀ hb, Tr m K c [i hb] A B) (h' : b = false → Tr m K c [i'] A B) :
    Tr m K c [pick b i i'] A B := by
  cases b with
  | true => exact h rfl
  | false => exact h' rfl
theorem Tr.pickL {b : Bool} {i : b = true → List (Ins F)} {i' : List (Ins F)} {A B : sProp 𝕄} (h : ∀ hb, Tr m K c (i hb) A B) (h' : b = false → Tr m K c i' A B) :
    Tr m K c (Prf.pick b i i') A B := by
  cases b with
  | true => exact h rfl
  | false => exact h' rfl

theorem ok_lt (k : Cls) {j : ℕ} (h : j < 21) : ok c k j := chunk_lt c k j h
theorem ok_tail (k : Cls) : cTail c k = 1#1 ↔ ok c k 21 := by
  rw [cTail_eq]
  show _ ↔ 3 * 21 + k.num c < 64
  omega
theorem ok_le {k : Cls} {j : ℕ} (h : ok c k j) : j < 22 := by
  have : 3 * j + k.num c < 64 := h
  omega

/-! ## Which chunk a load slot holds -/

theorem ldAt_my {j : ℕ} (h : ok c .my j) : ldAt c (par j) (j / 2) = (.my, j) := by
  have hj := ok_le h
  unfold ldAt par
  rcases Nat.mod_two_eq_zero_or_one j with h2 | h2
  · rw [if_pos (Fin.ext h2), if_pos (by omega)]
    congr 1; omega
  · have hlt : j / 2 < odd c := by
      unfold odd
      split
      · omega
      · next hn =>
        have : 3 * j + Cls.my.num c < 64 := h
        omega
    rw [if_neg (fun h0 => by have := congrArg Fin.val h0; simp only [h2] at this; exact absurd this (by decide)), if_pos hlt]
    congr 1; omega
theorem ldAt_ta (j : ℕ) : ldAt c 0 (11 + j) = (.ta, j) := by
  unfold ldAt
  rw [if_pos rfl, if_neg (by omega)]
  congr 1; omega
theorem ldAt_tb (j : ℕ) : ldAt c 1 (odd c + j) = (.tb, j) := by
  unfold ldAt
  rw [if_neg (by decide), if_neg (by omega)]
  congr 1; omega

/-! ## Shares -/

theorem pMi_half (j : ℕ) (f : Buf (Elt F) (lMine c)) : (pMi c j fullShare f : sProp 𝕄) ⊣⊢ iprop(pMi c j fullShare.left f ∗ pMi c j fullShare.right f) :=
  pointsTo_share (PosShare.mem_left_op_right fullShare)
theorem pOut_half (b : ℕ) (f : Buf (Elt F) (lOut c)) : (pOut c b fullShare f : sProp 𝕄) ⊣⊢ iprop(pOut c b fullShare.left f ∗ pOut c b fullShare.right f) :=
  pointsTo_share (PosShare.mem_left_op_right fullShare)

/-! ## The pieces -/

theorem tr_load (k : Cls) (j : ℕ) (h : ok c k j) (s : Fin 2) (R : ℕ) (hl : ldAt c s R = (k, j)) :
    Tr m K c [iLd c k j h s] iprop(ldI c s R ∗ LdR m c k s j R) (ldB c s R) :=
  Tr.frm (pos c (sL s) R) (tr_ld m k j h s R hl) (by iintro ⟨⟨Hp, Hr, Hf⟩, HL⟩; iframe) (by unfold ldB; iintro ⟨Hc, Hp⟩; iframe)

/-- Wait for an own chunk, round it, start its copy to the output. -/
theorem tr_mine (j : Fin 22) (h : ok c .my j) (s : Fin 2) (R : ℕ) (hs : s = par j) (hl : ldAt c s R = (.my, j.val)) (a b e : ℕ) :
    Tr m K c (pMine c j h) iprop(ow c (O3 c a b e) ∗ ldB c s R ∗ MineR m c j)
      iprop(ow c (O3 c a b e) ∗ ldI c s (R + 1) ∗ pIn m c (chunk c .my j) ∗ cr c (sF 0 j) N16 ∗ pMi c j fullShare.right (mineF m c)) := by
  subst hs
  show Tr m K c ([iLdW c .my j h (par j)] ++ ([iVec (par j), iMineR j, iMineS j] ++ [iMineC c j h])) _ _
  refine Tr.step (MineR m c j) (tr_ldW m .my j h (par j) R hl a b e) (by iintro ⟨HO, ⟨Hp, Hc⟩, HM⟩; iframe) ?_
  refine Tr.step iprop(ow c (O3 c a b e) ∗ pos c (sL (par j)) (R + 1) ∗ rc c (sL (par j)) (R + 1) ∗ pIn m c (chunk c .my j) ∗ own c .my j (oin m c) ∗ tk c (sF 0 j) 0)
    (tr_mineS m j (par j)) (by iintro ⟨⟨HO, Hp, Hr, HL, HI⟩, HM, Ho, Ht⟩; iframe) ?_
  intro r k Q
  iintro ⟨#HC, ⟨HL, HM⟩, HO, Hp, Hr, HI, Ho, Ht⟩ Hk
  ihave HM' := (pMi_half (c := c) j (mineF m c)).1 $$ HM
  icases HM' with ⟨HM1, HM2⟩
  iapply (tr_mineC m j h (oin m c) r k Q) $$ [HM1 Ho Ht]
  · isplitr; · iexact HC
    isplitl [HM1]; · iexact HM1
    isplitl [Ho]; · iexact Ho
    isplitl [Ht]; · iexact Ht
    unfold rc; iapply (ctx_reached m K c (sF 0 j)); iexact HC
  iintro %r' Hc
  ispecialize Hk $$ %r'
  iapply Hk
  unfold ldI
  iframe
  iexists _; iexact HL

theorem O3_y {j : ℕ} (hj : j < 22) (h : ok c .my j) (b e : ℕ) :
    O3 c j b e = O3 c (j + 1) b e + tallyAt (cell (yN c) (sF 2 j)) () N16 := by
  unfold O3
  rw [OT_step 0 c j hj h, add_right_comm (OT 0 c (j + 1)), add_right_comm (OT 0 c (j + 1) + OT 1 c b)]
  rfl
theorem O3_x {j : ℕ} (hj : j < 22) (h : ok c .my j) (a e : ℕ) :
    O3 c a j e = O3 c a (j + 1) e + tallyAt (cell (xN c) (sF 4 j)) () N16 := by
  unfold O3
  rw [OT_step 1 c j hj h, ← add_assoc, add_right_comm (OT 0 c a + OT 1 c (j + 1))]
  rfl
theorem O3_z {j : ℕ} (hj : j < 22) (h : ok c .sz j) (a b : ℕ) :
    O3 c a b j = O3 c a b (j + 1) + tallyAt (cell (zN c) (sF 6 j)) () N16 := by
  unfold O3
  rw [OT_step 2 c j hj h, ← add_assoc]
  rfl

/-- Send a rounded chunk to the `y` neighbour. -/
theorem tr_send_y (j : Fin 22) (h : ok c .my j) (b e : ℕ) :
    Tr m K c [iYs c j h] iprop(ow c (O3 c j b e) ∗ pMi c j fullShare.right (mineF m c) ∗ SndR m c 0 j)
      iprop(ow c (O3 c (j + 1) b e) ∗ cr c (sF 1 j) N16) :=
  Tr.mono (tr_ys m j h (oin m (yN c)) (O3 c (j + 1) b e))
    (by rw [O3_y j.isLt h]
        iintro ⟨HO, HM, Hd, Ht, Ht'⟩
        isplitl [HM]; · iexact HM
        isplitl [Hd]; · iexact Hd
        isplitl [Ht]; · iexact Ht
        isplitl [Ht']; · iexact Ht'
        iexact HO)
    (by iintro ⟨Hc, HO⟩; iframe)

/-- Send a chunk that came from the `y` neighbour to the `x` neighbour. -/
theorem tr_send_x (j : Fin 22) (h : ok c .my j) (a e : ℕ) :
    Tr m K c [iXs c j h] iprop(ow c (O3 c a j e) ∗ oppL m c .my j ∗ SndR m c 1 j)
      iprop(ow c (O3 c a (j + 1) e) ∗ cr c (sF 3 j) N16) :=
  Tr.mono (tr_xs m j h (oin m (xN c)) (O3 c a (j + 1) e))
    (by rw [O3_x j.isLt h]
        iintro ⟨HO, HM, Hd, Ht, Ht'⟩
        isplitl [HM]; · iexact HM
        isplitl [Hd]; · iexact Hd
        isplitl [Ht]; · iexact Ht
        isplitl [Ht']; · iexact Ht'
        iexact HO)
    (by iintro ⟨Hc, HO⟩; iframe)

/-- Send a chunk to the `z` neighbour if it is of the class sent there. -/
theorem tr_send_z (k : Cls) (j : Fin 22) (h : ok c .sz j) (a b e e' : ℕ) (he : Cls.sz.num c = k.num c → e = j.val ∧ e' = j.val + 1)
    (he' : Cls.sz.num c ≠ k.num c → e' = e) :
    Tr m K c [whenI (cSame c k) fun _ => [iZs c j h]] iprop(ow c (O3 c a b e) ∗ oppR m c k j ∗ ZR m c k j)
      iprop(ow c (O3 c a b e') ∗ ZD m c k j) := by
  refine Tr.when (fun hb => ?_) (fun hb => ?_)
  · have hk := (cSame_eq c k).1 hb
    obtain ⟨rfl, rfl⟩ := he hk
    unfold ZR ZD
    rw [gd_pos hk, if_pos hk, show oppR m c k j = oppR m c .sz j from by unfold oppR; rw [chunk_congr hk]]
    refine Tr.mono (tr_zs m j h (oin m (zN c)) (O3 c a b (j.val + 1))) ?_ (by iintro ⟨Hc, HO⟩; iframe)
    rw [O3_z j.isLt h]
    iintro ⟨HO, HM, Hd, Ht, Ht'⟩
    isplitl [HM]; · iexact HM
    isplitl [Hd]; · iexact Hd
    isplitl [Ht]; · iexact Ht
    isplitl [Ht']; · iexact Ht'
    iexact HO
  · have hk : Cls.sz.num c ≠ k.num c := fun h => hb ((cSame_eq c k).2 h)
    unfold ZD
    rw [he' hk, if_neg hk]
    iintro ⟨HO, HR, -⟩
    iframe

/-- Before a staging slot's `j`th use: wait for the copy of its last use. -/
theorem tr_stage_wait (w : Bool) (s : Fin 2) (j : ℕ) (hw : w = Nat.blt 0 j) (h : ok c (stCls s) j) (a b e : ℕ) :
    Tr m K c (pick w (fun _ => [iStW s]) []) iprop(ow c (O3 c a b e) ∗ stX c s j)
      iprop(ow c (O3 c a b e) ∗ stI c s j ∗ gd (1 ≤ j) (own c (stCls s) (j - 1) (fin m c))) := by
  unfold stX
  refine Tr.pickL (fun hb => ?_) (fun hb => ?_)
  · have hj : 0 < j := blt_lt (hw.symm.trans hb)
    rw [if_neg (by omega), gd_pos (show 1 ≤ j from hj)]
    refine Tr.mono (tr_stW m s (j - 1) (by have : 3 * j + (stCls s).num c < 64 := h
                                           show 3 * (j - 1) + (stCls s).num c < 64
                                           omega) a b e) (by unfold stB; iintro ⟨HO, Hp, Hc⟩; iframe) ?_
    rw [show j - 1 + 1 = j by omega]
    unfold stPay stI
    iintro ⟨HO, Hp, Hr, Ho, Hs⟩
    iframe
    iexists _; iexact Hs
  · have hj : ¬0 < j := fun h => by
      have h' : Nat.blt 0 j = true := by rw [Nat.blt_eq]; exact h
      rw [hw, h'] at hb
      exact absurd hb (by decide)
    obtain rfl : j = 0 := by omega
    rw [if_pos rfl, gd_neg (by decide)]
    exact Tr.nil (by iintro ⟨HO, H⟩; iframe)

/-- Stage a chunk. -/
theorem tr_stage (w : Bool) (k : Cls) (s : Fin 2) (j : ℕ) (h : ok c k j) (hw : w = Nat.blt 0 j) (hs : stCls s = k) (R : ℕ) (hl : ldAt c s R = (k, j)) (a b e : ℕ) :
    Tr m K c (pStage c w k s j h) iprop(ow c (O3 c a b e) ∗ ldB c s R ∗ stX c s j ∗ StR m c k s j)
      iprop(ow c (O3 c a b e) ∗ ldI c s (R + 1) ∗ pIn m c (chunk c k j) ∗ stB c s j ∗ gd (1 ≤ j) (own c k (j - 1) (fin m c))) := by
  subst hs
  show Tr m K c ([iLdW c (stCls s) j h s] ++ (pick w (fun _ => [iStW s]) [] ++ ([iVec s, iStR s, iStS s] ++ [iStC c s (stCls s) j h]))) _ _
  refine Tr.step iprop(stX c s j ∗ StR m c (stCls s) s j) (tr_ldW m (stCls s) j h s R hl a b e) (by unfold ldB; iintro ⟨HO, ⟨Hp, Hc⟩, HX, HS⟩; iframe) ?_
  refine Tr.step iprop(StR m c (stCls s) s j ∗ pos c (sL s) (R + 1) ∗ rc c (sL s) (R + 1) ∗ pLd c s (slotF m c (chunk c (stCls s) j)) ∗ pIn m c (chunk c (stCls s) j))
    (tr_stage_wait w s j hw h a b e) (by iintro ⟨⟨HO, Hp, Hr, HL, HI⟩, HX, HS⟩; iframe) ?_
  refine Tr.step iprop(StR m c (stCls s) s j ∗ pos c (sL s) (R + 1) ∗ rc c (sL s) (R + 1) ∗ pIn m c (chunk c (stCls s) j) ∗ ow c (O3 c a b e) ∗ pos c (sS s) j ∗ rc c (sS s) j
      ∗ gd (1 ≤ j) (own c (stCls s) (j - 1) (fin m c)))
    (tr_stS m (chunk c (stCls s) j) s) (by unfold stI; iintro ⟨⟨HO, ⟨Hq, Hs, HF⟩, HG⟩, HS, Hp, Hr, HL, HI⟩; iframe) ?_
  refine Tr.frm iprop(pLd c s (slotF m c (chunk c (stCls s) j)) ∗ pos c (sL s) (R + 1) ∗ rc c (sL s) (R + 1) ∗ pIn m c (chunk c (stCls s) j) ∗ ow c (O3 c a b e) ∗ pos c (sS s) j
      ∗ gd (1 ≤ j) (own c (stCls s) (j - 1) (fin m c)))
    (tr_stC m (stCls s) j h s rfl (oin m c)) (by unfold StR own; iintro ⟨⟨HL, HS⟩, ⟨Ho, Ht⟩, Hp, Hr, HI, HO, Hq, Hs, HG⟩; iframe) ?_
  unfold stB ldI
  iintro ⟨Hc, HL, Hp, Hr, HI, HO, Hq, HG⟩
  iframe
  iexists _; iexact HL

/-- Wait for what the `y` neighbour sends, and for what the `x` neighbour sends. -/
theorem tr_Y (j : Fin 22) (h : ok c .my j) (b e : ℕ) :
    Tr m K c [iOppW c (sem22 cc0_scratch7 j) .my j h] iprop(ow c (O3 c 22 b e) ∗ cr c (sF 2 j) N16 ∗ pos c (sF 2 j) 0)
      iprop(ow c (O3 c 22 b e) ∗ pos c (sF 2 j) 1 ∗ oppB m c .my j) :=
  tr_oppW m 2 .my j h h 22 b e (.inr (by decide)) (.inl (by show 2 < 3 + b; omega)) (.inl (by show 2 < 100; decide))
theorem tr_X1 (j : Fin 22) (h : ok c .xn j) (b e : ℕ) (hb : j.val < b ∨ 22 ≤ b) :
    Tr m K c [iOppW c (sem22 cc0_scratch9 j) .xn j h] iprop(ow c (O3 c 22 b e) ∗ cr c (sF 4 j) N16 ∗ pos c (sF 4 j) 0)
      iprop(ow c (O3 c 22 b e) ∗ pos c (sF 4 j) 1 ∗ oppB m c .xn j) :=
  tr_oppW m 4 .xn j h h 22 b e (.inr (by decide)) (by show 3 + j.val < 3 + b ∨ _; omega) (.inl (by show 3 + j.val < 100; omega))

theorem opp_split (k : Cls) (j : ℕ) : oppB m c k j ⊢ iprop(oppL m c k j ∗ oppR m c k j) := (pOut_half (c := c) _ _).1

/-- Take a chunk from the `x` neighbour and pass it on if it is of the class sent along `z`. -/
theorem tr_X (j : Fin 21) (b e e' : ℕ) (hb : j.val < b ∨ 22 ≤ b) (he : Cls.sz.num c = Cls.xn.num c → e = j.val ∧ e' = j.val + 1)
    (he' : Cls.sz.num c ≠ Cls.xn.num c → e' = e) :
    Tr m K c (pX c j) iprop(ow c (O3 c 22 b e) ∗ RcvR c 4 j ∗ ZR m c .xn j)
      iprop(ow c (O3 c 22 b e') ∗ pos c (sF 4 j) 1 ∗ oppL m c .xn j ∗ ZD m c .xn j) := by
  show Tr m K c ([iOppW c (sem22 cc0_scratch9 (up j)) .xn (up j) (chunk_lt c _ _ j.isLt)] ++ [whenI (cSame c .xn) fun _ => [iZs c (up j) (chunk_lt c _ _ j.isLt)]]) _ _
  refine Tr.step (ZR m c .xn j) (tr_X1 (up j) (chunk_lt c _ _ j.isLt) b e hb) (by unfold RcvR; iintro ⟨HO, ⟨Hc, Hp⟩, HZ⟩; iframe) ?_
  refine Tr.frm iprop(pos c (sF 4 j) 1 ∗ oppL m c .xn j) (tr_send_z .xn (up j) (chunk_lt c _ _ j.isLt) 22 b e e' he he') ?_ ?_
  · iintro ⟨⟨HO, Hp, HP⟩, HZ⟩
    ihave HP2 := (opp_split (m := m) (c := c) .xn j.val) $$ HP
    icases HP2 with ⟨H1, H2⟩
    iframe
  · iintro ⟨⟨HO, HZ⟩, Hp, HL⟩
    iframe

end Cert.KernelIdeal.Prf
end
-- ==== Proof.LoopOne.lean ====
/-
# The loops of the kernel

For each loop what holds between its rounds, what a round takes and what it leaves.
-/
module

public import proofs.«01_k».proof.Proof.Stages

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] cSame cTail cBoth Cls.num

variable (m : (ℓ : Loc nD τ sig) → Buf (Elt F) ℓ) (c : Dev nD)

variable {m c} {K : Dev nD × SemLoc sig → ℕ}

/-! ## Loads under a condition -/

theorem tr_load_when (k : Cls) (s : Fin 2) (R : ℕ) (hl : ok c k 21 → ldAt c s R = (k, 21)) :
    Tr m K c [whenI (cTail c k) fun h => [iLd c k 21 (chunk_tail c _ h) s]] iprop(ldI c s R ∗ gd (ok c k 21) (LdR m c k s 21 R)) (ldA c (ok c k 21) s R) := by
  refine Tr.when (fun hb => ?_) (fun hb => ?_)
  · have h := (ok_tail k).1 hb
    rw [gd_pos h, ldA_pos h]
    exact tr_load k 21 h s R (hl h)
  · have h : ¬ok c k 21 := fun h => hb ((ok_tail k).2 h)
    rw [gd_neg h, ldA_neg h]
    iintro ⟨H, -⟩; iexact H

theorem tr_load_pick (k : Cls) (s s' : Fin 2) (j : ℕ) (hj : j < 21) (hs : j + 1 = 21 → s' = s) (R : ℕ) (hl : ok c k (j + 1) → ldAt c s R = (k, j + 1)) :
    Tr m K c [pick (Nat.blt (j + 1) 21) (fun h => iLd c k (j + 1) (chunk_lt c _ _ (blt_lt h)) s) (whenI (cTail c k) fun h => [iLd c k 21 (chunk_tail c _ h) s'])]
      iprop(ldI c s R ∗ gd (ok c k (j + 1)) (LdR m c k s (j + 1) R)) (ldA c (ok c k (j + 1)) s R) := by
  refine Tr.pick (fun hb => ?_) (fun hb => ?_)
  · have h : ok c k (j + 1) := ok_lt k (blt_lt hb)
    rw [gd_pos h, ldA_pos h]
    exact tr_load k (j + 1) h s R (hl h)
  · have hn : ¬j + 1 < 21 := fun h => by
      have h' : Nat.blt (j + 1) 21 = true := by rw [Nat.blt_eq]; exact h
      rw [h'] at hb
      exact absurd hb (by decide)
    have e : j + 1 = 21 := by omega
    rw [hs e]
    revert hl
    rw [e]
    exact tr_load_when k s R

/-! ## The first loop -/

variable (m c)

def I1 (j : ℕ) : sProp 𝕄 := iprop(ow c (O3 c j 0 0) ∗ ldA c (ok c .my j) (par j) (j / 2) ∗ ldI c (par (j + 1)) ((j + 1) / 2))
def R1 (j : ℕ) : sProp 𝕄 := iprop(gd (ok c .my (j + 1)) (LdR m c .my (par (j + 1)) (j + 1) ((j + 1) / 2)) ∗ MineR m c j ∗ SndR m c 0 j)
def D1 (j : ℕ) : sProp 𝕄 := iprop(pIn m c (chunk c .my j) ∗ cr c (sF 0 j) N16 ∗ cr c (sF 1 j) N16)

variable {m c}

theorem tr_one (j : Fin 21) : Tr m K c (pOne c j) iprop(I1 c j ∗ R1 m c j) iprop(I1 c (j.val + 1) ∗ D1 m c j) := by
  have hj : ok c .my j := ok_lt _ j.isLt
  have e1 : par (j.val + 1 + 1) = par j.val := Fin.ext (by show (j.val + 1 + 1) % 2 = j.val % 2; omega)
  have e2 : (j.val + 1 + 1) / 2 = j.val / 2 + 1 := by omega
  unfold I1 R1 D1
  rw [ldA_pos hj, e1, e2]
  show Tr m K c ([pick (Nat.blt (j.val + 1) 21) (fun h => iLd c .my (j.val + 1) (chunk_lt c _ _ (blt_lt h)) (par (j.val + 1)))
    (whenI (cTail c .my) fun h => [iLd c .my 21 (chunk_tail c _ h) 1])] ++ (pMine c (up j) (chunk_lt c _ _ j.isLt) ++ [iYs c (up j) (chunk_lt c _ _ j.isLt)])) _ _
  refine Tr.step iprop(ow c (O3 c j 0 0) ∗ ldB c (par j) (j.val / 2) ∗ MineR m c j ∗ SndR m c 0 j)
    (tr_load_pick .my (par (j.val + 1)) 1 j j.isLt (fun h => by rw [h]; rfl) ((j.val + 1) / 2) (fun h => ldAt_my h))
    (by iintro ⟨⟨HO, HB, HI⟩, HL, HM, HS⟩; iframe) ?_
  refine Tr.step iprop(ldA c (ok c .my (j.val + 1)) (par (j.val + 1)) ((j.val + 1) / 2) ∗ SndR m c 0 j)
    (tr_mine (up j) hj (par j) (j.val / 2) rfl (ldAt_my hj) j 0 0) (by iintro ⟨HA, HO, HB, HM, HS⟩; iframe) ?_
  exact Tr.frm iprop(ldI c (par j) (j.val / 2 + 1) ∗ pIn m c (chunk c .my j) ∗ cr c (sF 0 j) N16 ∗ ldA c (ok c .my (j.val + 1)) (par (j.val + 1)) ((j.val + 1) / 2))
    (tr_send_y (up j) hj 0 0) (by iintro ⟨⟨HO, HI, Hi, Hc, HM⟩, HA, HS⟩; iframe) (by iintro ⟨⟨HO, Hs⟩, HI, Hi, Hc, HA⟩; iframe)

/-- The last round. -/
theorem tr_one_end : Tr m K c (pOneEnd c)
    iprop(I1 c 21 ∗ LdR m c .ta 0 0 11 ∗ gd (ok c .my 21) iprop(MineR m c 21 ∗ SndR m c 0 21))
    iprop(ow c (O3 c 22 0 0) ∗ ldB c 0 11 ∗ ldI c 1 (odd c) ∗ gd (ok c .my 21) (D1 m c 21)) := by
  show Tr m K c ([iLd c .ta 0 (chunk_lt c _ _ (by omega)) 0] ++ ([whenI (cTail c .my) fun h => pMine c lst (chunk_tail c _ h)]
    ++ [whenI (cTail c .my) fun h => [iYs c lst (chunk_tail c _ h)]])) _ _
  unfold I1 D1
  refine Tr.step iprop(ow c (O3 c 21 0 0) ∗ ldA c (ok c .my 21) (par 21) (21 / 2) ∗ gd (ok c .my 21) iprop(MineR m c 21 ∗ SndR m c 0 21))
    (tr_load .ta 0 (ok_lt _ (by decide)) 0 11 (ldAt_ta 0)) (by iintro ⟨⟨HO, HA, HI⟩, HL, HG⟩; rw [show par (21 + 1) = 0 from rfl]; iframe) ?_
  by_cases h : ok c .my 21
  · rw [gd_pos h, gd_pos h, ldA_pos h, show odd c = 21 / 2 + 1 from by
      unfold odd; rw [if_pos]
      have : 3 * 21 + Cls.my.num c < 64 := h
      omega]
    refine Tr.app (B := iprop((ow c (O3 c 21 0 0) ∗ pMi c 21 fullShare.right (mineF m c) ∗ SndR m c 0 21) ∗ ldB c 0 11 ∗ ldI c 1 (21 / 2 + 1) ∗ pIn m c (chunk c .my 21) ∗ cr c (sF 0 21) N16)) ?_ ?_
    · refine Tr.when (fun hb => ?_) (fun hb => absurd ((ok_tail _).2 h) hb)
      exact Tr.frm iprop(ldB c 0 11 ∗ SndR m c 0 21) (tr_mine lst h 1 (21 / 2) rfl (ldAt_my (j := 21) h) 21 0 0)
        (by rw [show par 21 = 1 from rfl]; iintro ⟨HB, HO, HA, HM, HS⟩; iframe) (by iintro ⟨⟨HO, HI, Hi, Hc, HM⟩, HB, HS⟩; iframe)
    · refine Tr.when (fun hb => ?_) (fun hb => absurd ((ok_tail _).2 h) hb)
      exact Tr.frm iprop(ldB c 0 11 ∗ ldI c 1 (21 / 2 + 1) ∗ pIn m c (chunk c .my 21) ∗ cr c (sF 0 21) N16) (tr_send_y lst h 0 0) (BI.Entails.refl _)
        (by iintro ⟨⟨HO, Hs⟩, HB, HI, Hi, Hc⟩; iframe)
  · rw [gd_neg h, gd_neg h, ldA_neg h, show odd c = 21 / 2 from by
      unfold odd; rw [if_neg]
      intro h0
      exact h (show 3 * 21 + Cls.my.num c < 64 by omega)]
    refine Tr.app (B := iprop(ow c (O3 c 21 0 0) ∗ ldB c 0 11 ∗ ldI c 1 (21 / 2))) ?_ ?_
    · exact Tr.when (fun hb => absurd ((ok_tail _).1 hb) h) (fun hb => by rw [show par 21 = 1 from rfl]; iintro ⟨HB, HO, HI, -⟩; iframe)
    · refine Tr.when (fun hb => absurd ((ok_tail _).1 hb) h) (fun hb => ?_)
      rw [show O3 c 21 0 0 = O3 c 22 0 0 from by unfold O3; rw [OT_skip 0 c 21 (by decide) h]]
      iintro ⟨HO, HB, HI⟩; iframe

end Cert.KernelIdeal.Prf
end
-- ==== Proof.LoopTwo.lean ====
/-
# The second loop

What holds between its rounds, what a round takes and what it leaves, and its last rounds.
-/
module

public import proofs.«01_k».proof.Proof.LoopOne

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] cSame cTail cBoth Cls.num

variable (m : (ℓ : Loc nD τ sig) → Buf (Elt F) ℓ) (c : Dev nD)

/-! ## States -/

/-- The number of sends along `z` at the start of a round. -/
def e2 (j : ℕ) : ℕ := if Cls.sz.num c = Cls.my.num c then j else j - 2
/-- What is left of a chunk of the class `xn`. -/
def XD (j : ℕ) : sProp 𝕄 := iprop(pos c (sF 4 j) 1 ∗ oppL m c .xn j ∗ ZD m c .xn j)
/-- What is taken and left for a chunk of the class `my`. -/
def YR (j : ℕ) : sProp 𝕄 := iprop(RcvR c 2 j ∗ SndR m c 1 j ∗ ZR m c .my j)
def YD (j : ℕ) : sProp 𝕄 := iprop(pos c (sF 2 j) 1 ∗ cr c (sF 3 j) N16 ∗ ZD m c .my j)
/-- What is taken and left for the own chunks of the two other classes. -/
def TR (j : ℕ) : sProp 𝕄 := iprop(LdR m c .tb 1 j (odd c + j) ∗ gd (ok c .ta (j + 1)) (LdR m c .ta 0 (j + 1) (11 + (j + 1))) ∗ StR m c .ta 0 j ∗ StR m c .tb 1 j)
def TD (j : ℕ) : sProp 𝕄 :=
  iprop(pIn m c (chunk c .ta j) ∗ pIn m c (chunk c .tb j) ∗ gd (1 ≤ j) (own c .ta (j - 1) (fin m c)) ∗ gd (1 ≤ j) (own c .tb (j - 1) (fin m c)))

def I2 (j : ℕ) : sProp 𝕄 :=
  iprop(ow c (O3 c 22 j (e2 c j)) ∗ ldA c (ok c .ta j) 0 (11 + j) ∗ ldI c 1 (odd c + j) ∗ stX c 0 j ∗ stX c 1 j)
def R2 (j : ℕ) : sProp 𝕄 := iprop(TR m c j ∗ YR m c j ∗ gd (2 ≤ j) iprop(RcvR c 4 (j - 2) ∗ ZR m c .xn (j - 2)))
def D2 (j : ℕ) : sProp 𝕄 := iprop(TD m c j ∗ YD m c j ∗ gd (2 ≤ j) (XD m c (j - 2)))

variable {m c} {K : Dev nD × SemLoc sig → ℕ}

theorem stX_succ (s : Fin 2) (j : ℕ) : stX (F := F) c s (j + 1) = stB c s j := by
  unfold stX
  rw [if_neg (Nat.succ_ne_zero j), Nat.add_sub_cancel]

/-! ## A round -/

theorem tr_YX (j : Fin 21) (e e' : ℕ) (he : Cls.sz.num c = Cls.my.num c → e = j.val ∧ e' = j.val + 1) (he' : Cls.sz.num c ≠ Cls.my.num c → e' = e) :
    Tr m K c [iOppW c (sem22 cc0_scratch7 (up j)) .my j (chunk_lt c _ _ j.isLt), iXs c (up j) (chunk_lt c _ _ j.isLt),
        whenI (cSame c .my) fun _ => [iZs c (up j) (chunk_lt c _ _ j.isLt)]]
      iprop(ow c (O3 c 22 j e) ∗ YR m c j) iprop(ow c (O3 c 22 (j.val + 1) e') ∗ YD m c j) := by
  have hj : ok c .my j := ok_lt _ j.isLt
  unfold YR YD
  show Tr m K c ([iOppW c (sem22 cc0_scratch7 (up j)) .my (up j) (chunk_lt c _ _ j.isLt)] ++ ([iXs c (up j) (chunk_lt c _ _ j.isLt)] ++
    [whenI (cSame c .my) fun _ => [iZs c (up j) (chunk_lt c _ _ j.isLt)]])) _ _
  refine Tr.step iprop(SndR m c 1 j ∗ ZR m c .my j) (tr_Y (up j) hj j e) (by unfold RcvR; iintro ⟨HO, ⟨Hc, Hp⟩, HS, HZ⟩; iframe) ?_
  refine Tr.step iprop(pos c (sF 2 j) 1 ∗ oppR m c .my j ∗ ZR m c .my j) (tr_send_x (up j) hj 22 e) ?_ ?_
  · iintro ⟨⟨HO, Hp, HB⟩, HS, HZ⟩
    ihave HB := (opp_split .my j.val) $$ HB
    icases HB with ⟨HL, HR⟩
    iframe
  · exact Tr.frm iprop(pos c (sF 2 j) 1 ∗ cr c (sF 3 j) N16) (tr_send_z .my (up j) (chunk_lt c _ _ j.isLt) 22 (j.val + 1) e e' he he')
      (by iintro ⟨⟨HO, Hc⟩, Hp, HR, HZ⟩; iframe) (by iintro ⟨⟨HO, HD⟩, Hp, Hc⟩; iframe)

theorem tr_two (j : Fin 21) : Tr m K c (pTwo c j) iprop(I2 c j ∗ R2 m c j) iprop(I2 c (j.val + 1) ∗ D2 m c j) := by
  have ha : ok c .ta j := ok_lt _ j.isLt
  have hb : ok c .tb j := ok_lt _ j.isLt
  obtain ⟨e', h1, h1', h2, h2'⟩ : ∃ e', (Cls.sz.num c = Cls.my.num c → e2 c j = j.val ∧ e' = j.val + 1) ∧ (Cls.sz.num c ≠ Cls.my.num c → e' = e2 c j)
      ∧ (2 ≤ j.val → (Cls.sz.num c = Cls.xn.num c → e' = j.val - 2 ∧ e2 c (j.val + 1) = j.val - 2 + 1) ∧ (Cls.sz.num c ≠ Cls.xn.num c → e2 c (j.val + 1) = e'))
      ∧ (¬2 ≤ j.val → e2 c (j.val + 1) = e') := by
    unfold e2
    rcases sz_or c with ⟨h, h'⟩ | ⟨h, h'⟩
    · refine ⟨j.val + 1, fun _ => ⟨if_pos h, rfl⟩, fun h' => absurd h h', fun _ => ⟨fun h => absurd h h', fun _ => if_pos h⟩, fun _ => if_pos h⟩
    · rw [if_neg h, if_neg h]
      exact ⟨j.val - 2, fun h' => absurd h' h, fun _ => rfl, fun _ => ⟨fun _ => ⟨rfl, by omega⟩, fun h => absurd h' h⟩, fun _ => by omega⟩
  unfold I2 R2 D2 TR TD
  rw [ldA_pos ha, stX_succ, stX_succ]
  refine Tr.step iprop(ow c (O3 c 22 j (e2 c j)) ∗ ldB c 0 (11 + j.val) ∗ stX c 0 j ∗ stX c 1 j ∗ gd (ok c .ta (j.val + 1)) (LdR m c .ta 0 (j.val + 1) (11 + (j.val + 1)))
      ∗ StR m c .ta 0 j ∗ StR m c .tb 1 j ∗ YR m c j ∗ gd (2 ≤ j.val) iprop(RcvR c 4 (j.val - 2) ∗ ZR m c .xn (j.val - 2)))
    (tr_load .tb j hb 1 (odd c + j.val) (ldAt_tb j)) (by iintro ⟨⟨HO, HA, HI, H0, H1⟩, ⟨HL, HG, Ha, Hb⟩, HY, HX⟩; iframe) ?_
  refine Tr.step iprop(ldB c 1 (odd c + j.val) ∗ stX c 1 j ∗ gd (ok c .ta (j.val + 1)) (LdR m c .ta 0 (j.val + 1) (11 + (j.val + 1)))
      ∗ StR m c .tb 1 j ∗ YR m c j ∗ gd (2 ≤ j.val) iprop(RcvR c 4 (j.val - 2) ∗ ZR m c .xn (j.val - 2)))
    (tr_stage (Nat.blt 0 j.val) .ta 0 j ha rfl rfl (11 + j.val) (ldAt_ta j) 22 j (e2 c j))
    (by iintro ⟨HB, HO, HA, H0, H1, HG, Ha, Hb, HY, HX⟩; iframe) ?_
  refine Tr.step iprop(ow c (O3 c 22 j (e2 c j)) ∗ pIn m c (chunk c .ta j) ∗ stB c 0 j ∗ gd (1 ≤ j.val) (own c .ta (j.val - 1) (fin m c)) ∗
      ldB c 1 (odd c + j.val) ∗ stX c 1 j ∗ StR m c .tb 1 j ∗ YR m c j ∗ gd (2 ≤ j.val) iprop(RcvR c 4 (j.val - 2) ∗ ZR m c .xn (j.val - 2)))
    (tr_load_pick .ta 0 0 j j.isLt (fun _ => rfl) (11 + (j.val + 1)) (fun _ => ldAt_ta _))
    (by iintro ⟨⟨HO, HI, Hi, HS, Hg⟩, HB, H1, HG, Hb, HY, HX⟩; iframe) ?_
  refine Tr.step iprop(ldA c (ok c .ta (j.val + 1)) 0 (11 + (j.val + 1)) ∗ pIn m c (chunk c .ta j) ∗ stB c 0 j ∗ gd (1 ≤ j.val) (own c .ta (j.val - 1) (fin m c)) ∗
      YR m c j ∗ gd (2 ≤ j.val) iprop(RcvR c 4 (j.val - 2) ∗ ZR m c .xn (j.val - 2)))
    (tr_stage (Nat.blt 0 j.val) .tb 1 j hb rfl rfl (odd c + j.val) (ldAt_tb j) 22 j (e2 c j))
    (by iintro ⟨HA, HO, Hi, HS, Hg, HB, H1, Hb, HY, HX⟩; iframe) ?_
  refine Tr.step iprop(ldI c 1 (odd c + j.val + 1) ∗ pIn m c (chunk c .tb j) ∗ stB c 1 j ∗ gd (1 ≤ j.val) (own c .tb (j.val - 1) (fin m c)) ∗
      ldA c (ok c .ta (j.val + 1)) 0 (11 + (j.val + 1)) ∗ pIn m c (chunk c .ta j) ∗ stB c 0 j ∗ gd (1 ≤ j.val) (own c .ta (j.val - 1) (fin m c)) ∗
      gd (2 ≤ j.val) iprop(RcvR c 4 (j.val - 2) ∗ ZR m c .xn (j.val - 2)))
    (tr_YX j (e2 c j) e' h1 h1')
    (by iintro ⟨⟨HO, HI, Hj, HT, Hh⟩, HA, Hi, HS, Hg, HY, HX⟩; iframe) ?_
  refine Tr.frm (A := iprop(ow c (O3 c 22 (j.val + 1) e') ∗ gd (2 ≤ j.val) iprop(RcvR c 4 (j.val - 2) ∗ ZR m c .xn (j.val - 2))))
    (B := iprop(ow c (O3 c 22 (j.val + 1) (e2 c (j.val + 1))) ∗ gd (2 ≤ j.val) (XD m c (j.val - 2))))
    iprop(ldI c 1 (odd c + j.val + 1) ∗ pIn m c (chunk c .tb j) ∗ stB c 1 j ∗ gd (1 ≤ j.val) (own c .tb (j.val - 1) (fin m c)) ∗
      ldA c (ok c .ta (j.val + 1)) 0 (11 + (j.val + 1)) ∗ pIn m c (chunk c .ta j) ∗ stB c 0 j ∗ gd (1 ≤ j.val) (own c .ta (j.val - 1) (fin m c)) ∗ YD m c j)
    ?_ (by iintro ⟨⟨HO, HY⟩, HI, Hj, HT, Hh, HA, Hi, HS, Hg, HX⟩; iframe)
    (by rw [← Nat.add_assoc]; iintro ⟨⟨HO, HX⟩, HI, Hj, HT, Hh, HA, Hi, HS, Hg, HY⟩; iframe)
  refine Tr.pickL (fun hb => ?_) (fun hb => ?_)
  · have h : 2 ≤ j.val := blt_lt hb
    rw [gd_pos h, gd_pos h]
    exact tr_X ⟨j.val - 2, by omega⟩ (j.val + 1) e' (e2 c (j.val + 1)) (.inl (by show j.val - 2 < j.val + 1; omega)) (h2 h).1 (h2 h).2
  · have h : ¬2 ≤ j.val := fun h => by
      have h' : Nat.blt 1 j.val = true := by rw [Nat.blt_eq]; omega
      rw [h'] at hb
      exact absurd hb (by decide)
    rw [gd_neg h, gd_neg h, h2' h]
    exact Tr.nil (BI.Entails.refl _)

/-! ## The last rounds -/

variable (c)

/-- How many chunks a class has. -/
def cnt (k : Cls) : ℕ := if ok c k 21 then 22 else 21

variable {c}

theorem cnt_pos {k : Cls} (h : ok c k 21) : cnt c k = 22 := if_pos h
theorem cnt_neg {k : Cls} (h : ¬ok c k 21) : cnt c k = 21 := if_neg h

theorem tr_tail_stage (k : Cls) (s : Fin 2) (hs : stCls s = k) (R : ℕ) (hl : ldAt c s (R + 21) = (k, 21)) (a b e : ℕ) :
    Tr m K c [whenI (cTail c k) fun h => pStage c true k s 21 (chunk_tail c _ h)]
      iprop(ow c (O3 c a b e) ∗ ldA c (ok c k 21) s (R + 21) ∗ stB c s 20 ∗ gd (ok c k 21) (StR m c k s 21))
      iprop(ow c (O3 c a b e) ∗ ldI c s (R + cnt c k) ∗ stB c s (cnt c k - 1) ∗ gd (ok c k 21) iprop(pIn m c (chunk c k 21) ∗ own c k 20 (fin m c))) := by
  by_cases h : ok c k 21
  · rw [ldA_pos h, gd_pos h, gd_pos h, cnt_pos h]
    refine Tr.when (fun hb => ?_) (fun hb => absurd ((ok_tail _).2 h) hb)
    refine Tr.frm iprop(emp) (tr_stage true k s 21 h rfl hs (R + 21) hl a b e) (by rw [stX_succ s 20]; iintro ⟨HO, HL, HS, HR⟩; iframe) ?_
    rw [gd_pos (show 1 ≤ 21 by decide)]
    iintro ⟨⟨HO, HI, Hi, HS, Ho⟩, -⟩; iframe
  · rw [ldA_neg h, gd_neg h, gd_neg h, cnt_neg h]
    exact Tr.when (fun hb => absurd ((ok_tail _).1 hb) h) (fun hb => BI.Entails.refl _)

theorem sz_pos (c : Dev nD) : Cls.sz.num c ≠ 0 := by revert c; decide +kernel
theorem miss_pos (c : Dev nD) : Cls.miss.num c ≠ 0 := by revert c; decide +kernel
theorem ok_zero {k : Cls} (h : ok c k 21) : k.num c = 0 := by
  have : 3 * 21 + k.num c < 64 := h
  omega
theorem sz_ne {k : Cls} (h : ok c k 21) : Cls.sz.num c ≠ k.num c := by
  rw [ok_zero h]; exact sz_pos c
theorem sz_no : ¬ok c .sz 21 := fun h => sz_pos c (ok_zero h)
theorem miss_no : ¬ok c .miss 21 := fun h => miss_pos c (ok_zero h)

/-- Nothing is sent along `z` in the last round. -/
theorem tr_no_z (k : Cls) (A : sProp 𝕄) : Tr m K c [whenI (cBoth c k) fun h => [iZs c lst (both_no (cBoth_eq c _) h)]] A A :=
  Tr.when (fun hb => ((cBoth_eq c k).1 hb).elim) (fun _ => BI.Entails.refl _)

theorem tr_tail_Y (e : ℕ) :
    Tr m K c [whenI (cTail c .my) fun h => [iOppW c (sem22 cc0_scratch7 lst) .my 21 (chunk_tail c _ h), iXs c lst (chunk_tail c _ h)]]
      iprop(ow c (O3 c 22 21 e) ∗ gd (ok c .my 21) (YR m c 21)) iprop(ow c (O3 c 22 22 e) ∗ gd (ok c .my 21) (YD m c 21)) := by
  by_cases h : ok c .my 21
  · rw [gd_pos h, gd_pos h]
    unfold YR YD ZD
    rw [if_neg (sz_ne h)]
    refine Tr.when (fun hb => ?_) (fun hb => absurd ((ok_tail _).2 h) hb)
    show Tr m K c ([iOppW c (sem22 cc0_scratch7 lst) .my lst (chunk_tail c _ hb)] ++ [iXs c lst (chunk_tail c _ hb)]) _ _
    refine Tr.step (SndR m c 1 21) (tr_Y lst h 21 e) (by unfold RcvR; iintro ⟨HO, ⟨Hc, Hp⟩, HS, -⟩; iframe) ?_
    refine Tr.frm iprop(pos c (sF 2 21) 1 ∗ oppR m c .my 21) (tr_send_x lst h 22 e) ?_ (by iintro ⟨⟨HO, Hc⟩, Hp, HR⟩; iframe)
    iintro ⟨⟨HO, Hp, HB⟩, HS⟩
    ihave HB := (opp_split .my 21) $$ HB
    icases HB with ⟨HL, HR⟩
    iframe
  · rw [gd_neg h, gd_neg h]
    refine Tr.when (fun hb => absurd ((ok_tail _).1 hb) h) (fun hb => ?_)
    rw [show O3 c 22 21 e = O3 c 22 22 e from by unfold O3; rw [OT_skip 1 c 21 (by decide) h]]

theorem tr_tail_X (e : ℕ) :
    Tr m K c [whenI (cTail c .xn) fun h => [iOppW c (sem22 cc0_scratch9 lst) .xn 21 (chunk_tail c _ h)]]
      iprop(ow c (O3 c 22 22 e) ∗ gd (ok c .xn 21) iprop(RcvR c 4 21 ∗ ZR m c .xn 21)) iprop(ow c (O3 c 22 22 e) ∗ gd (ok c .xn 21) (XD m c 21)) := by
  by_cases h : ok c .xn 21
  · rw [gd_pos h, gd_pos h]
    unfold XD ZD
    rw [if_neg (sz_ne h)]
    refine Tr.when (fun hb => ?_) (fun hb => absurd ((ok_tail _).2 h) hb)
    refine Tr.frm iprop(emp) (tr_X1 lst h 22 e (.inr (le_refl _))) (by unfold RcvR; iintro ⟨HO, ⟨Hc, Hp⟩, -⟩; iframe) ?_
    iintro ⟨⟨HO, Hp, HB⟩, -⟩
    ihave HB := (opp_split .xn 21) $$ HB
    icases HB with ⟨HL, HR⟩
    iframe
  · rw [gd_neg h, gd_neg h]
    exact Tr.when (fun hb => absurd ((ok_tail _).1 hb) h) (fun hb => BI.Entails.refl _)

theorem tr_X_at (j : Fin 21) (n : ℕ) (hn : j.val = n) (e e' : ℕ) (he : Cls.sz.num c = Cls.xn.num c → e = n ∧ e' = n + 1) (he' : Cls.sz.num c ≠ Cls.xn.num c → e' = e) :
    Tr m K c (pX c j) iprop(ow c (O3 c 22 22 e) ∗ RcvR c 4 n ∗ ZR m c .xn n) iprop(ow c (O3 c 22 22 e') ∗ XD m c n) := by
  subst hn
  exact tr_X j 22 e e' (.inr (le_refl _)) he he'

/-- What the last rounds take, and what they leave. -/
def E2 (m : (ℓ : Loc nD τ sig) → Buf (Elt F) ℓ) (c : Dev nD) : sProp 𝕄 :=
  iprop((gd (ok c .tb 21) (LdR m c .tb 1 21 (odd c + 21)) ∗ gd (ok c .ta 21) (StR m c .ta 0 21) ∗ gd (ok c .tb 21) (StR m c .tb 1 21))
    ∗ gd (ok c .my 21) (YR m c 21) ∗ (RcvR c 4 19 ∗ ZR m c .xn 19) ∗ (RcvR c 4 20 ∗ ZR m c .xn 20) ∗ gd (ok c .xn 21) iprop(RcvR c 4 21 ∗ ZR m c .xn 21))
def F2 (m : (ℓ : Loc nD τ sig) → Buf (Elt F) ℓ) (c : Dev nD) : sProp 𝕄 :=
  iprop((ldI c 0 (11 + cnt c .ta) ∗ ldI c 1 (odd c + cnt c .tb) ∗ stB c 0 (cnt c .ta - 1) ∗ stB c 1 (cnt c .tb - 1)
      ∗ gd (ok c .ta 21) iprop(pIn m c (chunk c .ta 21) ∗ own c .ta 20 (fin m c)) ∗ gd (ok c .tb 21) iprop(pIn m c (chunk c .tb 21) ∗ own c .tb 20 (fin m c)))
    ∗ gd (ok c .my 21) (YD m c 21) ∗ XD m c 19 ∗ XD m c 20 ∗ gd (ok c .xn 21) (XD m c 21))

theorem e2_end (c : Dev nD) : ∃ e', (Cls.sz.num c = Cls.xn.num c → e2 c 21 = 19 ∧ e' = 19 + 1) ∧ (Cls.sz.num c ≠ Cls.xn.num c → e' = e2 c 21)
    ∧ (Cls.sz.num c = Cls.xn.num c → e' = 20 ∧ 21 = 20 + 1) ∧ (Cls.sz.num c ≠ Cls.xn.num c → 21 = e') := by
  unfold e2
  rcases sz_or c with ⟨h, h'⟩ | ⟨h, h'⟩
  · rw [if_pos h]
    exact ⟨21, fun h => absurd h h', fun _ => rfl, fun h => absurd h h', fun _ => rfl⟩
  · rw [if_neg h]
    exact ⟨20, fun _ => ⟨rfl, rfl⟩, fun h => absurd h' h, fun _ => ⟨rfl, rfl⟩, fun h => absurd h' h⟩

theorem e22 (c : Dev nD) : O3 c 22 22 21 = O3 c 22 22 22 := by unfold O3; rw [OT_skip 2 c 21 (by decide) sz_no]

theorem two_end_eq : pTwoEnd (F := F) c = [whenI (cTail c .tb) fun h => [iLd c .tb 21 (chunk_tail c _ h) 1]] ++
    ([whenI (cTail c .ta) fun h => pStage c true .ta 0 21 (chunk_tail c _ h)] ++
    ([whenI (cTail c .tb) fun h => pStage c true .tb 1 21 (chunk_tail c _ h)] ++
    ([whenI (cTail c .my) fun h => [iOppW c (sem22 cc0_scratch7 lst) .my 21 (chunk_tail c _ h), iXs c lst (chunk_tail c _ h)]] ++
    ([whenI (cBoth c .my) fun h => [iZs c lst (both_no (cBoth_eq c _) h)]] ++ (pX c 19 ++ (pX c 20 ++
    ([whenI (cTail c .xn) fun h => [iOppW c (sem22 cc0_scratch9 lst) .xn 21 (chunk_tail c _ h)]] ++
    [whenI (cBoth c .xn) fun h => [iZs c lst (both_no (cBoth_eq c _) h)]]))))))) := by
  unfold pTwoEnd
  simp only [List.cons_append, List.nil_append]

theorem tr_two_end : Tr m K c (pTwoEnd c) iprop(I2 c 21 ∗ E2 m c) iprop(ow c (O3 c 22 22 22) ∗ F2 m c) := by
  obtain ⟨e', h1, h1', h2, h2'⟩ := e2_end c
  unfold I2 E2 F2
  rw [stX_succ 0 20, stX_succ 1 20]
  rw [two_end_eq]
  refine Tr.step iprop(ow c (O3 c 22 21 (e2 c 21)) ∗ ldA c (ok c .ta 21) 0 (11 + 21) ∗ stB c 0 20 ∗ stB c 1 20 ∗ gd (ok c .ta 21) (StR m c .ta 0 21) ∗ gd (ok c .tb 21) (StR m c .tb 1 21)
      ∗ gd (ok c .my 21) (YR m c 21) ∗ (RcvR c 4 19 ∗ ZR m c .xn 19) ∗ (RcvR c 4 20 ∗ ZR m c .xn 20) ∗ gd (ok c .xn 21) iprop(RcvR c 4 21 ∗ ZR m c .xn 21))
    (tr_load_when .tb 1 (odd c + 21) (fun _ => ldAt_tb 21)) (by iintro ⟨⟨HO, HA, HI, H0, H1⟩, ⟨HL, Ha, Hb⟩, HY, Hx, Hy, HX⟩; iframe) ?_
  refine Tr.step iprop(ldA c (ok c .tb 21) 1 (odd c + 21) ∗ stB c 1 20 ∗ gd (ok c .tb 21) (StR m c .tb 1 21)
      ∗ gd (ok c .my 21) (YR m c 21) ∗ (RcvR c 4 19 ∗ ZR m c .xn 19) ∗ (RcvR c 4 20 ∗ ZR m c .xn 20) ∗ gd (ok c .xn 21) iprop(RcvR c 4 21 ∗ ZR m c .xn 21))
    (tr_tail_stage .ta 0 rfl 11 (ldAt_ta 21) 22 21 (e2 c 21)) (by iintro ⟨HB, HO, HA, H0, H1, Ha, Hb, HY, Hx, Hy, HX⟩; iframe) ?_
  refine Tr.step iprop((ldI c 0 (11 + cnt c .ta) ∗ stB c 0 (cnt c .ta - 1) ∗ gd (ok c .ta 21) iprop(pIn m c (chunk c .ta 21) ∗ own c .ta 20 (fin m c)))
      ∗ gd (ok c .my 21) (YR m c 21) ∗ (RcvR c 4 19 ∗ ZR m c .xn 19) ∗ (RcvR c 4 20 ∗ ZR m c .xn 20) ∗ gd (ok c .xn 21) iprop(RcvR c 4 21 ∗ ZR m c .xn 21))
    (tr_tail_stage .tb 1 rfl (odd c) (ldAt_tb 21) 22 21 (e2 c 21)) (by iintro ⟨⟨HO, HI, HS, HG⟩, HB, H1, Hb, HY, Hx, Hy, HX⟩; iframe) ?_
  refine Tr.step iprop((ldI c 0 (11 + cnt c .ta) ∗ ldI c 1 (odd c + cnt c .tb) ∗ stB c 0 (cnt c .ta - 1) ∗ stB c 1 (cnt c .tb - 1)
      ∗ gd (ok c .ta 21) iprop(pIn m c (chunk c .ta 21) ∗ own c .ta 20 (fin m c)) ∗ gd (ok c .tb 21) iprop(pIn m c (chunk c .tb 21) ∗ own c .tb 20 (fin m c)))
      ∗ (RcvR c 4 19 ∗ ZR m c .xn 19) ∗ (RcvR c 4 20 ∗ ZR m c .xn 20) ∗ gd (ok c .xn 21) iprop(RcvR c 4 21 ∗ ZR m c .xn 21))
    (tr_tail_Y (e2 c 21)) (by iintro ⟨⟨HO, HI, HS, HG⟩, ⟨Hi, Hs, Hg⟩, HY, Hx, Hy, HX⟩; iframe) ?_
  refine Tr.app (tr_no_z .my _) ?_
  refine Tr.step iprop((ldI c 0 (11 + cnt c .ta) ∗ ldI c 1 (odd c + cnt c .tb) ∗ stB c 0 (cnt c .ta - 1) ∗ stB c 1 (cnt c .tb - 1)
      ∗ gd (ok c .ta 21) iprop(pIn m c (chunk c .ta 21) ∗ own c .ta 20 (fin m c)) ∗ gd (ok c .tb 21) iprop(pIn m c (chunk c .tb 21) ∗ own c .tb 20 (fin m c)))
      ∗ gd (ok c .my 21) (YD m c 21) ∗ (RcvR c 4 20 ∗ ZR m c .xn 20) ∗ gd (ok c .xn 21) iprop(RcvR c 4 21 ∗ ZR m c .xn 21))
    (tr_X_at 19 19 rfl (e2 c 21) e' h1 h1') (by iintro ⟨⟨HO, HY⟩, HA, Hx, Hy, HX⟩; iframe) ?_
  refine Tr.step iprop((ldI c 0 (11 + cnt c .ta) ∗ ldI c 1 (odd c + cnt c .tb) ∗ stB c 0 (cnt c .ta - 1) ∗ stB c 1 (cnt c .tb - 1)
      ∗ gd (ok c .ta 21) iprop(pIn m c (chunk c .ta 21) ∗ own c .ta 20 (fin m c)) ∗ gd (ok c .tb 21) iprop(pIn m c (chunk c .tb 21) ∗ own c .tb 20 (fin m c)))
      ∗ gd (ok c .my 21) (YD m c 21) ∗ XD m c 19 ∗ gd (ok c .xn 21) iprop(RcvR c 4 21 ∗ ZR m c .xn 21))
    (tr_X_at 20 20 rfl e' 21 h2 h2') (by iintro ⟨⟨HO, HD⟩, HA, HY, Hy, HX⟩; iframe) ?_
  refine Tr.step iprop((ldI c 0 (11 + cnt c .ta) ∗ ldI c 1 (odd c + cnt c .tb) ∗ stB c 0 (cnt c .ta - 1) ∗ stB c 1 (cnt c .tb - 1)
      ∗ gd (ok c .ta 21) iprop(pIn m c (chunk c .ta 21) ∗ own c .ta 20 (fin m c)) ∗ gd (ok c .tb 21) iprop(pIn m c (chunk c .tb 21) ∗ own c .tb 20 (fin m c)))
      ∗ gd (ok c .my 21) (YD m c 21) ∗ XD m c 19 ∗ XD m c 20)
    (tr_tail_X 21) (by iintro ⟨⟨HO, HE⟩, HA, HY, HD, HX⟩; iframe) ?_
  refine (tr_no_z .xn _).mono (BI.Entails.refl _) ?_
  rw [e22 c]
  iintro ⟨⟨HO, HX⟩, HA, HY, HD, HE⟩; iframe

end Cert.KernelIdeal.Prf
end
-- ==== Proof.Waits.lean ====
/-
# The waits at the end

Families over the chunks of a class, and the two loops that only wait.
-/
module

public import proofs.«01_k».proof.Proof.LoopTwo

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] cSame cTail cBoth Cls.num

variable (m : (ℓ : Loc nD τ sig) → Buf (Elt F) ℓ) (c : Dev nD)

/-! ## Families -/

/-- `A` for every chunk of a class. -/
def fam (c : Dev nD) (k : Cls) (A : ℕ → sProp 𝕄) : sProp 𝕄 := bigSep (Finset.range 22) fun j => gd (ok c k j) (A j)

variable {m c} {K : Dev nD × SemLoc sig → ℕ}

theorem eq_of {A B : sProp 𝕄} (h : A ⊢ B) (h' : B ⊢ A) : A = B := equiv_iff.mp ⟨h, h'⟩
theorem emp_l (A : sProp 𝕄) : iprop(emp ∗ A) = A := eq_of (by iintro ⟨-, H⟩; iexact H) (by iintro H; iframe)
theorem emp_r (A : sProp 𝕄) : iprop(A ∗ emp) = A := eq_of (by iintro ⟨H, -⟩; iexact H) (by iintro H; iframe)
theorem bs_four (n : ℕ) (A B C D : ℕ → sProp 𝕄) : bigSep (Finset.range n) (fun j => iprop(A j ∗ B j ∗ C j ∗ D j))
    = iprop(bigSep (Finset.range n) A ∗ bigSep (Finset.range n) B ∗ bigSep (Finset.range n) C ∗ bigSep (Finset.range n) D) := by
  rw [bigSep_sep' (Φ := A), bigSep_sep' (Φ := B), bigSep_sep' (Φ := C)]
theorem bs_congr {n : ℕ} {A B : ℕ → sProp 𝕄} (h : ∀ j < n, A j = B j) : bigSep (Finset.range n) A = bigSep (Finset.range n) B :=
  bigSep_congr fun j hj => h j (Finset.mem_range.1 hj)
theorem bs_zero (n : ℕ) (A : ℕ → sProp 𝕄) : bigSep (Finset.range (n + 1)) A = iprop(A 0 ∗ bigSep (Finset.range n) fun j => A (j + 1)) := by
  induction n with
  | zero => rw [bs_succ, Finset.range_zero, bigSep_empty, bigSep_empty]
  | succ n ih =>
    rw [bs_succ, ih, bs_succ n]
    exact eq_of (by iintro ⟨H, H0, H'⟩; iframe) (by iintro ⟨H0, H, H'⟩; iframe)
theorem bs_shift (n d : ℕ) (A : ℕ → sProp 𝕄) :
    bigSep (Finset.range (n + d)) (fun j => gd (d ≤ j) (A (j - d))) = bigSep (Finset.range n) A := by
  induction d with
  | zero => exact bs_congr fun j _ => gd_pos (Nat.zero_le j) _
  | succ d ih =>
    rw [← Nat.add_assoc, bs_zero, gd_neg (by omega), emp_l, ← ih]
    refine bs_congr fun j _ => ?_
    rw [Nat.add_sub_add_right]
    unfold gd
    exact if_congr (by omega) rfl rfl
theorem gd_sep (p : Prop) [Decidable p] (A B : sProp 𝕄) : gd p iprop(A ∗ B) = iprop(gd p A ∗ gd p B) := by
  unfold gd; split
  · rfl
  · exact (emp_l _).symm

theorem fam_eq (k : Cls) (A : ℕ → sProp 𝕄) : fam c k A = iprop(bigSep (Finset.range 21) A ∗ gd (ok c k 21) (A 21)) := by
  unfold fam
  rw [bs_succ, bs_congr (fun j hj => gd_pos (ok_lt k hj) (A j))]
  exact eq_of (by iintro ⟨H, H'⟩; iframe) (by iintro ⟨H, H'⟩; iframe)
theorem fam_zero (k : Cls) (A : ℕ → sProp 𝕄) : fam c k A = iprop(A 0 ∗ bigSep (Finset.range 21) fun j => gd (ok c k (j + 1)) (A (j + 1))) := by
  unfold fam
  rw [bs_zero, gd_pos (ok_lt k (by decide))]
theorem fam_sep (k : Cls) (A B : ℕ → sProp 𝕄) : fam c k (fun j => iprop(A j ∗ B j)) = iprop(fam c k A ∗ fam c k B) := by
  unfold fam
  rw [← bigSep_sep']
  exact bs_congr fun j _ => gd_sep _ _ _
theorem fam_mono {k : Cls} {A B : ℕ → sProp 𝕄} (h : ∀ j, A j ⊢ B j) : fam c k A ⊢ fam c k B := by
  refine bigSep_mono fun j _ => ?_
  unfold gd; split
  · exact h j
  · exact BI.Entails.refl _
theorem fam_no {k : Cls} (h : ¬ok c k 21) (A : ℕ → sProp 𝕄) : fam c k A = bigSep (Finset.range 21) A := by
  rw [fam_eq, gd_neg h, emp_r]

/-! ## The loops of waits -/

theorem tr_wZ : Tr m K c ((List.finRange 21).flatMap (pZ c) ++ pZEnd c)
    iprop(ow c (O3 c 22 22 22) ∗ fam c .miss (RcvR c 6)) iprop(ow c (O3 c 22 22 22) ∗ fam c .miss (gotF m c 6)) := by
  rw [fam_no miss_no, fam_no miss_no]
  refine Tr.app (Tr.loop (pZ c) (fun _ => ow c (O3 c 22 22 22)) (RcvR c 6) (gotF m c 6) fun j => ?_) ?_
  · unfold RcvR
    exact tr_oppW m 6 .miss (up j) (ok_lt _ j.isLt) (ok_lt _ j.isLt) 22 22 22 (.inr (le_refl _)) (.inr (le_refl _)) (.inr (le_refl _))
  · exact Tr.when (fun hb => absurd ((ok_tail _).1 hb) miss_no) (fun _ => BI.Entails.refl _)

/-- A wait on one of the arrays, in the shape of the list's last part. -/
theorem tr_wD (q : Fin 7) (k : Cls) (j : Fin 22) (hk : ok c k j) (h : ok c (famCls q) j) :
    Tr m K c [iOppW c (sem22 (arr q) j) k j hk] iprop(ow c (O3 c 22 22 22) ∗ RcvR c q j) iprop(ow c (O3 c 22 22 22) ∗ gotF m c q j) :=
  tr_oppW m q k j hk h 22 22 22 (.inr (le_refl _)) (.inr (le_refl _)) (.inr (le_refl _))

/-- A wait that only the devices with a last chunk of the class run. -/
theorem tr_wEnd (q : Fin 7) (k : Cls) (l : cTail c k = 1#1 → List (Ins F))
    (h : ∀ hb, Tr m K c (l hb) iprop(ow c (O3 c 22 22 22) ∗ RcvR c q 21) iprop(ow c (O3 c 22 22 22) ∗ gotF m c q 21)) :
    Tr m K c [whenI (cTail c k) l] iprop(ow c (O3 c 22 22 22) ∗ gd (ok c k 21) (RcvR c q 21)) iprop(ow c (O3 c 22 22 22) ∗ gd (ok c k 21) (gotF m c q 21)) := by
  refine Tr.when (fun hb => ?_) (fun hb => ?_)
  · rw [gd_pos ((ok_tail _).1 hb), gd_pos ((ok_tail _).1 hb)]; exact h hb
  · rw [gd_neg (fun h => hb ((ok_tail _).2 h)), gd_neg (fun h => hb ((ok_tail _).2 h))]

def DR (c : Dev nD) (j : ℕ) : sProp 𝕄 := iprop(RcvR c 1 j ∗ RcvR c 3 j ∗ RcvR c 5 j ∗ RcvR c 0 j)
def DD (m : (ℓ : Loc nD τ sig) → Buf (Elt F) ℓ) (c : Dev nD) (j : ℕ) : sProp 𝕄 :=
  iprop(gotF m c 1 j ∗ gotF m c 3 j ∗ gotF m c 5 j ∗ gotF m c 0 j)
/-- The staging slot after its last round. -/
def stE (m : (ℓ : Loc nD τ sig) → Buf (Elt F) ℓ) (c : Dev nD) (s : Fin 2) : sProp 𝕄 :=
  iprop(pos c (sS s) (cnt c (stCls s)) ∗ stPay m c s (chunk c (stCls s) (cnt c (stCls s) - 1)))

theorem tr_done (j : Fin 21) : Tr m K c (pDone c j) iprop(ow c (O3 c 22 22 22) ∗ DR c j) iprop(ow c (O3 c 22 22 22) ∗ DD m c j) := by
  have h : ∀ k, ok c k j := fun k => ok_lt k j.isLt
  unfold DR DD
  show Tr m K c ([iYsW c (up j) (h _)] ++ ([iOppW c (sem22 (arr 3) (up j)) .my (up j) (h _)] ++ ([iOppW c (sem22 (arr 5) (up j)) .sz (up j) (h _)] ++ [iMineW (up j)]))) _ _
  refine Tr.step iprop(RcvR c 3 j ∗ RcvR c 5 j ∗ RcvR c 0 j) (tr_ysW m (up j) (h _) 22 22 22) (by unfold RcvR; iintro ⟨HO, H1, H3, H5, H0⟩; iframe) ?_
  refine Tr.step iprop(gotF m c 1 j ∗ RcvR c 5 j ∗ RcvR c 0 j) (tr_wD 3 .my (up j) (h _) (h _)) (by iintro ⟨⟨HO, H1⟩, H3, H5, H0⟩; iframe) ?_
  refine Tr.step iprop(gotF m c 1 j ∗ gotF m c 3 j ∗ RcvR c 0 j) (tr_wD 5 .sz (up j) (h _) (h _)) (by iintro ⟨⟨HO, H3⟩, H1, H5, H0⟩; iframe) ?_
  exact Tr.frm iprop(gotF m c 1 j ∗ gotF m c 3 j ∗ gotF m c 5 j) (tr_mineW m (up j) (h _) 22 22 22) (by unfold RcvR; iintro ⟨⟨HO, H5⟩, H1, H3, H0⟩; iframe)
    (by iintro ⟨⟨HO, H0⟩, H1, H3, H5⟩; iframe)

theorem ok_last (k : Cls) : ok c k (cnt c k - 1) := by
  by_cases h : ok c k 21
  · rw [cnt_pos h]; exact h
  · rw [cnt_neg h]; exact ok_lt k (by decide)
theorem cnt_ge (k : Cls) : cnt c k - 1 + 1 = cnt c k := by
  by_cases h : ok c k 21
  · rw [cnt_pos h]
  · rw [cnt_neg h]

theorem tr_stE (s : Fin 2) : Tr m K c [iStW s] iprop(ow c (O3 c 22 22 22) ∗ stB c s (cnt c (stCls s) - 1)) iprop(ow c (O3 c 22 22 22) ∗ stE m c s) :=
  Tr.frm iprop(emp) (tr_stW m s (cnt c (stCls s) - 1) (ok_last _) 22 22 22) (by unfold stB; iintro ⟨HO, Hp, Hc⟩; iframe)
    (by unfold stE; rw [cnt_ge]; iintro ⟨⟨HO, Hp, -, HS⟩, -⟩; iframe)

theorem tr_done_end : Tr m K c (pDoneEnd c)
    iprop(ow c (O3 c 22 22 22) ∗ gd (ok c .my 21) (RcvR c 1 21) ∗ gd (ok c .my 21) (RcvR c 3 21) ∗ gd (ok c .my 21) (RcvR c 0 21)
      ∗ stB c 0 (cnt c .ta - 1) ∗ stB c 1 (cnt c .tb - 1))
    iprop(ow c (O3 c 22 22 22) ∗ gd (ok c .my 21) (gotF m c 1 21) ∗ gd (ok c .my 21) (gotF m c 3 21) ∗ gd (ok c .my 21) (gotF m c 0 21)
      ∗ stE m c 0 ∗ stE m c 1) := by
  show Tr m K c ([whenI (cTail c .my) fun h => [iYsW c lst (chunk_tail c _ h)]] ++ ([whenI (cTail c .my) fun h => [iOppW c (sem22 (arr 3) lst) .my lst (chunk_tail c _ h)]] ++
    ([whenI (cTail c .sz) fun h => [iOppW c (sem22 (arr 5) lst) .sz lst (chunk_tail c _ h)]] ++ ([whenI (cTail c .my) fun h => [iMineW lst]] ++ ([iStW 0] ++ [iStW 1]))))) _ _
  refine Tr.step iprop(gd (ok c .my 21) (RcvR c 3 21) ∗ gd (ok c .my 21) (RcvR c 0 21) ∗ stB c 0 (cnt c .ta - 1) ∗ stB c 1 (cnt c .tb - 1))
    (tr_wEnd 1 .my _ fun hb => tr_ysW m lst ((ok_tail _).1 hb) 22 22 22) (by iintro ⟨HO, H1, H3, H0, Ha, Hb⟩; iframe) ?_
  refine Tr.step iprop(gd (ok c .my 21) (gotF m c 1 21) ∗ gd (ok c .my 21) (RcvR c 0 21) ∗ stB c 0 (cnt c .ta - 1) ∗ stB c 1 (cnt c .tb - 1))
    (tr_wEnd 3 .my _ fun hb => tr_wD 3 .my lst ((ok_tail _).1 hb) ((ok_tail _).1 hb)) (by iintro ⟨⟨HO, H1⟩, H3, H0, Ha, Hb⟩; iframe) ?_
  refine Tr.app (B := iprop((ow c (O3 c 22 22 22) ∗ gd (ok c .my 21) (RcvR c 0 21)) ∗ gd (ok c .my 21) (gotF m c 1 21) ∗ gd (ok c .my 21) (gotF m c 3 21) ∗ stB c 0 (cnt c .ta - 1) ∗ stB c 1 (cnt c .tb - 1)))
    (Tr.when (fun hb => absurd ((ok_tail _).1 hb) sz_no) (fun _ => by iintro ⟨⟨HO, H3⟩, H1, H0, Ha, Hb⟩; iframe)) ?_
  refine Tr.step iprop(gd (ok c .my 21) (gotF m c 1 21) ∗ gd (ok c .my 21) (gotF m c 3 21) ∗ stB c 0 (cnt c .ta - 1) ∗ stB c 1 (cnt c .tb - 1))
    (tr_wEnd 0 .my _ fun hb => tr_mineW m lst ((ok_tail _).1 hb) 22 22 22) (BI.Entails.refl _) ?_
  refine Tr.step iprop(gd (ok c .my 21) (gotF m c 0 21) ∗ gd (ok c .my 21) (gotF m c 1 21) ∗ gd (ok c .my 21) (gotF m c 3 21) ∗ stB c 1 (cnt c .tb - 1))
    (tr_stE 0) (by unfold stCls; rw [if_pos rfl]; iintro ⟨⟨HO, H0⟩, H1, H3, Ha, Hb⟩; iframe) ?_
  exact Tr.frm iprop(gd (ok c .my 21) (gotF m c 0 21) ∗ gd (ok c .my 21) (gotF m c 1 21) ∗ gd (ok c .my 21) (gotF m c 3 21) ∗ stE m c 0)
    (tr_stE 1) (by unfold stCls; rw [if_neg (by decide)]; iintro ⟨⟨HO, Ha⟩, H0, H1, H3, Hb⟩; iframe) (by iintro ⟨⟨HO, Hb⟩, H0, H1, H3, Ha⟩; iframe)

theorem tr_wD_all : Tr m K c ((List.finRange 21).flatMap (pDone c) ++ pDoneEnd c)
    iprop(ow c (O3 c 22 22 22) ∗ (fam c .my (RcvR c 1) ∗ fam c .my (RcvR c 3) ∗ fam c .sz (RcvR c 5) ∗ fam c .my (RcvR c 0))
      ∗ stB c 0 (cnt c .ta - 1) ∗ stB c 1 (cnt c .tb - 1))
    iprop(ow c (O3 c 22 22 22) ∗ (fam c .my (gotF m c 1) ∗ fam c .my (gotF m c 3) ∗ fam c .sz (gotF m c 5) ∗ fam c .my (gotF m c 0))
      ∗ stE m c 0 ∗ stE m c 1) := by
  simp only [fam_no sz_no, fam_eq .my]
  have h := Tr.loop (pDone c) (fun _ => ow c (O3 c 22 22 22)) (DR c) (DD m c) (m := m) (K := K) tr_done
  rw [show bigSep (Finset.range 21) (DR c) = _ from bs_four 21 (RcvR c 1) (RcvR c 3) (RcvR c 5) (RcvR c 0),
    show bigSep (Finset.range 21) (DD m c) = _ from bs_four 21 (gotF m c 1) (gotF m c 3) (gotF m c 5) (gotF m c 0)] at h
  refine Tr.step iprop(gd (ok c .my 21) (RcvR c 1 21) ∗ gd (ok c .my 21) (RcvR c 3 21) ∗ gd (ok c .my 21) (RcvR c 0 21) ∗ stB c 0 (cnt c .ta - 1) ∗ stB c 1 (cnt c .tb - 1))
    h (by iintro ⟨HO, ⟨⟨A1, E1⟩, ⟨A3, E3⟩, A5, A0, E0⟩, Ha, Hb⟩; iframe) ?_
  exact Tr.frm iprop(bigSep (Finset.range 21) (gotF m c 1) ∗ bigSep (Finset.range 21) (gotF m c 3) ∗ bigSep (Finset.range 21) (gotF m c 5) ∗ bigSep (Finset.range 21) (gotF m c 0))
    tr_done_end (by iintro ⟨⟨HO, A1, A3, A5, A0⟩, E1, E3, E0, Ha, Hb⟩; iframe) (by iintro ⟨⟨HO, E1, E3, E0, Ha, Hb⟩, A1, A3, A5, A0⟩; iframe)

end Cert.KernelIdeal.Prf
end
-- ==== Proof.Run.lean ====
/-
# The whole run of a device

All parts put together: what a device's run takes and what it leaves, each as a family over the chunks of a class.
-/
module

public import proofs.«01_k».proof.Proof.Waits

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] cSame cTail cBoth Cls.num

variable (m : (ℓ : Loc nD τ sig) → Buf (Elt F) ℓ) (c : Dev nD)

/-! ## What the run takes -/

def LdMy (j : ℕ) : sProp 𝕄 := LdR m c .my (par j) j (j / 2)
def LdTa (j : ℕ) : sProp 𝕄 := LdR m c .ta 0 j (11 + j)
def LdTb (j : ℕ) : sProp 𝕄 := LdR m c .tb 1 j (odd c + j)
/-- The rights a send along an axis takes. -/
def sndT (t : Fin 3) (j : ℕ) : sProp 𝕄 := iprop(tk c (sF (sq t) j) 0 ∗ tk (nbr t c) (sF (rq t) j) 0)
/-- What the signal along an axis takes. -/
def sigR (t : Fin 3) : sProp 𝕄 := iprop(dutyTok ER (cell (nbr t c) sB) 0 t ∗ barPay m (nbr t c) t)

/-- What is taken. -/
def P0 : sProp 𝕄 :=
  iprop(ow c (O₀ c) ∗ (sigR m c 0 ∗ sigR m c 1 ∗ sigR m c 2) ∗ (cr c sB 3 ∗ pos c sB 0)
    ∗ (ldI c 0 0 ∗ ldI c 1 0 ∗ stI c 0 0 ∗ stI c 1 0)
    ∗ (fam c .my (LdMy m c) ∗ fam c .ta (LdTa m c) ∗ fam c .tb (LdTb m c))
    ∗ (fam c .my (MineR m c) ∗ fam c .ta (StR m c .ta 0) ∗ fam c .tb (StR m c .tb 1))
    ∗ (fam c .my (sndT c 0) ∗ fam c .my (sndT c 1) ∗ fam c .sz (sndT c 2))
    ∗ (fam c .my (RcvR c 2) ∗ fam c .xn (RcvR c 4) ∗ fam c .miss (RcvR c 6))
    ∗ (fam c .my (fun j => pos c (sF 0 j) 0) ∗ fam c .my (fun j => pos c (sF 1 j) 0) ∗ fam c .my (fun j => pos c (sF 3 j) 0) ∗ fam c .sz (fun j => pos c (sF 5 j) 0)))

/-- A slot after the last round of its semaphore. -/
def stF' (s : Fin 2) : sProp 𝕄 := iprop(pos c (sS s) (cnt c (stCls s)) ∗ ∃ f, pSt c s f)

/-- What is left. -/
def P1 : sProp 𝕄 :=
  iprop(ow c 0 ∗ pos c sB 1
    ∗ (ldI c 0 (11 + cnt c .ta) ∗ ldI c 1 (odd c + cnt c .tb) ∗ stF' c 0 ∗ stF' c 1)
    ∗ ((fam c .my fun j => pIn m c (chunk c .my j)) ∗ (fam c .ta fun j => pIn m c (chunk c .ta j)) ∗ (fam c .tb fun j => pIn m c (chunk c .tb j)))
    ∗ ((fam c .my fun j => own c .my j (fin m c)) ∗ (fam c .ta fun j => own c .ta j (fin m c)) ∗ (fam c .tb fun j => own c .tb j (fin m c)))
    ∗ (fam c .my (oppB m c .my) ∗ fam c .xn (oppB m c .xn) ∗ fam c .miss (oppB m c .miss))
    ∗ (fam c .my fun j => pMi c j fullShare (mineF m c))
    ∗ ((fam c .my fun j => pos c (sF 0 j) 1) ∗ (fam c .my fun j => pos c (sF 1 j) 1) ∗ (fam c .my fun j => pos c (sF 2 j) 1) ∗ (fam c .my fun j => pos c (sF 3 j) 1)
      ∗ (fam c .xn fun j => pos c (sF 4 j) 1) ∗ (fam c .sz fun j => pos c (sF 5 j) 1) ∗ (fam c .miss fun j => pos c (sF 6 j) 1)))

variable {m c} {K : Dev nD × SemLoc sig → ℕ}

/-! ## The start -/

theorem tr_start : Tr m K c (pStart c)
    iprop(ow c (O₀ c) ∗ (sigR m c 0 ∗ sigR m c 1 ∗ sigR m c 2) ∗ (cr c sB 3 ∗ pos c sB 0) ∗ ldI c 0 0 ∗ LdMy m c 0)
    iprop(ow c (O3 c 0 0 0) ∗ pos c sB 1 ∗ (barPay m c 0 ∗ barPay m c 1 ∗ barPay m c 2) ∗ ldB c 0 0) := by
  show Tr m K c ([iSig (yN c)] ++ ([iSig (xN c)] ++ ([iSig (zN c)] ++ ([iBar] ++ [iLd c .my 0 (chunk_lt c _ _ (by omega)) 0])))) _ _
  unfold O₀ sigR
  refine Tr.step iprop((dutyTok ER (cell (nbr 1 c) sB) 0 1 ∗ barPay m (nbr 1 c) 1) ∗ (dutyTok ER (cell (nbr 2 c) sB) 0 2 ∗ barPay m (nbr 2 c) 2) ∗ (cr c sB 3 ∗ pos c sB 0) ∗ ldI c 0 0 ∗ LdMy m c 0)
    (tr_sig m 0 (yN c) rfl (O3 c 0 0 0 + oB 2 c + oB 1 c)) (by iintro ⟨HO, ⟨⟨H0, B0⟩, H1, H2⟩, HB, HI, HL⟩; iframe) ?_
  refine Tr.step iprop((dutyTok ER (cell (nbr 2 c) sB) 0 2 ∗ barPay m (nbr 2 c) 2) ∗ (cr c sB 3 ∗ pos c sB 0) ∗ ldI c 0 0 ∗ LdMy m c 0)
    (tr_sig m 1 (xN c) rfl (O3 c 0 0 0 + oB 2 c)) (by iintro ⟨HO, ⟨H1, B1⟩, H2, HB, HI, HL⟩; iframe) ?_
  refine Tr.step iprop((cr c sB 3 ∗ pos c sB 0) ∗ ldI c 0 0 ∗ LdMy m c 0)
    (tr_sig m 2 (zN c) rfl (O3 c 0 0 0)) (by iintro ⟨HO, ⟨H2, B2⟩, HB, HI, HL⟩; iframe) ?_
  refine Tr.step iprop(ldI c 0 0 ∗ LdMy m c 0) (tr_bar m) (by iintro ⟨HO, ⟨Hc, Hp⟩, HI, HL⟩; iframe) ?_
  exact Tr.frm iprop(ow c (O3 c 0 0 0) ∗ pos c sB 1 ∗ (barPay m c 0 ∗ barPay m c 1 ∗ barPay m c 2))
    (tr_load .my 0 (ok_lt _ (by decide)) 0 0 (ldAt_my (c := c) (j := 0) (ok_lt _ (by decide)))) (by rw [show LdMy m c 0 = LdR m c .my 0 0 0 from rfl]; iintro ⟨⟨HO, Hp, HB⟩, HI, HL⟩; iframe)
    (by iintro ⟨HB, HO, Hp, HP⟩; iframe)

/-- What the barrier handed over, with the rights of the sends. -/
theorem snd_join (t : Fin 3) (k : Cls) (hk : tCls t = k) : iprop(barPay m c t ∗ fam c k (sndT c t)) ⊢ fam c k (SndR m c t) := by
  subst hk
  exact Entails.of_eq (fam_sep (tCls t) (fun j => pOut (nbr t c) (dst t c j) fullShare (oin m (nbr t c))) (sndT c t)).symm

/-! ## The first loop -/

theorem tr_loop_one : Tr m K c ((List.finRange 21).flatMap (pOne c) ++ pOneEnd c)
    iprop(I1 c 0 ∗ (bigSep (Finset.range 21) fun j => gd (ok c .my (j + 1)) (LdMy m c (j + 1))) ∗ fam c .my (MineR m c) ∗ fam c .my (SndR m c 0) ∗ LdTa m c 0)
    iprop(ow c (O3 c 22 0 0) ∗ ldB c 0 11 ∗ ldI c 1 (odd c) ∗ fam c .my (D1 m c)) := by
  rw [fam_eq .my (MineR m c), fam_eq .my (SndR m c 0), fam_eq .my (D1 m c)]
  have h := Tr.loop (pOne c) (I1 c) (R1 m c) (D1 m c) (m := m) (K := K) tr_one
  rw [show bigSep (Finset.range 21) (R1 m c) = iprop((bigSep (Finset.range 21) fun j => gd (ok c .my (j + 1)) (LdMy m c (j + 1))) ∗ bigSep (Finset.range 21) (MineR m c) ∗ bigSep (Finset.range 21) (SndR m c 0)) from by
    rw [← bigSep_sep' (Φ := MineR m c), ← bigSep_sep']
    rfl] at h
  refine Tr.step iprop(gd (ok c .my 21) (MineR m c 21) ∗ gd (ok c .my 21) (SndR m c 0 21) ∗ LdTa m c 0) h
    (by iintro ⟨HI, HL, ⟨HM, HN⟩, ⟨HS, HT⟩, HA⟩; iframe) ?_
  refine Tr.frm (bigSep (Finset.range 21) (D1 m c)) tr_one_end ?_ (by iintro ⟨⟨HO, HB, HI, HE⟩, HD⟩; iframe)
  rw [gd_sep (ok c .my 21) (MineR m c 21)]
  unfold LdTa
  iintro ⟨⟨HI, HD⟩, HN, HT, HA⟩; iframe

/-! ## The second loop -/

theorem fam_emp (k : Cls) : iprop(emp) ⊢ fam (F := F) c k (fun _ => iprop(emp)) := by
  unfold fam
  rw [bs_congr (B := fun _ => iprop(emp)) fun j _ => show gd _ _ = _ from ite_self _]
  exact Entails.of_eq (bigSep_emp_const _).symm

theorem my_no (h : Cls.sz.num c = Cls.my.num c) : ¬ok c .my 21 := fun h' => sz_ne h' h
theorem xn_no (h : Cls.sz.num c = Cls.xn.num c) : ¬ok c .xn 21 := fun h' => sz_ne h' h

theorem zr_split : fam c .sz (SndR m c 2) ⊢ iprop(fam c .my (ZR m c .my) ∗ fam c .xn (ZR m c .xn)) := by
  rw [fam_no sz_no]
  rcases sz_or c with ⟨h, h'⟩ | ⟨h', h⟩
  · rw [show ZR m c .my = SndR m c 2 from funext fun j => gd_pos h _, show ZR m c .xn = fun _ => iprop(emp) from funext fun j => gd_neg h' _, fam_no (my_no h)]
    iintro H
    isplitl [H]; · iexact H
    iapply fam_emp
    iempintro
  · rw [show ZR m c .xn = SndR m c 2 from funext fun j => gd_pos h _, show ZR m c .my = fun _ => iprop(emp) from funext fun j => gd_neg h' _, fam_no (xn_no h)]
    iintro H
    isplitr
    · iapply fam_emp
      iempintro
    · iexact H

/-- The half shares that are not sent on along `z`. -/
def oth (m : (ℓ : Loc nD τ sig) → Buf (Elt F) ℓ) (c : Dev nD) : sProp 𝕄 :=
  if Cls.sz.num c = Cls.my.num c then fam c .xn (oppR m c .xn) else fam c .my (oppR m c .my)

theorem zd_join : iprop(fam c .my (ZD m c .my) ∗ fam c .xn (ZD m c .xn)) ⊢ iprop(fam c .sz (fun j => cr c (sF 5 j) N16) ∗ oth m c) := by
  unfold oth
  rw [fam_no sz_no]
  rcases sz_or c with ⟨h, h'⟩ | ⟨h', h⟩
  · rw [if_pos h, show ZD m c .my = (fun j => cr c (sF 5 j) N16) from funext fun j => if_pos h, show ZD m c .xn = oppR m c .xn from funext fun j => if_neg h', fam_no (my_no h)]
  · rw [if_neg h', show ZD m c .xn = (fun j => cr c (sF 5 j) N16) from funext fun j => if_pos h, show ZD m c .my = oppR m c .my from funext fun j => if_neg h', fam_no (xn_no h)]
    iintro ⟨H, H'⟩; isplitl [H'] <;> iassumption

theorem opp_join : iprop(fam c .sz (famPay m c 5) ∗ oth m c) ⊢ iprop(fam c .my (oppR m c .my) ∗ fam c .xn (oppR m c .xn)) := by
  have hr : ∀ k : Cls, Cls.sz.num c = k.num c → famPay m c 5 = oppR m c k := fun k h => funext fun j => by
    show pOut c (pb c (chunk c .sz j)) _ _ = pOut c (pb c (chunk c k j)) _ _
    rw [chunk_congr h]
  unfold oth
  rw [fam_no sz_no]
  rcases sz_or c with ⟨h, h'⟩ | ⟨h', h⟩
  · rw [if_pos h, hr .my h, fam_no (my_no h)]
  · rw [if_neg h', hr .xn h, fam_no (xn_no h)]
    iintro ⟨H, H'⟩; isplitl [H'] <;> iassumption

theorem bs_cnt (k : Cls) (A : ℕ → sProp 𝕄) : iprop(bigSep (Finset.range 20) A ∗ gd (ok c k 21) (A 20)) = bigSep (Finset.range (cnt c k - 1)) A := by
  by_cases h : ok c k 21
  · rw [gd_pos h, cnt_pos h, show 22 - 1 = 20 + 1 from rfl, bs_succ 20]
    exact eq_of (by iintro ⟨H, H'⟩; iframe) (by iintro ⟨H, H'⟩; iframe)
  · rw [gd_neg h, cnt_neg h, emp_r]
theorem fam_cnt (k : Cls) (A : ℕ → sProp 𝕄) : fam c k A = iprop(A (cnt c k - 1) ∗ bigSep (Finset.range (cnt c k - 1)) A) := by
  rw [← bs_succ, cnt_ge]
  by_cases h : ok c k 21
  · rw [cnt_pos h, fam_eq, gd_pos h, bs_succ 21]
    exact eq_of (by iintro ⟨H, H'⟩; iframe) (by iintro ⟨H, H'⟩; iframe)
  · rw [cnt_neg h, fam_no h]

/-- The second loop's rounds, as families. -/
theorem r2_eq : bigSep (Finset.range 21) (R2 m c) =
    iprop((bigSep (Finset.range 21) (LdTb m c) ∗ (bigSep (Finset.range 21) fun j => gd (ok c .ta (j + 1)) (LdTa m c (j + 1)))
        ∗ bigSep (Finset.range 21) (StR m c .ta 0) ∗ bigSep (Finset.range 21) (StR m c .tb 1))
      ∗ (bigSep (Finset.range 21) (YR m c))
      ∗ bigSep (Finset.range 19) fun j => iprop(RcvR c 4 j ∗ ZR m c .xn j)) := by
  rw [← bs_shift 19 2, ← bs_four 21 (LdTb m c) _ (StR m c .ta 0) (StR m c .tb 1), ← bigSep_sep' (Φ := YR m c), ← bigSep_sep']
  rfl
theorem d2_eq : bigSep (Finset.range 21) (D2 m c) =
    iprop(((bigSep (Finset.range 21) fun j => pIn m c (chunk c .ta j)) ∗ (bigSep (Finset.range 21) fun j => pIn m c (chunk c .tb j))
        ∗ (bigSep (Finset.range 20) fun j => own c .ta j (fin m c)) ∗ bigSep (Finset.range 20) fun j => own c .tb j (fin m c))
      ∗ (bigSep (Finset.range 21) (YD m c)) ∗ bigSep (Finset.range 19) (XD m c)) := by
  rw [← bs_shift 19 2, ← bs_shift 20 1 (fun j => own c .ta j (fin m c)), ← bs_shift 20 1 (fun j => own c .tb j (fin m c)),
    ← bs_four 21 (fun j => pIn m c (chunk c .ta j)), ← bigSep_sep' (Φ := YD m c), ← bigSep_sep']
  rfl

theorem bs_two (A : ℕ → sProp 𝕄) : bigSep (Finset.range 21) A = iprop(bigSep (Finset.range 19) A ∗ A 19 ∗ A 20) := by
  rw [bs_succ 20, bs_succ 19]
  exact eq_of (by iintro ⟨H, H', H''⟩; iframe) (by iintro ⟨H, H', H''⟩; iframe)

theorem tr_loop_two : Tr m K c ((List.finRange 21).flatMap (pTwo c) ++ pTwoEnd c)
    iprop(I2 c 0 ∗ (fam c .tb (LdTb m c) ∗ (bigSep (Finset.range 21) fun j => gd (ok c .ta (j + 1)) (LdTa m c (j + 1))) ∗ fam c .ta (StR m c .ta 0) ∗ fam c .tb (StR m c .tb 1))
      ∗ fam c .my (YR m c) ∗ fam c .xn fun j => iprop(RcvR c 4 j ∗ ZR m c .xn j))
    iprop(ow c (O3 c 22 22 22) ∗ (ldI c 0 (11 + cnt c .ta) ∗ ldI c 1 (odd c + cnt c .tb) ∗ stB c 0 (cnt c .ta - 1) ∗ stB c 1 (cnt c .tb - 1))
      ∗ ((fam c .ta fun j => pIn m c (chunk c .ta j)) ∗ (fam c .tb fun j => pIn m c (chunk c .tb j))
        ∗ (bigSep (Finset.range (cnt c .ta - 1)) fun j => own c .ta j (fin m c)) ∗ (bigSep (Finset.range (cnt c .tb - 1)) fun j => own c .tb j (fin m c)))
      ∗ fam c .my (YD m c) ∗ fam c .xn (XD m c)) := by
  have h := Tr.loop (pTwo c) (I2 c) (R2 m c) (D2 m c) (m := m) (K := K) tr_two
  rw [r2_eq, d2_eq] at h
  rw [fam_eq .tb (LdTb m c), fam_eq .ta (StR m c .ta 0), fam_eq .tb (StR m c .tb 1), fam_eq .my (YR m c), fam_eq .my (YD m c), fam_eq .xn (XD m c),
    fam_eq .xn (fun j => iprop(RcvR c 4 j ∗ ZR m c .xn j)), bs_two (XD m c), bs_two (fun j => iprop(RcvR c 4 j ∗ ZR m c .xn j)),
    fam_eq .ta (fun j => pIn m c (chunk c .ta j)), fam_eq .tb (fun j => pIn m c (chunk c .tb j)), ← bs_cnt .ta, ← bs_cnt .tb]
  refine Tr.step (E2 m c) h ?_ ?_
  · unfold E2 LdTb
    iintro ⟨HI, ⟨⟨HL, hL⟩, HG, ⟨Ha, ha⟩, Hb, hb⟩, ⟨HY, hY⟩, ⟨HX, hx, hy⟩, hX⟩
    iframe
  refine Tr.frm iprop(((bigSep (Finset.range 21) fun j => pIn m c (chunk c .ta j)) ∗ (bigSep (Finset.range 21) fun j => pIn m c (chunk c .tb j))
        ∗ (bigSep (Finset.range 20) fun j => own c .ta j (fin m c)) ∗ bigSep (Finset.range 20) fun j => own c .tb j (fin m c))
      ∗ (bigSep (Finset.range 21) (YD m c)) ∗ bigSep (Finset.range 19) (XD m c)) tr_two_end ?_ ?_
  · iintro ⟨⟨HI, HD⟩, HE⟩; iframe
  unfold F2
  rw [gd_sep, gd_sep]
  iintro ⟨⟨HO, ⟨H0, H1, S0, S1, ⟨ha, Ha⟩, hb, Hb⟩, hY, hx, hy, hX⟩, ⟨HP, HQ, HA, HB⟩, HY, HX⟩
  iframe

/-! ## The whole -/

theorem I1_zero : I1 (F := F) c 0 = iprop(ow c (O3 c 0 0 0) ∗ ldB c 0 0 ∗ ldI c 1 0) := by
  unfold I1
  rw [ldA_pos (ok_lt _ (by decide))]
  rfl
theorem I2_zero : I2 (F := F) c 0 = iprop(ow c (O3 c 22 0 0) ∗ ldB c 0 11 ∗ ldI c 1 (odd c) ∗ stI c 0 0 ∗ stI c 1 0) := by
  unfold I2 e2 stX
  rw [ldA_pos (ok_lt _ (by decide)), if_pos rfl, if_pos rfl, show 0 - 2 = 0 from rfl, ite_self]
  rfl
theorem O3_end : O3 c 22 22 22 = 0 := by unfold O3; rw [OT_end, OT_end, OT_end, add_zero, add_zero]

theorem d1_fam : fam c .my (D1 m c) = iprop((fam c .my fun j => pIn m c (chunk c .my j)) ∗ (fam c .my fun j => cr c (sF 0 j) N16) ∗ fam c .my fun j => cr c (sF 1 j) N16) := by
  rw [← fam_sep, ← fam_sep]; rfl
theorem yr_fam : fam c .my (YR m c) = iprop(fam c .my (RcvR c 2) ∗ fam c .my (SndR m c 1) ∗ fam c .my (ZR m c .my)) := by
  rw [← fam_sep, ← fam_sep]; rfl
theorem yd_fam : fam c .my (YD m c) = iprop((fam c .my fun j => pos c (sF 2 j) 1) ∗ (fam c .my fun j => cr c (sF 3 j) N16) ∗ fam c .my (ZD m c .my)) := by
  rw [← fam_sep, ← fam_sep]; rfl
theorem xd_fam : fam c .xn (XD m c) = iprop((fam c .xn fun j => pos c (sF 4 j) 1) ∗ fam c .xn (oppL m c .xn) ∗ fam c .xn (ZD m c .xn)) := by
  rw [← fam_sep, ← fam_sep]; rfl
theorem got_fam (k : Cls) (q : Fin 7) : fam c k (gotF m c q) = iprop((fam c k fun j => pos c (sF q j) 1) ∗ fam c k (famPay m c q)) :=
  fam_sep k (fun j => pos c (sF q j) 1) (famPay m c q)
theorem rcv_fam (k : Cls) (q : Fin 7) : fam (F := F) c k (RcvR c q) = iprop((fam c k fun j => cr c (sF q j) N16) ∗ fam c k fun j => pos c (sF q j) 0) :=
  fam_sep k (fun j => cr c (sF q j) N16) (fun j => pos c (sF q j) 0)

/-- A stage's last block. -/
theorem last_own (s : Fin 2) (k : Cls) (hk : stCls s = k) : iprop(stE m c s ∗ bigSep (Finset.range (cnt c k - 1)) fun j => own c k j (fin m c))
    ⊢ iprop(stF' c s ∗ fam c k fun j => own c k j (fin m c)) := by
  subst hk
  rw [fam_cnt]
  unfold stE stF' stPay
  iintro ⟨⟨Hp, Ho, HS⟩, HB⟩
  iframe
  iexists _; iexact HS

/-- The rows of the copied chunks come back whole. -/
theorem mine_join : iprop(fam c .my (famPay m c 0) ∗ fam c .my (famPay m c 1))
    ⊢ iprop((fam c .my fun j => own c .my j (fin m c)) ∗ fam c .my fun j => pMi c j fullShare (mineF m c)) := by
  rw [show fam c .my (famPay m c 0) = _ from fam_sep .my (fun j => own c .my j (fin m c)) (fun j => pMi c j fullShare.left (mineF m c))]
  iintro ⟨⟨HO, HL⟩, HR⟩
  isplitl [HO]; · iexact HO
  iapply (fam_mono (A := fun j => iprop(pMi c j fullShare.left (mineF m c) ∗ famPay m c 1 j)) fun j => (pMi_half (c := c) j (mineF m c)).2)
  rw [fam_sep]
  isplitl [HL] <;> iassumption

theorem opp_whole (k : Cls) : iprop(fam c k (oppL m c k) ∗ fam c k (oppR m c k)) ⊢ fam c k (oppB m c k) := by
  rw [← fam_sep]
  exact fam_mono fun j => (pOut_half (c := c) _ _).2

theorem prog_eq : prog (F := F) c = pStart c ++ (((List.finRange 21).flatMap (pOne c) ++ pOneEnd c) ++ (((List.finRange 21).flatMap (pTwo c) ++ pTwoEnd c) ++
    (((List.finRange 21).flatMap (pZ c) ++ pZEnd c) ++ ((List.finRange 21).flatMap (pDone c) ++ pDoneEnd c)))) := by
  unfold prog
  simp only [List.append_assoc]

theorem tr_all : Tr m K c (prog c) (P0 m c) (P1 m c) := by
  rw [prog_eq]
  unfold P0
  rw [fam_zero .my (LdMy m c)]
  refine Tr.step iprop((ldI c 1 0 ∗ stI c 0 0 ∗ stI c 1 0) ∗ ((bigSep (Finset.range 21) fun j => gd (ok c .my (j + 1)) (LdMy m c (j + 1))) ∗ fam c .ta (LdTa m c) ∗ fam c .tb (LdTb m c))
    ∗ (fam c .my (MineR m c) ∗ fam c .ta (StR m c .ta 0) ∗ fam c .tb (StR m c .tb 1))
    ∗ (fam c .my (sndT c 0) ∗ fam c .my (sndT c 1) ∗ fam c .sz (sndT c 2))
    ∗ (fam c .my (RcvR c 2) ∗ fam c .xn (RcvR c 4) ∗ fam c .miss (RcvR c 6))
    ∗ (fam c .my (fun j => pos c (sF 0 j) 0) ∗ fam c .my (fun j => pos c (sF 1 j) 0) ∗ fam c .my (fun j => pos c (sF 3 j) 0) ∗ fam c .sz (fun j => pos c (sF 5 j) 0)))
    tr_start (by iintro ⟨HO, HS, HB, ⟨L0, L1, S0, S1⟩, ⟨⟨HL, HM⟩, HA, HT⟩, H3, H4, H5, H6⟩; iframe) ?_
  refine Tr.step iprop((pos c sB 1 ∗ stI c 0 0 ∗ stI c 1 0) ∗ ((bigSep (Finset.range 21) fun j => gd (ok c .ta (j + 1)) (LdTa m c (j + 1))) ∗ fam c .tb (LdTb m c))
    ∗ (fam c .ta (StR m c .ta 0) ∗ fam c .tb (StR m c .tb 1)) ∗ (fam c .my (SndR m c 1) ∗ fam c .sz (SndR m c 2))
    ∗ (fam c .my (RcvR c 2) ∗ fam c .xn (RcvR c 4) ∗ fam c .miss (RcvR c 6))
    ∗ (fam c .my (fun j => pos c (sF 0 j) 0) ∗ fam c .my (fun j => pos c (sF 1 j) 0) ∗ fam c .my (fun j => pos c (sF 3 j) 0) ∗ fam c .sz (fun j => pos c (sF 5 j) 0)))
    tr_loop_one ?_ ?_
  · rw [I1_zero, fam_zero .ta (LdTa m c)]
    iintro ⟨⟨HO, Hp, ⟨B0, B1, B2⟩, HB⟩, ⟨HI, S0, S1⟩, ⟨HM, ⟨HA, HG⟩, HT⟩, ⟨H3, Ha, Hb⟩, ⟨T0, T1, T2⟩, H5, H6⟩
    ihave Q0 := (snd_join 0 .my rfl) $$ [B0 T0]
    · isplitl [B0] <;> iassumption
    ihave Q1 := (snd_join 1 .my rfl) $$ [B1 T1]
    · isplitl [B1] <;> iassumption
    ihave Q2 := (snd_join 2 .sz rfl) $$ [B2 T2]
    · isplitl [B2] <;> iassumption
    iframe
  refine Tr.step iprop(pos c sB 1 ∗ fam c .my (D1 m c) ∗ fam c .miss (RcvR c 6)
    ∗ (fam c .my (fun j => pos c (sF 0 j) 0) ∗ fam c .my (fun j => pos c (sF 1 j) 0) ∗ fam c .my (fun j => pos c (sF 3 j) 0) ∗ fam c .sz (fun j => pos c (sF 5 j) 0)))
    tr_loop_two ?_ ?_
  · rw [I2_zero, yr_fam, fam_sep .xn (RcvR c 4)]
    iintro ⟨⟨HO, HB, HI, HD⟩, ⟨Hp, S0, S1⟩, ⟨HG, HT⟩, ⟨Ha, Hb⟩, ⟨T1, T2⟩, ⟨R2, R4, R6⟩, H6⟩
    ihave HZ := (zr_split (m := m) (c := c)) $$ T2
    icases HZ with ⟨Z0, Z1⟩
    iframe
  rw [yd_fam, xd_fam, d1_fam]
  refine Tr.app (B := iprop((ow c (O3 c 22 22 22) ∗ fam c .miss (gotF m c 6)) ∗ pos c sB 1 ∗ (ldI c 0 (11 + cnt c .ta) ∗ ldI c 1 (odd c + cnt c .tb) ∗ stB c 0 (cnt c .ta - 1) ∗ stB c 1 (cnt c .tb - 1))
      ∗ ((fam c .my fun j => pIn m c (chunk c .my j)) ∗ (fam c .ta fun j => pIn m c (chunk c .ta j)) ∗ (fam c .tb fun j => pIn m c (chunk c .tb j))
        ∗ (bigSep (Finset.range (cnt c .ta - 1)) fun j => own c .ta j (fin m c)) ∗ (bigSep (Finset.range (cnt c .tb - 1)) fun j => own c .tb j (fin m c)))
      ∗ ((fam c .my fun j => cr c (sF 0 j) N16) ∗ (fam c .my fun j => cr c (sF 1 j) N16) ∗ (fam c .my fun j => cr c (sF 3 j) N16) ∗ (fam c .sz fun j => cr c (sF 5 j) N16))
      ∗ ((fam c .my fun j => pos c (sF 2 j) 1) ∗ (fam c .xn fun j => pos c (sF 4 j) 1) ∗ fam c .xn (oppL m c .xn) ∗ oth m c)
      ∗ (fam c .my (fun j => pos c (sF 0 j) 0) ∗ fam c .my (fun j => pos c (sF 1 j) 0) ∗ fam c .my (fun j => pos c (sF 3 j) 0) ∗ fam c .sz (fun j => pos c (sF 5 j) 0)))) ?_ ?_
  · refine Tr.frm iprop(pos c sB 1 ∗ (ldI c 0 (11 + cnt c .ta) ∗ ldI c 1 (odd c + cnt c .tb) ∗ stB c 0 (cnt c .ta - 1) ∗ stB c 1 (cnt c .tb - 1))
      ∗ ((fam c .my fun j => pIn m c (chunk c .my j)) ∗ (fam c .ta fun j => pIn m c (chunk c .ta j)) ∗ (fam c .tb fun j => pIn m c (chunk c .tb j))
        ∗ (bigSep (Finset.range (cnt c .ta - 1)) fun j => own c .ta j (fin m c)) ∗ (bigSep (Finset.range (cnt c .tb - 1)) fun j => own c .tb j (fin m c)))
      ∗ ((fam c .my fun j => cr c (sF 0 j) N16) ∗ (fam c .my fun j => cr c (sF 1 j) N16) ∗ (fam c .my fun j => cr c (sF 3 j) N16) ∗ (fam c .sz fun j => cr c (sF 5 j) N16))
      ∗ ((fam c .my fun j => pos c (sF 2 j) 1) ∗ (fam c .xn fun j => pos c (sF 4 j) 1) ∗ fam c .xn (oppL m c .xn) ∗ oth m c)
      ∗ (fam c .my (fun j => pos c (sF 0 j) 0) ∗ fam c .my (fun j => pos c (sF 1 j) 0) ∗ fam c .my (fun j => pos c (sF 3 j) 0) ∗ fam c .sz (fun j => pos c (sF 5 j) 0)))
      tr_wZ ?_ (BI.Entails.refl _)
    iintro ⟨⟨HO, HI, ⟨Ia, Ib, Oa, Ob⟩, ⟨P2, C3, Z0⟩, P4, OX, Z1⟩, Hp, ⟨Im, C0, C1⟩, R6, H6⟩
    ihave HZ := (zd_join (m := m) (c := c)) $$ [Z0 Z1]
    · isplitl [Z0] <;> iassumption
    icases HZ with ⟨C5, HQ⟩
    iframe
  refine Tr.frm iprop(fam c .miss (gotF m c 6) ∗ pos c sB 1 ∗ (ldI c 0 (11 + cnt c .ta) ∗ ldI c 1 (odd c + cnt c .tb))
      ∗ ((fam c .my fun j => pIn m c (chunk c .my j)) ∗ (fam c .ta fun j => pIn m c (chunk c .ta j)) ∗ (fam c .tb fun j => pIn m c (chunk c .tb j))
        ∗ (bigSep (Finset.range (cnt c .ta - 1)) fun j => own c .ta j (fin m c)) ∗ (bigSep (Finset.range (cnt c .tb - 1)) fun j => own c .tb j (fin m c)))
      ∗ ((fam c .my fun j => pos c (sF 2 j) 1) ∗ (fam c .xn fun j => pos c (sF 4 j) 1) ∗ fam c .xn (oppL m c .xn) ∗ oth m c)) tr_wD_all ?_ ?_
  · rw [rcv_fam, rcv_fam, rcv_fam, rcv_fam]
    iintro ⟨⟨HO, R6⟩, Hp, ⟨I0, I1, S0, S1⟩, HP, ⟨C0, C1, C3, C5⟩, HQ, P0, P1, P3, P5⟩
    iframe
  unfold P1
  rw [got_fam, got_fam, got_fam, got_fam, got_fam, O3_end]
  iintro ⟨⟨HO, ⟨⟨P1, Y1⟩, ⟨P3, Y3⟩, ⟨P5, Y5⟩, P0, Y0⟩, S0, S1⟩, ⟨P6, Y6⟩, Hp, ⟨I0, I1⟩, ⟨Im, Ia, Ib, Oa, Ob⟩, P2, P4, OX, HQ⟩
  ihave A0 := (last_own 0 .ta rfl) $$ [S0 Oa]
  · isplitl [S0] <;> iassumption
  ihave A1 := (last_own 1 .tb rfl) $$ [S1 Ob]
  · isplitl [S1] <;> iassumption
  ihave AM := (mine_join (m := m) (c := c)) $$ [Y0 Y1]
  · isplitl [Y0] <;> iassumption
  ihave AR := (opp_join (m := m) (c := c)) $$ [Y5 HQ]
  · isplitl [Y5] <;> iassumption
  icases AR with ⟨Rm, Rx⟩
  ihave Bm := (opp_whole (m := m) (c := c) .my) $$ [Y3 Rm]
  · isplitl [Y3]
    · iapply (Entails.of_eq (show fam c .my (famPay m c 3) = fam c .my (oppL m c .my) from rfl)); iexact Y3
    · iexact Rm
  ihave Bx := (opp_whole (m := m) (c := c) .xn) $$ [OX Rx]
  · isplitl [OX] <;> iassumption
  ihave Bz := (Entails.of_eq (show fam c .miss (famPay m c 6) = fam c .miss (oppB m c .miss) from rfl)) $$ Y6
  icases A0 with ⟨A0, Oa⟩
  icases A1 with ⟨A1, Ob⟩
  icases AM with ⟨Om, Mi⟩
  iframe

end Cert.KernelIdeal.Prf
end
-- ==== Proof.Blocks.lean ====
/-
# Arrays in blocks

The arrays a device holds, cut into the blocks its run names, and put together again.
-/
module

public import proofs.«01_k».proof.Proof.Run

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] cSame cTail cBoth Cls.num

variable (m : (ℓ : Loc nD τ sig) → Buf (Elt F) ℓ) (c : Dev nD)

variable {m c}

/-! ## Sums over chunks -/

theorem bs_add (n k : ℕ) (A : ℕ → sProp 𝕄) : bigSep (Finset.range (n + k)) A = iprop(bigSep (Finset.range n) A ∗ bigSep (Finset.range k) fun j => A (n + j)) := by
  induction k with
  | zero => rw [Finset.range_zero, bigSep_empty]; exact (emp_r _).symm
  | succ k ih =>
    rw [← Nat.add_assoc, bs_succ, ih, bs_succ k]
    exact eq_of (by iintro ⟨H, H', H''⟩; iframe) (by iintro ⟨H, H', H''⟩; iframe)
theorem bs_double (n : ℕ) (A : ℕ → sProp 𝕄) : bigSep (Finset.range (2 * n)) A
    = iprop((bigSep (Finset.range n) fun j => A (2 * j)) ∗ bigSep (Finset.range n) fun j => A (2 * j + 1)) := by
  induction n with
  | zero => rw [Nat.mul_zero, Finset.range_zero, bigSep_empty, bigSep_empty]; exact (emp_r _).symm
  | succ n ih =>
    rw [show 2 * (n + 1) = 2 * n + 1 + 1 from by omega, bs_succ, bs_succ, ih, bs_succ n, bs_succ n]
    exact eq_of (by iintro ⟨H, H', H0, H1⟩; iframe) (by iintro ⟨⟨H', H0⟩, H, H1⟩; iframe)
theorem bs_triple (n : ℕ) (A : ℕ → sProp 𝕄) : bigSep (Finset.range (3 * n)) A
    = iprop((bigSep (Finset.range n) fun j => A (3 * j)) ∗ (bigSep (Finset.range n) fun j => A (3 * j + 1)) ∗ bigSep (Finset.range n) fun j => A (3 * j + 2)) := by
  induction n with
  | zero => rw [Nat.mul_zero, Finset.range_zero, bigSep_empty, bigSep_empty, bigSep_empty, bigSep_empty]; exact ((congrArg (fun P => iprop(_ ∗ P)) (emp_r _)).trans (emp_r _)).symm
  | succ n ih =>
    rw [show 3 * (n + 1) = 3 * n + 2 + 1 from by omega, bs_succ, bs_succ (3 * n + 1), bs_succ (3 * n), ih, bs_succ n, bs_succ n, bs_succ n]
    exact eq_of (by iintro ⟨Hc, Hb, Ha, H0, H1, H2⟩; iframe) (by iintro ⟨⟨Ha, H0⟩, ⟨Hb, H1⟩, Hc, H2⟩; iframe)

/-- The chunks whose number leaves `i` modulo 3. -/
def third (A : ℕ → sProp 𝕄) (i : ℕ) : sProp 𝕄 := bigSep (Finset.range 22) fun j => gd (3 * j + i < 64) (A (3 * j + i))

theorem thirds (A : ℕ → sProp 𝕄) : bigSep (Finset.range 64) A = iprop(third A 0 ∗ third A 1 ∗ third A 2) := by
  have h := bs_triple 22 fun n => gd (n < 64) (A n)
  rw [show 3 * 22 = 64 + 1 + 1 from rfl, bs_succ, bs_succ, gd_neg (by decide), gd_neg (by decide), emp_l, emp_l, bs_congr (fun j hj => gd_pos hj (A j))] at h
  exact h
theorem fam_third (k : Cls) (A : ℕ → sProp 𝕄) : (fam c k fun j => A (chunk c k j)) = third A (k.num c) := rfl

/-- All chunks, by the classes a device names. -/
theorem fam_all (k0 k1 k2 : Cls) (h01 : k0.num c ≠ k1.num c) (h02 : k0.num c ≠ k2.num c) (h12 : k1.num c ≠ k2.num c) (A : ℕ → sProp 𝕄) :
    bigSep (Finset.range 64) A = iprop((fam c k0 fun j => A (chunk c k0 j)) ∗ (fam c k1 fun j => A (chunk c k1 j)) ∗ fam c k2 fun j => A (chunk c k2 j)) := by
  rw [thirds, fam_third, fam_third, fam_third]
  have b0 := k0.num_lt c
  have b1 := k1.num_lt c
  have b2 := k2.num_lt c
  generalize k0.num c = a0 at *
  generalize k1.num c = a1 at *
  generalize k2.num c = a2 at *
  obtain ⟨rfl, rfl, rfl⟩ | ⟨rfl, rfl, rfl⟩ | ⟨rfl, rfl, rfl⟩ | ⟨rfl, rfl, rfl⟩ | ⟨rfl, rfl, rfl⟩ | ⟨rfl, rfl, rfl⟩ :
    a0 = 0 ∧ a1 = 1 ∧ a2 = 2 ∨ a0 = 0 ∧ a1 = 2 ∧ a2 = 1 ∨ a0 = 1 ∧ a1 = 0 ∧ a2 = 2 ∨ a0 = 1 ∧ a1 = 2 ∧ a2 = 0 ∨ a0 = 2 ∧ a1 = 0 ∧ a2 = 1
      ∨ a0 = 2 ∧ a1 = 1 ∧ a2 = 0 := by omega
  all_goals exact eq_of (by iintro ⟨H0, H1, H2⟩; iframe) (by iintro ⟨H0, H1, H2⟩; iframe)

theorem own_classes (c : Dev nD) : Cls.my.num c ≠ Cls.ta.num c ∧ Cls.my.num c ≠ Cls.tb.num c ∧ Cls.ta.num c ≠ Cls.tb.num c := by
  revert c; decide +kernel
theorem far_classes (c : Dev nD) : Cls.my.num c ≠ Cls.xn.num c ∧ Cls.my.num c ≠ Cls.miss.num c ∧ Cls.xn.num c ≠ Cls.miss.num c := by
  revert c; decide +kernel

/-! ## Blocks of an array -/

theorem pts_split (ℓ : Loc nD τ sig) (n : ℕ) (B : ℕ → Finset (Idx ℓ)) (hd : ∀ i j, i ≠ j → Disjoint (B i) (B j)) (hc : ∀ x, ∃ j < n, x ∈ B j) (f : Buf (Elt F) ℓ) :
    (ℓ ↦{fullShare} f : sProp 𝕄) = bigSep (Finset.range n) fun j => ℓ ↦[B j]{fullShare} f := by
  rw [← pointsTo_biUnion (Finset.range n) B fun i _ j _ h => hd i j h]
  rw [show (Finset.range n).biUnion B = Finset.univ from Finset.eq_univ_iff_forall.2 fun x => by
    obtain ⟨j, hj, hx⟩ := hc x
    exact Finset.mem_biUnion.2 ⟨j, Finset.mem_range.2 hj, hx⟩]
theorem pts_join (ℓ : Loc nD τ sig) (n : ℕ) (B : ℕ → Finset (Idx ℓ)) (hd : ∀ i j, i ≠ j → Disjoint (B i) (B j)) (hc : ∀ x, ∃ j < n, x ∈ B j) :
    (bigSep (Finset.range n) fun j => iprop(∃ f : Buf (Elt F) ℓ, ℓ ↦[B j]{fullShare} f)) ⊢ (iprop(∃ f : Buf (Elt F) ℓ, ℓ ↦{fullShare} f) : sProp 𝕄) := by
  iintro H
  ihave H := (BI.bigSep_exists_pi (Finset.range n) (fun (j : ℕ) (f : Buf (Elt F) ℓ) => (ℓ ↦[B j]{fullShare} f : sProp 𝕄))) $$ H
  icases H with ⟨%fs, H⟩
  ihave H := (pointsTo_biUnion_join (Finset.range n) B fs (fs 0) fun i _ j _ h => hd i j h) $$ H
  icases H with ⟨%g, -, H⟩
  iexists g
  iapply (Entails.of_eq (show (ℓ ↦[(Finset.range n).biUnion B]{fullShare} g : sProp 𝕄) = (ℓ ↦{fullShare} g) from by
    rw [show (Finset.range n).biUnion B = Finset.univ from Finset.eq_univ_iff_forall.2 fun x => by
      obtain ⟨j, hj, hx⟩ := hc x
      exact Finset.mem_biUnion.2 ⟨j, Finset.mem_range.2 hj, hx⟩]))
  iexact H

/-- Sets of the indices with one value of a function. -/
theorem level_disjoint {I : Type} [Fintype I] [DecidableEq I] (φ : I → ℕ) (i j : ℕ) (h : i ≠ j) :
    Disjoint (Finset.univ.filter fun x => φ x = i) (Finset.univ.filter fun x => φ x = j) :=
  Finset.disjoint_filter.2 fun _ _ h1 h2 => h (h1.symm.trans h2)
theorem level_cover {I : Type} [Fintype I] [DecidableEq I] (φ : I → ℕ) (n : ℕ) (h : ∀ x, φ x < n) (x : I) :
    ∃ j < n, x ∈ Finset.univ.filter fun x => φ x = j := ⟨φ x, h x, Finset.mem_filter.2 ⟨Finset.mem_univ _, rfl⟩⟩

theorem in_blocks (c : Dev nD) : (lIn c ↦{fullShare} xin m c : sProp 𝕄) = bigSep (Finset.range 64) (pIn m c) :=
  pts_split (lIn c) 64 blkI (level_disjoint fun i : S8192x1024.Idx => (i 0).val / 128)
    (level_cover (fun i : S8192x1024.Idx => (i 0).val / 128) 64 fun i => Nat.div_lt_of_lt_mul (i 0).isLt) _
theorem out_blocks (c : Dev nD) (f : Buf (Elt F) (lOut c)) : (lOut c ↦{fullShare} f : sProp 𝕄) = bigSep (Finset.range 128) fun b => pOut c b fullShare f :=
  pts_split (lOut c) 128 blkO (level_disjoint fun i : S16384x1024.Idx => (i 0).val / 128)
    (level_cover (fun i : S16384x1024.Idx => (i 0).val / 128) 128 fun i => Nat.div_lt_of_lt_mul (i 0).isLt) _
theorem mine_blocks (c : Dev nD) (f : Buf (Elt F) (lMine c)) : (lMine c ↦{fullShare} f : sProp 𝕄) = bigSep (Finset.range 22) fun j => pMi c j fullShare f :=
  pts_split (lMine c) 22 blkM (level_disjoint fun i : S2816x1024.Idx => (i 0).val / 128)
    (level_cover (fun i : S2816x1024.Idx => (i 0).val / 128) 22 fun i => Nat.div_lt_of_lt_mul (i 0).isLt) _
theorem mine_rejoin (c : Dev nD) : (bigSep (Finset.range 22) fun j => iprop(∃ f, pMi (F := F) c j fullShare f)) ⊢ iprop(∃ f : Buf (Elt F) (lMine c), lMine c ↦{fullShare} f) :=
  pts_join (lMine c) 22 blkM (level_disjoint fun i : S2816x1024.Idx => (i 0).val / 128)
    (level_cover (fun i : S2816x1024.Idx => (i 0).val / 128) 22 fun i => Nat.div_lt_of_lt_mul (i 0).isLt)

theorem slots (A : ℕ → sProp 𝕄) : bigSep (Finset.range 2) A = iprop(A 0 ∗ A 1) := by
  rw [bs_succ 1, bs_succ 0, Finset.range_zero, bigSep_empty]
  exact (congrArg (fun P => iprop(A 1 ∗ P)) (emp_r (A 0))).trans (eq_of (by iintro ⟨H, H'⟩; iframe) (by iintro ⟨H, H'⟩; iframe))
theorem load_slots (c : Dev nD) (f : Buf (Elt F) (lLd c)) : (lLd c ↦{fullShare} f : sProp 𝕄) = iprop(pLd c 0 f ∗ pLd c 1 f) :=
  (pts_split (lLd c) 2 blkS (level_disjoint fun i : S2x128x1024.Idx => (i 0).val) (level_cover (fun i : S2x128x1024.Idx => (i 0).val) 2 fun i => (i 0).isLt) _).trans (slots _)
theorem load_rejoin (c : Dev nD) : iprop((∃ f, pLd (F := F) c 0 f) ∗ ∃ f, pLd (F := F) c 1 f) ⊢ iprop(∃ f : Buf (Elt F) (lLd c), lLd c ↦{fullShare} f) :=
  (Entails.of_eq (slots fun j => iprop(∃ f : Buf (Elt F) (lLd c), lLd c ↦[blkS j]{fullShare} f)).symm).trans
    (pts_join (lLd c) 2 blkS (level_disjoint fun i : S2x128x1024.Idx => (i 0).val) (level_cover (fun i : S2x128x1024.Idx => (i 0).val) 2 fun i => (i 0).isLt))
theorem stage_slots (c : Dev nD) (f : Buf (Elt F) (lSt c)) : (lSt c ↦{fullShare} f : sProp 𝕄) = iprop(pSt c 0 f ∗ pSt c 1 f) :=
  (pts_split (lSt c) 2 blkS (level_disjoint fun i : S2x128x1024.Idx => (i 0).val) (level_cover (fun i : S2x128x1024.Idx => (i 0).val) 2 fun i => (i 0).isLt) _).trans (slots _)
theorem stage_rejoin (c : Dev nD) : iprop((∃ f, pSt (F := F) c 0 f) ∗ ∃ f, pSt (F := F) c 1 f) ⊢ iprop(∃ f : Buf (Elt F) (lSt c), lSt c ↦{fullShare} f) :=
  (Entails.of_eq (slots fun j => iprop(∃ f : Buf (Elt F) (lSt c), lSt c ↦[blkS j]{fullShare} f)).symm).trans
    (pts_join (lSt c) 2 blkS (level_disjoint fun i : S2x128x1024.Idx => (i 0).val) (level_cover (fun i : S2x128x1024.Idx => (i 0).val) 2 fun i => (i 0).isLt))

/-! ## The classes of a device -/

theorem in_classes (c : Dev nD) : (lIn c ↦{fullShare} xin m c : sProp 𝕄)
    = iprop((fam c .my fun j => pIn m c (chunk c .my j)) ∗ (fam c .ta fun j => pIn m c (chunk c .ta j)) ∗ fam c .tb fun j => pIn m c (chunk c .tb j)) := by
  obtain ⟨h0, h1, h2⟩ := own_classes c
  rw [in_blocks, fam_all .my .ta .tb h0 h1 h2]

theorem out_classes (c : Dev nD) (f : Buf (Elt F) (lOut c)) : (lOut c ↦{fullShare} f : sProp 𝕄)
    = iprop(((fam c .my fun j => own c .my j f) ∗ (fam c .ta fun j => own c .ta j f) ∗ fam c .tb fun j => own c .tb j f)
      ∗ (fam c .my fun j => pOut c (pb c (chunk c .my j)) fullShare f) ∗ (fam c .xn fun j => pOut c (pb c (chunk c .xn j)) fullShare f)
      ∗ fam c .miss fun j => pOut c (pb c (chunk c .miss j)) fullShare f) := by
  obtain ⟨h0, h1, h2⟩ := own_classes c
  obtain ⟨g0, g1, g2⟩ := far_classes c
  rw [out_blocks, bs_add 64 64, ← fam_all .my .ta .tb h0 h1 h2 (fun n => pOut c (ob c n) fullShare f), ← fam_all .my .xn .miss g0 g1 g2 (fun n => pOut c (pb c n) fullShare f)]
  obtain h | h : yc c = 0 ∨ yc c = 1 := by have := yc_lt c; omega
  · rw [bs_congr (A := fun n => pOut c (ob c n) fullShare f) (B := fun n => pOut c n fullShare f) fun n _ => by unfold ob; rw [h, Nat.mul_zero, Nat.zero_add],
      bs_congr (A := fun n => pOut c (pb c n) fullShare f) (B := fun n => pOut c (64 + n) fullShare f) fun n _ => by unfold pb; rw [h]]
  · rw [bs_congr (A := fun n => pOut c (ob c n) fullShare f) (B := fun n => pOut c (64 + n) fullShare f) fun n _ => by unfold ob; rw [h],
      bs_congr (A := fun n => pOut c (pb c n) fullShare f) (B := fun n => pOut c n fullShare f) fun n _ => by unfold pb; rw [h, Nat.sub_self, Nat.mul_zero, Nat.zero_add]]
    exact eq_of (by iintro ⟨H, H'⟩; iframe) (by iintro ⟨H, H'⟩; iframe)

/-- The far blocks of a device, as its neighbours name them. -/
theorem bar_own (c : Dev nD) (t : Fin 3) (k : Cls) (hk : ∀ j, chunk (nbr t c) (tCls t) j = chunk c k j) (hd : ∀ j, dst t (nbr t c) j = pb c (chunk c k j)) :
    barPay m (nbr t c) t = fam c k fun j => pOut c (pb c (chunk c k j)) fullShare (oin m c) := by
  unfold barPay
  refine bs_congr fun j _ => ?_
  rw [hd, nbr_nbr]
  unfold gd ok
  exact if_congr (by rw [hk]) rfl rfl
theorem bar_far (c : Dev nD) : iprop(barPay m (nbr 0 c) 0 ∗ barPay m (nbr 1 c) 1 ∗ barPay m (nbr 2 c) 2)
    = iprop((fam c .my fun j => pOut c (pb c (chunk c .my j)) fullShare (oin m c)) ∗ (fam c .xn fun j => pOut c (pb c (chunk c .xn j)) fullShare (oin m c))
      ∗ fam c .miss fun j => pOut c (pb c (chunk c .miss j)) fullShare (oin m c)) := by
  rw [bar_own c 0 .my (fun j => chunk_congr (my_y c) j) fun j => by
      show ob (yN c) (chunk (yN c) .my j) = _
      rw [← pb_y, yN_yN, chunk_congr (my_y c)],
    bar_own c 1 .xn (fun j => chunk_congr (my_x c) j) fun j => by
      show pb (xN c) (chunk (xN c) .my j) = _
      rw [pb_x, chunk_congr (my_x c)],
    bar_own c 2 .miss (fun j => chunk_congr (sz_z c) j) fun j => by
      show pb (zN c) (chunk (zN c) .sz j) = _
      rw [pb_z, chunk_congr (sz_z c)]]

end Cert.KernelIdeal.Prf
end
-- ==== Proof.Rights.lean ====
/-
# Rights and credits

What the launch deals a device at its semaphores, in the parts its run takes, and the semaphores at zero afterwards.
-/
module

public import proofs.«01_k».proof.Proof.Blocks

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] cSame cTail cBoth Cls.num

variable (m : (ℓ : Loc nD τ sig) → Buf (Elt F) ℓ) (c : Dev nD)

variable {m c} {K : Dev nD × SemLoc sig → ℕ}

/-! ## Chunks of a class and the others -/

/-- `A` for the numbers that name no chunk of a class. -/
def famN (c : Dev nD) (k : Cls) (A : ℕ → sProp 𝕄) : sProp 𝕄 := bigSep (Finset.range 22) fun j => gd (¬ok c k j) (A j)

theorem gd_both (p : Prop) [Decidable p] (A : sProp 𝕄) : iprop(gd p A ∗ gd (¬p) A) = A := by
  by_cases h : p
  · rw [gd_pos h, gd_neg (not_not.2 h)]; exact emp_r A
  · rw [gd_neg h, gd_pos h]; exact emp_l A
theorem gd_weaken (p : Prop) [Decidable p] (A : sProp 𝕄) : A ⊢ gd p A := by
  unfold gd; split
  · exact .rfl
  · iintro -; iempintro
theorem fam_both (k : Cls) (A : ℕ → sProp 𝕄) : bigSep (Finset.range 22) A = iprop(fam c k A ∗ famN c k A) := by
  unfold fam famN
  rw [← bigSep_sep' (Φ := fun j => gd (ok c k j) (A j))]
  exact bs_congr fun j _ => (gd_both _ _).symm
theorem fam_part (k : Cls) (A : ℕ → sProp 𝕄) : bigSep (Finset.range 22) A ⊢ fam c k A := by
  rw [fam_both (c := c) k]; iintro ⟨H, -⟩; iexact H

/-! ## All semaphores -/

theorem sem_bij : Function.Bijective (fun x : Fin 1 ⊕ Fin 158 => (match x with | .inl s => SemLoc.reg (sig := sig) s | .inr s => SemLoc.dma s)) := by
  constructor
  · rintro (a | a) (b | b) h
    · exact congrArg Sum.inl (SemLoc.reg.inj h)
    · exact absurd h (by simp)
    · exact absurd h (by simp)
    · exact congrArg Sum.inr (SemLoc.dma.inj h)
  · rintro (s | s)
    · exact ⟨.inl s, rfl⟩
    · exact ⟨.inr s, rfl⟩
theorem sems_two (Φ : SemLoc sig → sProp 𝕄) : bigSep Finset.univ Φ = iprop(Φ sB ∗ bigSep Finset.univ fun k : Fin 158 => Φ (.dma k)) := by
  rw [bigSep_univ_equiv (Equiv.ofBijective _ sem_bij), BI.bigSep_univ_sum]
  congr 1
  exact bigSep_univ_eq_bigSepL [0] (by decide) (by decide) _

theorem bs_fin (n : ℕ) (A : ℕ → sProp 𝕄) : (bigSep Finset.univ fun k : Fin n => A k.val) = bigSep (Finset.range n) A := by
  rw [show Finset.range n = Finset.univ.map Fin.valEmbedding from (Fin.map_valEmbedding_univ.trans (Nat.Iio_eq_range n)).symm, bigSep_map]
  rfl
theorem sem_val (q : Fin 7) (j : Fin 22) : (sem22 (arr q) j).val = 4 + (22 * q.val + j.val) := by revert q j; decide +kernel
theorem fam_sem (Φ : SemLoc sig → sProp 𝕄) (q : Fin 7) : (bigSep (Finset.range 22) fun j => Φ (.dma (Fin.ofNat 158 (4 + (22 * q.val + j)))))
    = bigSep (Finset.range 22) fun j => Φ (sF q j) := bs_congr fun j hj => by
  have h : Fin.ofNat 158 (4 + (22 * q.val + j)) = sem22 (arr q) (fj j) := Fin.ext (by
    rw [sem_val, show (fj j).val = j from Nat.mod_eq_of_lt hj]
    exact Nat.mod_eq_of_lt (by omega))
  unfold sF; rw [← h]
theorem sevens (A : ℕ → sProp 𝕄) : bigSep (Finset.range 154) A
    = iprop((bigSep (Finset.range 22) fun j => A (22 * 0 + j)) ∗ (bigSep (Finset.range 22) fun j => A (22 * 1 + j)) ∗ (bigSep (Finset.range 22) fun j => A (22 * 2 + j))
      ∗ (bigSep (Finset.range 22) fun j => A (22 * 3 + j)) ∗ (bigSep (Finset.range 22) fun j => A (22 * 4 + j)) ∗ (bigSep (Finset.range 22) fun j => A (22 * 5 + j))
      ∗ (bigSep (Finset.range 22) fun j => A (22 * 6 + j))) := by
  rw [show (154 : ℕ) = 22 * 6 + 22 from rfl, bs_add, show 22 * 6 = 22 * 5 + 22 from rfl, bs_add (22 * 5), show 22 * 5 = 22 * 4 + 22 from rfl, bs_add (22 * 4),
    show 22 * 4 = 22 * 3 + 22 from rfl, bs_add (22 * 3), show 22 * 3 = 22 * 2 + 22 from rfl, bs_add (22 * 2), show 22 * 2 = 22 * 1 + 22 from rfl, bs_add (22 * 1)]
  rw [bs_congr (n := 22 * 1) (A := A) (B := fun j => A (22 * 0 + j)) fun j _ => by rw [Nat.mul_zero, Nat.zero_add]]
  exact eq_of (by iintro ⟨⟨⟨⟨⟨⟨H0, H1⟩, H2⟩, H3⟩, H4⟩, H5⟩, H6⟩; iframe) (by iintro ⟨H0, H1, H2, H3, H4, H5, H6⟩; iframe)
theorem all_dma (A : ℕ → sProp 𝕄) : bigSep (Finset.range 158) A
    = iprop((A 0 ∗ A 1) ∗ (A (2 + 0) ∗ A (2 + 1)) ∗ bigSep (Finset.range 154) fun j => A (4 + j)) := by
  rw [show (158 : ℕ) = 2 + 2 + 154 from rfl, bs_add, bs_add 2 2, slots, slots]
  exact eq_of (by iintro ⟨⟨HL, HS⟩, HF⟩; iframe) (by iintro ⟨HL, HS, HF⟩; iframe)
theorem sems (Φ : SemLoc sig → sProp 𝕄) : bigSep Finset.univ Φ
    = iprop(Φ sB ∗ (Φ (sL 0) ∗ Φ (sL 1)) ∗ (Φ (sS 0) ∗ Φ (sS 1))
      ∗ ((bigSep (Finset.range 22) fun j => Φ (sF 0 j)) ∗ (bigSep (Finset.range 22) fun j => Φ (sF 1 j)) ∗ (bigSep (Finset.range 22) fun j => Φ (sF 2 j))
        ∗ (bigSep (Finset.range 22) fun j => Φ (sF 3 j)) ∗ (bigSep (Finset.range 22) fun j => Φ (sF 4 j)) ∗ (bigSep (Finset.range 22) fun j => Φ (sF 5 j))
        ∗ (bigSep (Finset.range 22) fun j => Φ (sF 6 j)))) := by
  rw [sems_two, show (bigSep Finset.univ fun k : Fin 158 => Φ (.dma k)) = bigSep Finset.univ fun k : Fin 158 => (fun n => Φ (.dma (Fin.ofNat 158 n))) k.val from
    bigSep_congr fun k _ => congrArg (fun k : Fin 158 => Φ (.dma k)) (Fin.ext (Nat.mod_eq_of_lt k.isLt).symm),
    bs_fin 158 fun n => Φ (.dma (Fin.ofNat 158 n)), all_dma, sevens]
  rw [← fam_sem Φ 0, ← fam_sem Φ 1, ← fam_sem Φ 2, ← fam_sem Φ 3, ← fam_sem Φ 4, ← fam_sem Φ 5, ← fam_sem Φ 6]
  rw [show sL 0 = .dma (Fin.ofNat 158 0) from by decide +kernel, show sL 1 = .dma (Fin.ofNat 158 1) from by decide +kernel,
    show sS 0 = .dma (Fin.ofNat 158 (2 + 0)) from by decide +kernel, show sS 1 = .dma (Fin.ofNat 158 (2 + 1)) from by decide +kernel]
  rfl

/-! ## The rights to raise -/

/-- All rights at a semaphore. -/
def tks (c : Dev nD) (s : SemLoc sig) : sProp 𝕄 := bigSep (Finset.range 33) fun r => bigSep Finset.univ fun d : Fin 3 => dutyTok ER (cell c s) r d

theorem tks_bar : tks (F := F) c sB ⊢ iprop(dutyTok ER (cell c sB) 0 0 ∗ dutyTok ER (cell c sB) 0 1 ∗ dutyTok ER (cell c sB) 0 2) := by
  have h : (bigSep Finset.univ fun d : Fin 3 => (dutyTok ER (cell c sB) 0 d : sProp 𝕄))
      = iprop(dutyTok ER (cell c sB) 0 0 ∗ dutyTok ER (cell c sB) 0 1 ∗ dutyTok ER (cell c sB) 0 2) :=
    bigSep_univ_eq_bigSepL [0, 1, 2] (by decide) (by decide) _
  unfold tks
  rw [bs_zero 32, h]
  iintro ⟨H, -⟩; iexact H
theorem tks_rounds (s : SemLoc sig) : tks (F := F) c s ⊢ bigSep (Finset.range 33) (tk c s) :=
  bigSep_mono fun r _ => bigSep_elim (Finset.mem_univ (0 : Fin 3))
theorem tks_first (s : SemLoc sig) : tks (F := F) c s ⊢ tk c s 0 :=
  (tks_rounds s).trans (bigSep_elim (Finset.mem_range.2 (by decide)))
theorem tks_some (s : SemLoc sig) : tks (F := F) c s ⊢ bigSep (Finset.range 22) (tk c s) :=
  (tks_rounds s).trans (by rw [show (33 : ℕ) = 22 + 11 from rfl, bs_add]; iintro ⟨H, -⟩; iexact H)

theorem odd_le (c : Dev nD) : odd c ≤ 11 := by unfold odd; split <;> decide
/-- The rights at the load semaphores, as the loads take them. -/
theorem load_rights : iprop(tks (F := F) c (sL 0) ∗ tks c (sL 1))
    ⊢ iprop((fam c .my fun j => tk c (sL (par j)) (j / 2)) ∗ (fam c .ta fun j => tk c (sL 0) (11 + j)) ∗ fam c .tb fun j => tk c (sL 1) (odd c + j)) := by
  have h0 : bigSep (Finset.range 33) (tk (F := F) c (sL 0)) = iprop(bigSep (Finset.range 11) (tk c (sL 0)) ∗ bigSep (Finset.range 22) fun j => tk c (sL 0) (11 + j)) :=
    bs_add 11 22 _
  have h1 : bigSep (Finset.range 33) (tk (F := F) c (sL 1)) ⊢ iprop(bigSep (Finset.range (odd c)) (tk c (sL 1)) ∗ bigSep (Finset.range 22) fun j => tk c (sL 1) (odd c + j)) := by
    rw [show 33 = odd c + 22 + (11 - odd c) from by have := odd_le c; omega, bs_add, bs_add]
    iintro ⟨H, -⟩; iexact H
  have h2 : (fam c .my fun j => tk (F := F) c (sL (par j)) (j / 2))
      = iprop((bigSep (Finset.range 11) fun j => gd (ok c .my (2 * j)) (tk c (sL 0) j)) ∗ bigSep (Finset.range 11) fun j => gd (ok c .my (2 * j + 1)) (tk c (sL 1) j)) := by
    unfold fam
    rw [show (22 : ℕ) = 2 * 11 from rfl, bs_double]
    have g0 : ∀ j < 11, gd (ok c .my (2 * j)) (tk (F := F) c (sL (par (2 * j))) (2 * j / 2)) = gd (ok c .my (2 * j)) (tk c (sL 0) j) := fun j _ => by
      rw [show par (2 * j) = 0 from Fin.ext (Nat.mul_mod_right 2 j), Nat.mul_div_cancel_left j (by decide)]
    have g1 : ∀ j < 11, gd (ok c .my (2 * j + 1)) (tk (F := F) c (sL (par (2 * j + 1))) ((2 * j + 1) / 2)) = gd (ok c .my (2 * j + 1)) (tk c (sL 1) j) := fun j _ => by
      rw [show par (2 * j + 1) = 1 from Fin.ext (by show (2 * j + 1) % 2 = 1; omega), show (2 * j + 1) / 2 = j from by omega]
    rw [bs_congr g0, bs_congr g1]
  have h3 : bigSep (Finset.range (odd c)) (tk (F := F) c (sL 1)) ⊢ bigSep (Finset.range 11) fun j => gd (ok c .my (2 * j + 1)) (tk c (sL 1) j) := by
    by_cases h : Cls.my.num c = 0
    · rw [show odd c = 11 from if_pos h]
      exact bigSep_mono fun j _ => gd_weaken _ _
    · rw [show odd c = 10 from if_neg h, bs_succ 10, gd_neg (show ¬ok c .my (2 * 10 + 1) from fun h' => h (ok_zero h')), emp_l]
      exact bigSep_mono fun j _ => gd_weaken _ _
  have h4 : bigSep (Finset.range 11) (tk (F := F) c (sL 0)) ⊢ bigSep (Finset.range 11) fun j => gd (ok c .my (2 * j)) (tk c (sL 0) j) := bigSep_mono fun j _ => gd_weaken _ _
  rw [h2]
  iintro ⟨H0, H1⟩
  ihave H0 := (tks_rounds (F := F) (c := c) (sL 0)) $$ H0
  ihave H1 := (tks_rounds (F := F) (c := c) (sL 1)) $$ H1
  ihave H0 := (Entails.of_eq h0) $$ H0
  ihave H1 := h1 $$ H1
  icases H0 with ⟨Ha, Hta⟩
  icases H1 with ⟨Hb, Htb⟩
  isplitl [Ha Hb]
  · isplitl [Ha]
    · iapply h4; iexact Ha
    · iapply h3; iexact Hb
  isplitl [Hta]
  · iapply (fam_part (c := c) .ta fun j => tk (F := F) c (sL 0) (11 + j)); iexact Hta
  · iapply (fam_part (c := c) .tb fun j => tk (F := F) c (sL 1) (odd c + j)); iexact Htb

/-- The rights a device keeps at its own semaphores, and those it passes to its neighbours. -/
def keep (c : Dev nD) : sProp 𝕄 :=
  iprop(((fam c .my fun j => tk c (sL (par j)) (j / 2)) ∗ (fam c .ta fun j => tk c (sL 0) (11 + j)) ∗ fam c .tb fun j => tk c (sL 1) (odd c + j))
    ∗ (fam c .ta (tk c (sS 0)) ∗ fam c .tb (tk c (sS 1)))
    ∗ ((fam c .my fun j => tk c (sF 0 j) 0) ∗ (fam c .my fun j => tk c (sF 1 j) 0) ∗ (fam c .my fun j => tk c (sF 3 j) 0) ∗ fam c .sz fun j => tk c (sF 5 j) 0))
def pass (t : Fin 3) (c : Dev nD) : sProp 𝕄 := iprop(dutyTok ER (cell c sB) 0 t ∗ bigSep (Finset.range 22) fun j => tk c (sF (rq t) j) 0)

theorem fam_first (k : Cls) (q : Fin 7) : (bigSep (Finset.range 22) fun j => tks (F := F) c (sF q j)) ⊢ fam c k fun j => tk c (sF q j) 0 :=
  (bigSep_mono fun j _ => tks_first _).trans (fam_part k _)
theorem all_first (q : Fin 7) : (bigSep (Finset.range 22) fun j => tks (F := F) c (sF q j)) ⊢ bigSep (Finset.range 22) fun j => tk c (sF q j) 0 :=
  bigSep_mono fun j _ => tks_first _
theorem deal : bigSep Finset.univ (tks (F := F) c) ⊢ iprop(keep c ∗ pass 0 c ∗ pass 1 c ∗ pass 2 c) := by
  rw [sems]
  unfold keep pass rq
  iintro ⟨HB, HL, ⟨HS0, HS1⟩, H0, H1, H2, H3, H4, H5, H6⟩
  ihave HB := (tks_bar (F := F) (c := c)) $$ HB
  icases HB with ⟨B0, B1, B2⟩
  ihave HL := (load_rights (F := F) (c := c)) $$ HL
  ihave HS0 := ((tks_some (F := F) (c := c) (sS 0)).trans (fam_part .ta _)) $$ HS0
  ihave HS1 := ((tks_some (F := F) (c := c) (sS 1)).trans (fam_part .tb _)) $$ HS1
  ihave H0 := (fam_first (F := F) (c := c) .my 0) $$ H0
  ihave H1 := (fam_first (F := F) (c := c) .my 1) $$ H1
  ihave H3 := (fam_first (F := F) (c := c) .my 3) $$ H3
  ihave H5 := (fam_first (F := F) (c := c) .sz 5) $$ H5
  ihave H2 := (all_first (F := F) (c := c) 2) $$ H2
  ihave H4 := (all_first (F := F) (c := c) 4) $$ H4
  ihave H6 := (all_first (F := F) (c := c) 6) $$ H6
  iframe

/-- Passed along an axis by every device, a right comes from the neighbour. -/
theorem pass_around (t : Fin 3) : bigSep Finset.univ (fun c : Dev nD => pass (F := F) t c) = bigSep Finset.univ fun c : Dev nD => pass t (nbr t c) :=
  bigSep_univ_equiv ⟨nbr t, nbr t, nbr_nbr t, nbr_nbr t⟩ _
theorem deal_all : (bigSep Finset.univ fun c : Dev nD => bigSep Finset.univ (tks (F := F) c))
    ⊢ bigSep Finset.univ fun c : Dev nD => iprop(keep c ∗ pass 0 (nbr 0 c) ∗ pass 1 (nbr 1 c) ∗ pass 2 (nbr 2 c)) := by
  rw [bigSep_sep' (Φ := fun c : Dev nD => keep (F := F) c), bigSep_sep' (Φ := fun c : Dev nD => pass (F := F) 0 (nbr 0 c)), bigSep_sep' (Φ := fun c : Dev nD => pass (F := F) 1 (nbr 1 c)),
    ← pass_around 0, ← pass_around 1, ← pass_around 2, ← bigSep_sep' (Φ := fun c : Dev nD => pass (F := F) 1 c), ← bigSep_sep' (Φ := fun c : Dev nD => pass (F := F) 0 c),
    ← bigSep_sep' (Φ := fun c : Dev nD => keep (F := F) c)]
  exact bigSep_mono fun c _ => deal

/-- The rights of the sends along an axis. -/
theorem send_rights (t : Fin 3) (k : Cls) : iprop((fam c k fun j => tk (F := F) c (sF (sq t) j) 0) ∗ bigSep (Finset.range 22) fun j => tk (nbr t c) (sF (rq t) j) 0) ⊢ fam c k (sndT c t) := by
  rw [show fam c k (sndT (F := F) c t) = iprop((fam c k fun j => tk c (sF (sq t) j) 0) ∗ fam c k fun j => tk (nbr t c) (sF (rq t) j) 0) from fam_sep k _ _]
  iintro ⟨H, H'⟩
  isplitl [H]; · iexact H
  iapply (fam_part (c := c) k fun j => tk (F := F) (nbr t c) (sF (rq t) j) 0); iexact H'

/-! ## The credits -/

theorem cred_at (t : Fin 3) (p : Dev nD → Prop) [DecidablePred p] (s : SemLoc sig) (n : ℕ) (c : Dev nD) :
    (Pipeline.launchCred (fun d => if p d then tallyAt (cell (nbr t d) s) () n else 0) c : sProp 𝕄) = gd (p (nbr t c)) (cr c s n) := by
  rw [Pipeline.launchCred_of_sum _ (fun d => if p (nbr t d) then tallyAt (cell d s) () n else 0)]
  · by_cases h : p (nbr t c)
    · rw [if_pos h, gd_pos h]; rfl
    · rw [if_neg h, gd_neg h]; exact cred_zero
  · rw [← Equiv.sum_comp (⟨nbr t, nbr t, nbr_nbr t, nbr_nbr t⟩ : Dev nD ≃ Dev nD)]
    refine Finset.sum_congr rfl fun d _ => ?_
    show (if p (nbr t d) then tallyAt (cell (nbr t (nbr t d)) s) () n else 0) = _
    rw [nbr_nbr]
  · intro d g h
    by_cases hp : p (nbr t d)
    · rw [if_pos hp] at h
      by_contra hg
      exact h (tallyAt_ne_cell (fun h' => hg (congrArg Prod.fst h')) () n)
    · rw [if_neg hp] at h; exact absurd rfl h

theorem cred_sends (t : Fin 3) (k : Cls) (hk : ∀ j, chunk (nbr t c) (tCls t) j = chunk c k j) :
    (Pipeline.launchCred (fun d => OT t d 0) c : sProp 𝕄) = fam c k fun j => cr c (sF (rq t) j) N16 := by
  unfold OT
  rw [Pipeline.launchCred_sum, ← Finset.range_eq_Ico]
  refine bs_congr fun j _ => ?_
  unfold term
  rw [cred_at t (fun d => ok d (tCls t) j)]
  unfold gd ok
  exact if_congr (by rw [hk]) rfl rfl
theorem cred_bar (t : Fin 3) : (Pipeline.launchCred (oB t) c : sProp 𝕄) = cr c sB 1 := by
  have h := cred_at (F := F) t (fun _ => True) sB 1 c
  simp only [if_true] at h
  exact h.trans (gd_pos trivial _)
theorem cred_three : iprop(cr (F := F) c sB 1 ∗ cr c sB 1 ∗ cr c sB 1) ⊢ cr c sB 3 := by
  unfold cr
  rw [show (tallyAt (cell c sB) () 3 : CellTallies nD τ sig Unit) = tallyAt (cell c sB) () 1 + (tallyAt (cell c sB) () 1 + tallyAt (cell c sB) () 1) from by
    rw [show (3 : ℕ) = 1 + (1 + 1) from rfl, tallyAt_add, tallyAt_add]]
  iintro ⟨H0, H1, H2⟩
  iapply (cred_add _ _).2
  isplitl [H0]; · iexact H0
  iapply (cred_add _ _).2
  isplitl [H1] <;> iassumption

theorem creds : (Pipeline.launchCred O₀ c : sProp 𝕄)
    ⊢ iprop(cr c sB 3 ∗ (fam c .my fun j => cr c (sF 2 j) N16) ∗ (fam c .xn fun j => cr c (sF 4 j) N16) ∗ fam c .miss fun j => cr c (sF 6 j) N16) := by
  have h0 : (Pipeline.launchCred (fun d => OT 0 d 0) c : sProp 𝕄) = fam c .my fun j => cr c (sF 2 j) N16 := cred_sends (F := F) (c := c) 0 .my fun j => chunk_congr (my_y c) j
  have h1 : (Pipeline.launchCred (fun d => OT 1 d 0) c : sProp 𝕄) = fam c .xn fun j => cr c (sF 4 j) N16 := cred_sends (F := F) (c := c) 1 .xn fun j => chunk_congr (my_x c) j
  have h2 : (Pipeline.launchCred (fun d => OT 2 d 0) c : sProp 𝕄) = fam c .miss fun j => cr c (sF 6 j) N16 := cred_sends (F := F) (c := c) 2 .miss fun j => chunk_congr (sz_z c) j
  rw [show (O₀ : Dev nD → CellTallies nD τ sig Unit) = fun d => (((OT 0 d 0 + OT 1 d 0 + OT 2 d 0) + oB 2 d) + oB 1 d) + oB 0 d from rfl]
  rw [Pipeline.launchCred_add, Pipeline.launchCred_add (fun d => OT 0 d 0 + OT 1 d 0 + OT 2 d 0 + oB 2 d), Pipeline.launchCred_add (fun d => OT 0 d 0 + OT 1 d 0 + OT 2 d 0),
    Pipeline.launchCred_add (fun d => OT 0 d 0 + OT 1 d 0), Pipeline.launchCred_add (fun d => OT 0 d 0), h0, h1, h2,
    show Pipeline.launchCred (fun d => oB 0 d) c = cr (F := F) c sB 1 from cred_bar 0, show Pipeline.launchCred (fun d => oB 1 d) c = cr (F := F) c sB 1 from cred_bar 1,
    show Pipeline.launchCred (fun d => oB 2 d) c = cr (F := F) c sB 1 from cred_bar 2]
  iintro ⟨⟨⟨⟨⟨H0, H1⟩, H2⟩, B2⟩, B1⟩, B0⟩
  isplitl [B0 B1 B2]
  · iapply (cred_three (F := F) (c := c)); iframe
  isplitl [H0]; · iexact H0
  isplitl [H1] <;> iassumption

/-! ## The semaphores at zero -/

/-- A device is past the last round of a semaphore of its own. -/
def past (c : Dev nD) (s : SemLoc sig) : sProp 𝕄 := iprop(∃ R, ⌜∀ r, R ≤ r → ¬due c (tagOf s) r⌝ ∗ pos c s R)
theorem past_of (s : SemLoc sig) (R : ℕ) (h : ∀ r, R ≤ r → ¬due c (tagOf s) r) : pos (F := F) c s R ⊢ past c s := by
  unfold past
  iintro H
  iexists R
  isplitr; · ipureintro; exact h
  iexact H
theorem close_one (s : SemLoc sig) : iprop(Ctx m K ∗ past c s) ⊢ |={Set.univ}=> semVal (cell c s) 0 := by
  unfold past
  iintro ⟨HC, %R, %h, Hp⟩
  ihave HI := (ctx_inv m K c s) $$ HC
  iapply (Rounds.cell_close ER (sch m) (Set.mem_univ (K (c, s))) (fun h => h) (R := R) fun r hr => duties_none m c s _ rfl r (h r hr))
  isplitl [HI]; · iexact HI
  unfold pos; iexact Hp
theorem with_ctx {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)
theorem close_all : iprop(Ctx m K ∗ bigSep Finset.univ (past c)) ⊢ |={Set.univ}=> bigSep Finset.univ fun s => semVal (cell c s) 0 :=
  (with_ctx fun s _ => close_one s).trans (bigSep_fupd _ _)

theorem not_ok (k : Cls) (j : ℕ) (h : cnt c k ≤ j) : ¬ok c k j := fun h' => by
  have h1 : 3 * j + k.num c < 64 := h'
  by_cases h2 : ok c k 21
  · rw [cnt_pos h2] at h; omega
  · rw [cnt_neg h2] at h
    have h3 : ¬(3 * 21 + k.num c < 64) := h2
    omega
theorem past_bar : pos (F := F) c sB 1 ⊢ past c sB := past_of _ _ fun r hr h => by
  have : r = 0 := h
  omega
theorem past_ta : pos (F := F) c (sL 0) (11 + cnt c .ta) ⊢ past c (sL 0) := past_of _ _ fun r hr h => by
  rw [tag_L] at h
  obtain ⟨j, rfl⟩ : ∃ j, r = 11 + j := ⟨r - 11, by omega⟩
  have h' : ok c (ldAt c 0 (11 + j)).1 (ldAt c 0 (11 + j)).2 := h
  rw [ldAt_ta] at h'
  exact not_ok .ta j (by omega) h'
theorem past_tb : pos (F := F) c (sL 1) (odd c + cnt c .tb) ⊢ past c (sL 1) := past_of _ _ fun r hr h => by
  rw [tag_L] at h
  obtain ⟨j, rfl⟩ : ∃ j, r = odd c + j := ⟨r - odd c, by omega⟩
  have h' : ok c (ldAt c 1 (odd c + j)).1 (ldAt c 1 (odd c + j)).2 := h
  rw [ldAt_tb] at h'
  exact not_ok .tb j (by omega) h'
theorem past_st (s : Fin 2) : pos (F := F) c (sS s) (cnt c (stCls s)) ⊢ past c (sS s) := past_of _ _ fun r hr h => by
  rw [tag_S] at h
  exact not_ok (stCls s) r hr h
theorem past_fam (q : Fin 7) (k : Cls) (hk : famCls q = k) :
    iprop((fam c k fun j => pos (F := F) c (sF q j) 1) ∗ famN c k fun j => pos c (sF q j) 0) ⊢ bigSep (Finset.range 22) fun j => past c (sF q j) := by
  subst hk
  unfold fam famN
  rw [← bigSep_sep' (Φ := fun j => gd (ok c (famCls q) j) (pos c (sF q j) 1))]
  refine bigSep_mono fun j hj => ?_
  have ht := tag_F q j (Finset.mem_range.1 hj)
  by_cases h : ok c (famCls q) j
  · rw [gd_pos h, gd_neg (not_not.2 h), emp_r]
    refine past_of _ _ fun r hr h' => ?_
    rw [ht] at h'
    have : r = 0 := h'.1
    omega
  · rw [gd_neg h, gd_pos h, emp_l]
    refine past_of _ _ fun r hr h' => ?_
    rw [ht] at h'
    exact h h'.2

end Cert.KernelIdeal.Prf
end
-- ==== Proof.Ends.lean ====
/-
# What a device starts and ends with

The memory, rights and credits a device is given at launch are what its run takes; what the run leaves is its memory with the
gathered rows, and its semaphores at zero.
-/
module

public import proofs.«01_k».proof.Proof.Rights

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] cSame cTail cBoth Cls.num

variable (m : (ℓ : Loc nD τ sig) → Buf (Elt F) ℓ) (c : Dev nD)

variable {m c} {K : Dev nD × SemLoc sig → ℕ}

/-! ## The parts of what the run takes -/

theorem my_loads : fam c .my (LdMy m c) = iprop((fam c .my fun j => pIn m c (chunk c .my j)) ∗ fam c .my fun j => tk c (sL (par j)) (j / 2)) := fam_sep _ _ _
theorem ta_loads : fam c .ta (LdTa m c) = iprop((fam c .ta fun j => pIn m c (chunk c .ta j)) ∗ fam c .ta fun j => tk c (sL 0) (11 + j)) := fam_sep _ _ _
theorem tb_loads : fam c .tb (LdTb m c) = iprop((fam c .tb fun j => pIn m c (chunk c .tb j)) ∗ fam c .tb fun j => tk c (sL 1) (odd c + j)) := fam_sep _ _ _
theorem mine_parts : fam c .my (MineR m c)
    = iprop((fam c .my fun j => iprop(∃ f, pMi c j fullShare f)) ∗ (fam c .my fun j => own c .my j (oin m c)) ∗ fam c .my fun j => tk c (sF 0 j) 0) := by
  rw [← fam_sep .my (fun j => own c .my j (oin m c))]
  exact fam_sep _ _ _
theorem stage_parts (k : Cls) (s : Fin 2) : fam c k (StR m c k s) = iprop((fam c k fun j => own c k j (oin m c)) ∗ fam c k (tk c (sS s))) := fam_sep _ _ _
theorem arrive_parts (k : Cls) (q : Fin 7) : fam c k (RcvR (F := F) c q) = iprop((fam c k fun j => cr c (sF q j) N16) ∗ fam c k fun j => pos c (sF q j) 0) := fam_sep _ _ _

/-! ## The start -/

/-- Places and rights of a device. -/
def lin (c : Dev nD) : sProp 𝕄 :=
  iprop((bigSep Finset.univ fun s => pos c s 0) ∗ keep c ∗ pass 0 (nbr 0 c) ∗ pass 1 (nbr 1 c) ∗ pass 2 (nbr 2 c))
/-- Its credits. -/
def dues (c : Dev nD) : sProp 𝕄 :=
  iprop(cr c sB 3 ∗ (fam c .my fun j => cr c (sF 2 j) N16) ∗ (fam c .xn fun j => cr c (sF 4 j) N16) ∗ fam c .miss fun j => cr c (sF 6 j) N16)
/-- Its scratch memory. -/
def scr (c : Dev nD) : sProp 𝕄 :=
  iprop((∃ f : Buf (Elt F) (lMine c), lMine c ↦{fullShare} f) ∗ (∃ f : Buf (Elt F) (lLd c), lLd c ↦{fullShare} f) ∗ ∃ f : Buf (Elt F) (lSt c), lSt c ↦{fullShare} f)
/-- What the run does not touch. -/
def unused (c : Dev nD) : sProp 𝕄 :=
  iprop(((famN c .my fun j => pos c (sF 0 j) 0) ∗ (famN c .my fun j => pos c (sF 1 j) 0) ∗ (famN c .my fun j => pos c (sF 2 j) 0) ∗ (famN c .my fun j => pos c (sF 3 j) 0)
      ∗ (famN c .xn fun j => pos c (sF 4 j) 0) ∗ (famN c .sz fun j => pos c (sF 5 j) 0) ∗ famN c .miss fun j => pos c (sF 6 j) 0)
    ∗ famN c .my fun j => iprop(∃ f, pMi c j fullShare f))

theorem places (c : Dev nD) : (bigSep Finset.univ fun s => pos (F := F) c s 0)
    = iprop(pos c sB 0 ∗ (pos c (sL 0) 0 ∗ pos c (sL 1) 0) ∗ (pos c (sS 0) 0 ∗ pos c (sS 1) 0)
      ∗ ((fam c .my fun j => pos c (sF 0 j) 0) ∗ famN c .my fun j => pos c (sF 0 j) 0) ∗ ((fam c .my fun j => pos c (sF 1 j) 0) ∗ famN c .my fun j => pos c (sF 1 j) 0)
      ∗ ((fam c .my fun j => pos c (sF 2 j) 0) ∗ famN c .my fun j => pos c (sF 2 j) 0) ∗ ((fam c .my fun j => pos c (sF 3 j) 0) ∗ famN c .my fun j => pos c (sF 3 j) 0)
      ∗ ((fam c .xn fun j => pos c (sF 4 j) 0) ∗ famN c .xn fun j => pos c (sF 4 j) 0) ∗ ((fam c .sz fun j => pos c (sF 5 j) 0) ∗ famN c .sz fun j => pos c (sF 5 j) 0)
      ∗ ((fam c .miss fun j => pos c (sF 6 j) 0) ∗ famN c .miss fun j => pos c (sF 6 j) 0)) := by
  rw [sems, fam_both (c := c) .my fun j => pos (F := F) c (sF 0 j) 0, fam_both (c := c) .my fun j => pos (F := F) c (sF 1 j) 0, fam_both (c := c) .my fun j => pos (F := F) c (sF 2 j) 0,
    fam_both (c := c) .my fun j => pos (F := F) c (sF 3 j) 0, fam_both (c := c) .xn fun j => pos (F := F) c (sF 4 j) 0, fam_both (c := c) .sz fun j => pos (F := F) c (sF 5 j) 0,
    fam_both (c := c) .miss fun j => pos (F := F) c (sF 6 j) 0]

theorem some_mine (j : ℕ) (f : Buf (Elt F) (lMine c)) : pMi (F := F) c j fullShare f ⊢ iprop(∃ f, pMi c j fullShare f) := by
  iintro H; iexists f; iexact H
theorem mine_some (f : Buf (Elt F) (lMine c)) : (lMine c ↦{fullShare} f : sProp 𝕄)
    ⊢ iprop((fam c .my fun j => iprop(∃ f, pMi c j fullShare f)) ∗ famN c .my fun j => iprop(∃ f, pMi c j fullShare f)) := by
  rw [mine_blocks, ← fam_both (c := c) .my fun j => iprop(∃ f, pMi c j fullShare f)]
  exact bigSep_mono fun j _ => some_mine j f

theorem out_start : (lOut c ↦{fullShare} oin m c : sProp 𝕄)
    ⊢ iprop(((fam c .my fun j => own c .my j (oin m c)) ∗ (fam c .ta fun j => own c .ta j (oin m c)) ∗ (fam c .tb fun j => own c .tb j (oin m c)))
      ∗ barPay m (nbr 0 c) 0 ∗ barPay m (nbr 1 c) 1 ∗ barPay m (nbr 2 c) 2) := by
  rw [bar_far, out_classes]

theorem load_start (s : Fin 2) : iprop(Ctx m K ∗ pos c (sL s) 0 ∗ ∃ f, pLd (F := F) c s f) ⊢ ldI c s 0 := by
  iintro ⟨HC, Hp, Hf⟩
  ihave HR := (ctx_reached m K c (sL s)) $$ HC
  isplitl [Hp]; · iexact Hp
  isplitl [HR]; · unfold rc; iexact HR
  iexact Hf
theorem stage_start (s : Fin 2) : iprop(Ctx m K ∗ pos c (sS s) 0 ∗ ∃ f, pSt (F := F) c s f) ⊢ stI c s 0 := by
  iintro ⟨HC, Hp, Hf⟩
  ihave HR := (ctx_reached m K c (sS s)) $$ HC
  isplitl [Hp]; · iexact Hp
  isplitl [HR]; · unfold rc; iexact HR
  iexact Hf

theorem take : iprop(Ctx m K ∗ ow c (O₀ c) ∗ lin c ∗ dues c ∗ (lIn c ↦{fullShare} xin m c) ∗ (lOut c ↦{fullShare} oin m c) ∗ scr c) ⊢ iprop(P0 m c ∗ unused c) := by
  unfold P0 sigR
  rw [my_loads, ta_loads, tb_loads, mine_parts, stage_parts, stage_parts, arrive_parts, arrive_parts, arrive_parts]
  unfold lin keep pass dues scr unused
  rw [places, in_classes]
  iintro ⟨#HC, HO, ⟨⟨PB, ⟨PL0, PL1⟩, ⟨PS0, PS1⟩, ⟨P0, N0⟩, ⟨P1, N1⟩, ⟨P2, N2⟩, ⟨P3, N3⟩, ⟨P4, N4⟩, ⟨P5, N5⟩, P6, N6⟩, ⟨⟨TL0, TL1, TL2⟩, ⟨TS0, TS1⟩, T0, T1, T3, T5⟩, Q0, Q1, Q2⟩,
    ⟨CB, C2, C4, C6⟩, ⟨I0, I1, I2⟩, HU, ⟨%f0, HM⟩, ⟨%f1, HL⟩, %f2, HS⟩
  ihave HU := (out_start (F := F)) $$ HU
  icases HU with ⟨⟨U0, U1, U2⟩, B0, B1, B2⟩
  ihave HM := (mine_some (F := F) f0) $$ HM
  icases HM with ⟨HM, HMN⟩
  ihave HL := (Entails.of_eq (load_slots (F := F) c f1)) $$ HL
  icases HL with ⟨L0, L1⟩
  ihave HS := (Entails.of_eq (stage_slots (F := F) c f2)) $$ HS
  icases HS with ⟨S0, S1⟩
  ihave L0 := (load_start (m := m) (K := K) (c := c) 0) $$ [PL0 L0]
  · isplitr; · iexact HC
    isplitl [PL0]; · iexact PL0
    iexists f1; iexact L0
  ihave L1 := (load_start (m := m) (K := K) (c := c) 1) $$ [PL1 L1]
  · isplitr; · iexact HC
    isplitl [PL1]; · iexact PL1
    iexists f1; iexact L1
  ihave S0 := (stage_start (m := m) (K := K) (c := c) 0) $$ [PS0 S0]
  · isplitr; · iexact HC
    isplitl [PS0]; · iexact PS0
    iexists f2; iexact S0
  ihave S1 := (stage_start (m := m) (K := K) (c := c) 1) $$ [PS1 S1]
  · isplitr; · iexact HC
    isplitl [PS1]; · iexact PS1
    iexists f2; iexact S1
  icases Q0 with ⟨D0, Q0⟩
  icases Q1 with ⟨D1, Q1⟩
  icases Q2 with ⟨D2, Q2⟩
  have s0 : iprop((fam c .my fun j => tk (F := F) c (sF 1 j) 0) ∗ bigSep (Finset.range 22) fun j => tk (nbr 0 c) (sF (rq 0) j) 0) ⊢ fam c .my (sndT c 0) := send_rights 0 .my
  have s1 : iprop((fam c .my fun j => tk (F := F) c (sF 3 j) 0) ∗ bigSep (Finset.range 22) fun j => tk (nbr 1 c) (sF (rq 1) j) 0) ⊢ fam c .my (sndT c 1) := send_rights 1 .my
  have s2 : iprop((fam c .sz fun j => tk (F := F) c (sF 5 j) 0) ∗ bigSep (Finset.range 22) fun j => tk (nbr 2 c) (sF (rq 2) j) 0) ⊢ fam c .sz (sndT c 2) := send_rights 2 .sz
  ihave Q0 := s0 $$ [T1 Q0]
  · isplitl [T1] <;> iassumption
  ihave Q1 := s1 $$ [T3 Q1]
  · isplitl [T3] <;> iassumption
  ihave Q2 := s2 $$ [T5 Q2]
  · isplitl [T5] <;> iassumption
  iframe

/-! ## The end -/

theorem leave : iprop(Ctx m K ∗ P1 m c ∗ unused c)
    ⊢ |={Set.univ}=> iprop(ow c 0 ∗ (bigSep Finset.univ fun s => semVal (cell c s) 0) ∗ (lIn c ↦{fullShare} xin m c) ∗ (lOut c ↦{fullShare} fin m c) ∗ scr c) := by
  unfold P1 unused stF'
  rw [in_classes, out_classes]
  iintro ⟨HC, ⟨HO, PB, ⟨⟨PL0, -, L0⟩, ⟨PL1, -, L1⟩, ⟨PS0, S0⟩, PS1, S1⟩, HI, HU, HV, HM, P0, P1, P2, P3, P4, P5, P6⟩, ⟨N0, N1, N2, N3, N4, N5, N6⟩, HN⟩
  ihave PB := (past_bar (F := F) (c := c)) $$ PB
  ihave PL0 := (past_ta (F := F) (c := c)) $$ PL0
  ihave PL1 := (past_tb (F := F) (c := c)) $$ PL1
  ihave PS0 := (past_st (F := F) (c := c) 0) $$ PS0
  ihave PS1 := (past_st (F := F) (c := c) 1) $$ PS1
  ihave P0 := (past_fam (F := F) (c := c) 0 .my rfl) $$ [P0 N0]
  · isplitl [P0] <;> iassumption
  ihave P1 := (past_fam (F := F) (c := c) 1 .my rfl) $$ [P1 N1]
  · isplitl [P1] <;> iassumption
  ihave P2 := (past_fam (F := F) (c := c) 2 .my rfl) $$ [P2 N2]
  · isplitl [P2] <;> iassumption
  ihave P3 := (past_fam (F := F) (c := c) 3 .my rfl) $$ [P3 N3]
  · isplitl [P3] <;> iassumption
  ihave P4 := (past_fam (F := F) (c := c) 4 .xn rfl) $$ [P4 N4]
  · isplitl [P4] <;> iassumption
  ihave P5 := (past_fam (F := F) (c := c) 5 .sz rfl) $$ [P5 N5]
  · isplitl [P5] <;> iassumption
  ihave P6 := (past_fam (F := F) (c := c) 6 .miss rfl) $$ [P6 N6]
  · isplitl [P6] <;> iassumption
  imod (close_all (m := m) (K := K) (c := c)) $$ [HC PB PL0 PL1 PS0 PS1 P0 P1 P2 P3 P4 P5 P6] with HZ
  · isplitl [HC]; · iexact HC
    rw [sems]; iframe
  imodintro
  isplitl [HO]; · iexact HO
  isplitl [HZ]; · iexact HZ
  isplitl [HI]; · iexact HI
  isplitl [HU HV]; · iframe
  unfold scr
  isplitl [HM HN]
  · iapply (mine_rejoin (F := F) c)
    rw [fam_both (c := c) .my fun j => iprop(∃ f, pMi (F := F) c j fullShare f)]
    isplitl [HM]
    · iapply (fam_mono (c := c) (k := .my) fun j => some_mine j (mineF m c))
      iexact HM
    · iexact HN
  isplitl [L0 L1]
  · iapply (load_rejoin (F := F) c)
    isplitl [L0] <;> iassumption
  · iapply (stage_rejoin (F := F) c)
    isplitl [S0] <;> iassumption

end Cert.KernelIdeal.Prf
end
-- ==== Proof.Align.lean ====
/-
# The printed body is the list

Both sides are followed operation by operation; each must be the same operation on the same operands, which are the
same terms once the definitions unfold.
-/
module

public import proofs.«01_k».proof.Proof.Listing

@[expose] public section

noncomputable section

namespace Cert.KernelIdeal.Prf

open Cert.KernelIdeal Cert.KernelIdeal.Gen
open Idealize.ShloMosaic Idealize.SL.Sem

variable {F : FTy → Type} [FloatOps F]

section
variable {E : Type → Type _} {α β γ δ : Type}

theorem op_congr {e : E β} {f g : β → Prog E α} (h : ∀ x, f x = g x) : Prog.op e f = Prog.op e g :=
  congrArg _ (funext h)

/-- A conditional with what follows it in its part of the text repeated in both branches. -/
theorem dite_join {c : BitVec 1} {A : c = 1#1 → Prog E β} {R : Prog E β} {K : β → Prog E α}
    {A' : c = 1#1 → Prog E PUnit} {K' : PUnit → Prog E α} (hA : ∀ h, A h = (A' h).bind (fun _ => R))
    (h : R.bind K = K' PUnit.unit) :
    (dite (c = 1#1) A (fun _ => R)).bind K = (dite (c = 1#1) A' (fun _ => .ret PUnit.unit)).bind K' := by
  by_cases hc : c = 1#1
  · rw [dif_pos hc, dif_pos hc, hA]
    exact (Prog.bind_assoc _ _ K).trans (congrArg (Prog.bind (A' hc)) (funext fun _ => h))
  · rw [dif_neg hc, dif_neg hc]; exact h
theorem dite_join₂ {c : BitVec 1} {A : c = 1#1 → Prog E β} {R : Prog E β} {K₁ : β → Prog E γ} {K : γ → Prog E α}
    {A' : c = 1#1 → Prog E PUnit} {K' : PUnit → Prog E α} (hA : ∀ h, A h = (A' h).bind (fun _ => R))
    (h : (R.bind K₁).bind K = K' PUnit.unit) :
    ((dite (c = 1#1) A (fun _ => R)).bind K₁).bind K
      = (dite (c = 1#1) A' (fun _ => .ret PUnit.unit)).bind K' :=
  (Prog.bind_assoc _ K₁ K).trans (dite_join hA ((Prog.bind_assoc R K₁ K).symm.trans h))
theorem dite_join₃ {c : BitVec 1} {A : c = 1#1 → Prog E β} {R : Prog E β} {K₁ : β → Prog E γ} {K₂ : γ → Prog E δ}
    {K : δ → Prog E α} {A' : c = 1#1 → Prog E PUnit} {K' : PUnit → Prog E α}
    (hA : ∀ h, A h = (A' h).bind (fun _ => R)) (h : ((R.bind K₁).bind K₂).bind K = K' PUnit.unit) :
    (((dite (c = 1#1) A (fun _ => R)).bind K₁).bind K₂).bind K
      = (dite (c = 1#1) A' (fun _ => .ret PUnit.unit)).bind K' :=
  (congrArg (fun P => Prog.bind P K) (Prog.bind_assoc _ K₁ K₂)).trans
    (dite_join₂ hA ((congrArg (fun P => Prog.bind P K) (Prog.bind_assoc R K₁ K₂)).symm.trans h))
end

attribute [local irreducible] dite

set_option maxHeartbeats 0 in
set_option maxRecDepth 16384 in
theorem body_eq (r : Reg F) :
    cc0_body (F := F) (Memref.whole main_arg0) (Memref.isWhole_whole _) (Memref.whole main_v1) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6
      cc0_scratch7 cc0_scratch8 cc0_scratch9 cc0_scratch10 cc0_scratch11
    = .op .deviceId (fun d => run (prog d) r (fun _ => .ret ⟨⟩)) := by
  repeat first
    | refine op_congr fun _ => ?_
    | refine dite_join₂ (fun _ => rfl) ?_
    | refine dite_join₃ (fun _ => rfl) ?_
    | refine dite_join (fun _ => rfl) ?_
  rfl

end Cert.KernelIdeal.Prf
end
-- ==== Proof.Launch.lean ====
/-
# The launch

All devices are launched, each with its memory and with the rights and credits of the protocol; each runs; at the end every
output holds the gathered rows, every input what it held, and every semaphore is at zero.
-/
module

public import proofs.«01_k».proof.Proof.Ends
public import proofs.«01_k».proof.Proof.Align
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

attribute [local irreducible] cSame cTail cBoth Cls.num

variable (m : (ℓ : Loc nD τ sig) → Buf (Elt F) ℓ) (ρ : Dev nD → PrngReg)

/-! ## What holds before and after the body -/

/-- The start of the machine. -/
def s₀ : MemSt nD τ sig (Elt F) := ⟨m, fun _ => 0, ρ⟩

/-- What every device knows of the semaphores. -/
def records (K : Dev nD × SemLoc sig → ℕ) : sProp 𝕄 :=
  iprop((bigSep Finset.univ fun x : Dev nD × SemLoc sig => cellInv ER (sch m) (K x) (cell x.1 x.2))
    ∗ bigSep Finset.univ fun x : Dev nD × SemLoc sig => reached ER (cell x.1 x.2) 0)
instance records_persistent (K : Dev nD × SemLoc sig → ℕ) : BI.Persistent (records m K) := by unfold records; infer_instance

def start (c : Dev nD) : sProp 𝕄 :=
  iprop((∃ K, Ctx m K) ∗ lin c ∗ dues c ∗ (lIn c ↦{fullShare} xin m c) ∗ (lOut c ↦{fullShare} oin m c))
def Φ₀ (c : Dev nD) : sProp 𝕄 := iprop(start m c ∗ scr c)
def Φ₁ (c : Dev nD) : sProp 𝕄 :=
  iprop((bigSep Finset.univ fun s => semVal (cell c s) 0) ∗ (lIn c ↦{fullShare} xin m c) ∗ (lOut c ↦{fullShare} fin m c) ∗ scr c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Before anything is loaded. -/
def r₀ : Reg F := ⟨fun _ => Classical.choice (Elt.nonempty F .f32), fun _ => Classical.choice (Elt.nonempty F .bf16), fun _ => Classical.choice (Elt.nonempty F .bf16)⟩

theorem ow_of (c : Dev nD) (O : CellTallies nD τ sig Unit) (B : Set (SemLoc sig × Unit)) : (Pipeline.owesWithin c O B : sProp 𝕄) ⊢ ow c O := by
  unfold ow
  iintro ⟨%W, -, H⟩
  iexists W; iexact H
theorem of_ow (c : Dev nD) (O : CellTallies nD τ sig Unit) (B : Set (SemLoc sig × Unit)) (hB : ∀ x, x ∈ B) : ow (F := F) c O ⊢ Pipeline.owesWithin c O B := by
  unfold ow
  iintro ⟨%W, H⟩
  iexists W
  isplitr; · ipureintro; exact fun x _ => hB x
  iexact H

/-- The text every device runs. -/
def theBody : Prog (EF F) PUnit.{1} :=
  cc0_body (F := F) (Memref.whole main_arg0) (Memref.isWhole_whole _) (Memref.whole main_v1) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 cc0_scratch5 cc0_scratch6
    cc0_scratch7 cc0_scratch8 cc0_scratch9 cc0_scratch10 cc0_scratch11

/-- A device's body. -/
theorem sound_body (c : Dev nD) : iprop(Φ₀ m c ∗ ow c (O₀ c))
    ⊢ WP c (theBody (F := F)) (fun _ => iprop(Φ₁ m c ∗ ow c 0)) := by
  rw [show theBody (F := F) = _ from body_eq r₀]
  unfold WP Φ₀ start
  rw [wp_deviceId]
  iintro ⟨⟨⟨⟨%K, #HC⟩, HL, HD, HI, HU⟩, HS⟩, HO⟩
  ihave H := (take (m := m) (c := c) (K := K)) $$ [HO HL HD HI HU HS]
  · isplitr; · iexact HC
    iframe
  icases H with ⟨HP, HN⟩
  have h := tr_all (m := m) (c := c) (K := K) r₀ (fun _ => .ret ⟨⟩) (fun _ => iprop(Φ₁ m c ∗ ow c 0))
  iapply h $$ [HP]
  · isplitr; · iexact HC
    iexact HP
  iintro %r' HP
  unfold WP
  rw [wp_ret]
  imod (leave (m := m) (c := c) (K := K)) $$ [HP HN] with ⟨HO, HZ, HI, HU, HS⟩
  · isplitr; · iexact HC
    isplitl [HP] <;> iassumption
  imodintro
  unfold Φ₁
  iframe

theorem phi_start (c : Dev nD) : (dats (F := F) m 0 c).Φ t0_0.castSucc = Φ₀ m c := rfl
theorem phi_end (c : Dev nD) : (dats (F := F) m 0 c).Φ t0_0.succ = Φ₁ m c := rfl
theorem owed_start (c : Dev nD) : (dats (F := F) m 0 c).owed t0_0.castSucc = O₀ c := rfl
theorem owed_end (c : Dev nD) : (dats (F := F) m 0 c).owed t0_0.succ = 0 := rfl
theorem body_is (t : Fin cfg0.N) : defs₀ (F := F) .tc cfg0.body (cfg0.bodyArgs t (cfg0.slots t)) = theBody := rfl

attribute [local irreducible] theBody

theorem weaker (c : Dev nD) (p : Prog (EF F) PUnit.{1}) {Q Q' : PUnit.{1} → sProp 𝕄} {A : sProp 𝕄} (h : A ⊢ WP c p Q) (h' : ∀ a, Q a ⊢ Q' a) :
    A ⊢ WP c p Q' := h.trans (wp_mono _ _ _ h')

theorem body_obligation (c : Dev nD) : BodyObligation (dats (F := F) m 0 c) (defs₀ (F := F)) 𝒱₀ () Set.univ := fun t => by
  rw [fin_N0 t, phi_start, phi_end, body_is]
  unfold Dat.owesAt
  rw [owed_start, owed_end, Finset.univ_eq_empty, bigSep_empty, bigSep_empty]
  refine weaker c theBody (A := _) (Q := fun _ => iprop(Φ₁ m c ∗ ow c 0)) (BIBase.Entails.trans ?_ (sound_body m c)) fun _ => ?_
  · iintro ⟨H, HO, -⟩
    isplitl [H]; · iexact H
    iapply (ow_of (F := F) c (O₀ c)); iexact HO
  · iintro ⟨H, HO⟩
    isplitl [H]; · iexact H
    isplitl [HO]
    · iapply (of_ow (F := F) c 0 _ fun x => Or.inl trivial); iexact HO
    · iempintro

/-! ## The semaphores of all devices -/

abbrev osem (k : Fin 158) : SemLoc sig := .dma k
theorem ownSemFacts : Pipeline.OwnSemFacts cfg0.spec osem := by decide +kernel

theorem unscoped_one (c : Dev nD) : (unscopedSems0 c : sProp 𝕄) = semVal (cell c sB) 0 := by
  unfold unscopedSems0; rw [bigSep_eq_bigSepL_of_eq [sB] (by decide +kernel) (by decide +kernel)]; rfl
theorem all_sems (c : Dev nD) : (bigSep Finset.univ fun s => (semVal (cell c s) 0 : sProp 𝕄))
    = iprop(unscopedSems0 c ∗ Pipeline.ownSems0 (Ix := Unit) (Name := ℕ) (U := UU) (Lvl := ℕ) (Val := Elt F) (τ := τ) osem c) := by
  rw [sems_two, unscoped_one]
  rfl

theorem cell_inj : Function.Injective (fun x : Dev nD × SemLoc sig => cell x.1 x.2) := by
  rintro ⟨c, s⟩ ⟨c', s'⟩ h
  have h1 : c = c' := congrArg (fun g : GSem nD τ sig => g.1.1) h
  have h2 : s = s' := congrArg Prod.snd h
  rw [h1, h2]
def ringCells : Finset (GSem nD τ sig) := Finset.univ.map ⟨_, cell_inj⟩
theorem tok_inj : Function.Injective (fun x : Dev nD × SemLoc sig × Fin 33 × Fin 3 => ((cell x.1 x.2.1, x.2.2.1.val, x.2.2.2) : GSem nD τ sig × ℕ × Fin 3)) := by
  rintro ⟨c, s, r, d⟩ ⟨c', s', r', d'⟩ h
  have h1 : c = c' := congrArg (fun g : GSem nD τ sig × ℕ × Fin 3 => g.1.1.1) h
  have h2 : s = s' := congrArg (fun g : GSem nD τ sig × ℕ × Fin 3 => g.1.2) h
  have h3 : r = r' := Fin.ext (congrArg (fun g : GSem nD τ sig × ℕ × Fin 3 => g.2.1) h)
  have h4 : d = d' := congrArg (fun g : GSem nD τ sig × ℕ × Fin 3 => g.2.2) h
  rw [h1, h2, h3, h4]
def ringToks : Finset (GSem nD τ sig × ℕ × Fin 3) := Finset.univ.map ⟨_, tok_inj⟩

def u₀ : UU := (initOf (Pipeline.cells cfgs cellOf_inj) (Pipeline.launchToks cfgs cellOf_inj), initOf ringCells ringToks)

/-- What the launch deals a device, and what it then holds. -/
def G (c : Dev nD) : sProp 𝕄 :=
  iprop((bigSep Finset.univ fun s => roundState ER (sch m) (cell c s) 0) ∗ (bigSep Finset.univ fun s => pos c s 0)
    ∗ (bigSep Finset.univ fun s => reached ER (cell c s) 0) ∗ bigSep Finset.univ (tks c))
def G' (c : Dev nD) : sProp 𝕄 := iprop((∃ K, records m K) ∗ lin c)

theorem over_cells (Φ : GSem nD τ sig → sProp 𝕄) : bigSep ringCells Φ = bigSep Finset.univ fun c : Dev nD => bigSep Finset.univ fun s : SemLoc sig => Φ (cell c s) := by
  unfold ringCells; rw [bigSep_map, bigSep_univ_prod]; rfl
theorem over_toks : bigSep ringToks (fun x => (dutyTok ER x.1 x.2.1 x.2.2 : sProp 𝕄)) = bigSep Finset.univ fun c : Dev nD => bigSep Finset.univ (tks c) := by
  unfold ringToks
  rw [bigSep_map, bigSep_univ_prod]
  refine bigSep_congr fun c _ => ?_
  rw [bigSep_univ_prod]
  refine bigSep_congr fun s _ => ?_
  rw [bigSep_univ_prod]
  exact bs_fin 33 fun r => bigSep Finset.univ fun d : Fin 3 => (dutyTok ER (cell c s) r d : sProp 𝕄)

theorem fund_ring : BI.own (ER (initOf ringCells ringToks)) ⊢ (|==> bigSep Finset.univ (G m) : sProp 𝕄) := by
  iintro HX
  imod (Rounds.fund ER (sch m) ringCells ringToks) $$ HX with ⟨Hst, Hr, Hat, Htok⟩
  imodintro
  ihave Hst := (Entails.of_eq (over_cells fun g => roundState ER (sch m) g 0)) $$ Hst
  ihave Hat := (Entails.of_eq (over_cells (F := F) fun g => atPos ER g 0 ∅ 0)) $$ Hat
  ihave Hr := (Entails.of_eq (over_cells (F := F) fun g => reached ER g 0)) $$ Hr
  ihave Htok := (Entails.of_eq (over_toks (F := F))) $$ Htok
  unfold G pos; simp only [bigSep_sep']
  isplitl [Hst]; · iexact Hst
  isplitl [Hat]; · iexact Hat
  isplitl [Hr]; · iexact Hr
  iexact Htok

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s => iprop(∃ κ : ℕ, cellInv ER (sch m) κ (cell c s)))
          ∗ (bigSep Finset.univ fun s => pos c s 0) ∗ (bigSep Finset.univ fun s => reached ER (cell c s) 0) ∗ bigSep Finset.univ (tks c)) := by
  have h : iprop((bigSep Finset.univ fun s : SemLoc sig => semVal (cell c s) 0) ∗ bigSep Finset.univ fun s : SemLoc sig => roundState ER (sch m) (cell c s) 0)
      ⊢ (|={Set.univ}=> bigSep Finset.univ fun s => iprop(∃ κ : ℕ, cellInv ER (sch m) κ (cell c s)) : sProp 𝕄) := by
    rw [← bigSep_sep']
    exact (bigSep_mono fun s _ => (Rounds.body_intro ER (sch m) (cell c s)).trans inv_alloc).trans (bigSep_fupd _ _)
  rw [all_sems] at h
  unfold G
  iintro ⟨Hv, Hu, Hst, Hr⟩
  imod h $$ [Hv Hu Hst] with Hinv
  · iframe
  imodintro
  isplitl [Hinv]; · iexact Hinv
  iexact Hr

theorem ghost_intro (K : Dev nD × SemLoc sig → ℕ) (c : Dev nD) : iprop(records m K ∗ lin c) ⊢ G' m c := by
  unfold G'
  iintro ⟨H, HL⟩
  isplitl [H]
  · iexists K; iexact H
  · iexact HL
theorem lin_all : iprop((bigSep Finset.univ fun c : Dev nD => bigSep Finset.univ fun s => pos (F := F) c s 0)
      ∗ bigSep Finset.univ fun c : Dev nD => iprop(keep (F := F) c ∗ pass 0 (nbr 0 c) ∗ pass 1 (nbr 1 c) ∗ pass 2 (nbr 2 c)))
    = bigSep Finset.univ fun c : Dev nD => lin (F := F) c := by
  rw [← bigSep_sep']
  rfl

theorem regroup :
    (bigSep Finset.univ fun c : Dev nD => iprop((bigSep Finset.univ fun s => iprop(∃ κ : ℕ, cellInv ER (sch m) κ (cell c s)))
          ∗ (bigSep Finset.univ fun s => pos c s 0) ∗ (bigSep Finset.univ fun s => reached ER (cell c s) 0) ∗ bigSep Finset.univ (tks c)) : sProp 𝕄)
      ⊢ bigSep Finset.univ (G' m) := by
  rw [bigSep_sep' (Φ := fun c : Dev nD => bigSep Finset.univ fun s : SemLoc sig => iprop(∃ κ : ℕ, cellInv ER (sch m) κ (cell c s))),
    bigSep_sep' (Φ := fun c : Dev nD => bigSep Finset.univ fun s : SemLoc sig => pos (F := F) c s 0),
    bigSep_sep' (Φ := fun c : Dev nD => bigSep Finset.univ fun s : SemLoc sig => (reached ER (cell c s) 0 : sProp 𝕄)),
    ← bigSep_univ_prod (fun x : Dev nD × SemLoc sig => iprop(∃ κ : ℕ, cellInv ER (sch m) κ (cell x.1 x.2))),
    ← bigSep_univ_prod (fun x : Dev nD × SemLoc sig => (reached ER (cell x.1 x.2) 0 : sProp 𝕄))]
  iintro ⟨HI, Hat, #HR, Htok⟩
  ihave HK := (BI.bigSep_exists_pi Finset.univ (fun (x : Dev nD × SemLoc sig) (κ : ℕ) => (cellInv ER (sch m) κ (cell x.1 x.2) : sProp 𝕄))) $$ HI
  icases HK with ⟨%K, #HI⟩
  ihave Htk := (deal_all (F := F)) $$ Htok
  iapply (with_ctx (R := records m K) fun c _ => ghost_intro m K c)
  isplitr
  · unfold records; isplitl; · iexact HI
    iexact HR
  · iapply (Entails.of_eq (lin_all (F := F)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The run of all devices -/

theorem share_eq (c : Dev nD) (w : Fin cfg0.W) : (dats m 0 c).share w = fullShare := w.elim0

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' records Ctx dues
  iintro ⟨⟨HI, HU⟩, Hlev, Hcr, -, ⟨%K, HV, HR⟩, HL⟩
  ihave Hcr := (creds (F := F) (c := c)) $$ Hcr
  imodintro
  isplitl
  · isplitl [HV HR Hlev]
    · iexists K; iframe
    isplitl [HL]; · iexact HL
    isplitl [Hcr]; · iexact Hcr
    isplitl [HI]; · iexact HI
    iexact HU
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

/-- What the run of a device leaves. -/
def left (c : Dev nD) : sProp 𝕄 := iprop(unscopedSems0 c ∗ (lIn c ↦{fullShare} xin m c) ∗ (lOut c ↦{fullShare} fin m c))

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq]
  unfold Φ₁ left scr
  rw [all_sems]
  iintro ⟨⟨HB, HZ⟩, HI, HU, Hr⟩
  isplitl [HB HI HU]; · iframe
  isplitl [HZ]; · iexact HZ
  iexact Hr

theorem waits (c : Dev nD) : (levAts L lv : sProp 𝕄) ⊢ Pipeline.cellsWaits cfgs (dats m) () 0 c :=
  Pipeline.cellsWaits_intro cfgs (dats m) () 0 c fun w _ _ => w.elim0

/-- What is read at the end. -/
def ended (c : Dev nD) (s : MemSt nD τ sig (Elt F)) : Prop :=
  (∀ sm : SemLoc sig, sm.isScoped .tc = false → s.sem ((c.tc : Thread nD τ), sm) = 0) ∧ s.mem (lIn c) = xin m c ∧ s.mem (lOut c) = fin m c

theorem read_end (c : Dev nD) (s' : Phys nD τ sig (Elt F)) : iprop(left m c ∗ emp ∗ SI s') ⊢ |={Set.univ}=> iprop(⌜ended m c s'.mem⌝ ∗ SI s') := by
  unfold left
  iintro ⟨⟨HB, HI, HU⟩, -, HSI⟩
  icombine HSI HI gives %h1
  icombine HSI HU gives %h2
  imod (Pipeline.unscopedSems0_read (X := unscopedSems0 c) (c := c) fupd_intro s') $$ [HB HSI] with ⟨%h, HSI⟩
  · isplitl [HB] <;> iassumption
  imodintro
  isplitr
  · ipureintro
    exact ⟨h, funext fun i => h1 i (Finset.mem_univ i), funext fun i => h2 i (Finset.mem_univ i)⟩
  · iexact HSI

set_option maxRecDepth 8000 in
/-- From any memory with every semaphore at zero, for any float values: every run of all devices ends, with every input as it
was, every output at the gathered rows and every semaphore at zero. -/
theorem run_main : θ_run defs (onTc (τ := τ) (main (F := F))) (s₀ m ρ)
    (fun r => (∀ c, r.2.mem (lIn c) = xin m c ∧ r.2.mem (lOut c) = fin m c) ∧ r.2.sem = fun _ => 0) :=
  by
  refine Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    ?_ ?_ ?_ ?_ ?_ ?_ ?_ O₀ ?_ ?_ L lv ?_ ?_ (G m) (G' m) u₀ ?_ ?_ ?_ ?_ (start m) (left m) (fun _ => iprop(emp)) ?_ ?_ ?_ (ended m) ?_ ?_
  · exact fun _ => rfl
  · exact fun c => (body_obligation m c).loose
  · exact fun w => w.elim0
  · exact arr_whole0
  · exact stage_whole0
  · exact share_eq m
  · exact winFacts0.arr_inj
  · exact fun _ => rfl
  · exact fun _ => rfl
  · exact L_of_ne
  · exact waits m
  · unfold u₀
    iintro Hu
    ihave H := (ownU_pair _ _) $$ Hu
    icases H with ⟨HP, HX⟩
    imod (fund_ring m) $$ HX with HG
    imodintro
    isplitl [HP] <;> iassumption
  · exact glob m
  · exact fun _ w => w.elim0
  · exact fun _ k => k.elim0
  · exact start_intro m ρ
  · exact phi0_intro m
  · exact phi1_exit m
  · exact read_end m
  · exact fun _ h hs => ⟨fun c => (h c).2.2.2, sem_eq_zero hs fun c => (h c).2.2.1⟩

end Cert.KernelIdeal.Prf
end
-- ==== Proof.Whole.lean ====
/-
# The claims

The reference's run rounds the one whole array; the kernel's output on every device is that same array. The frames of the
kernel, at either reading of the floats, are its run with the outputs left out.
-/
module

public import proofs.«01_k».proof.Defs
public import proofs.«01_k».proof.Proof.Launch
public import proofs.«01_k».proof.Proof.Gen.Kernel
public import proofs.«01_k».proof.Proof.Gen.ReferenceIdeal
public import Idealize.ShloMosaic.Lib.StableHlo.Run

@[expose] public section

noncomputable section

namespace Cert.ReferenceIdeal.Prf

open Cert.ReferenceIdeal Cert.ReferenceIdeal.Gen
open Idealize.ShloMosaic Idealize.ShloMosaic.TcCoe Idealize.ShloMosaic.StableHlo Idealize.SL.Sem

variable {F : FTy → Type} [FloatOps F]

/-- The whole array, each element rounded. -/
def rounded (x : FVec F S16384x1024 .f32) : FVec F S16384x1024 .bf16 := truncf .bf16 x bitsLt_bf16_f32

/-- The reference's one operation. -/
abbrev ops : List (HloOp τ sig (Elt F)) := [unary main_arg0 main_v0 rounded]

theorem no_buffers : (Finset.univ.filter fun b : Ref sig .tc => b.isScoped) = ∅ := by decide
theorem no_semaphores : (Finset.univ.filter fun sm : SemLoc sig => sm.isScoped .tc) = ∅ := by decide

/-- From any memory with every semaphore at zero: the reference's run ends with its result at the rounded argument, its
argument as it was and every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v0) = rounded (m ((c.tc : Thread nD τ).loc main_arg0))
        ∧ r.2.mem ((c.tc : Thread nD τ).loc main_arg0) = m ((c.tc : Thread nD τ).loc main_arg0)) ∧ r.2.sem = fun _ => 0 := by
  refine (θ_run defs _ _).mono (fun r h => ⟨fun c => ⟨(h c main_v0).trans ?_, (h c main_arg0).trans ?_⟩, sem_eq_zero_of_no_sems rfl r.2⟩)
    (run_seq no_buffers no_semaphores defs main (fun _ => ops) (fun _ => rfl) (fun _ => unary_bufs_sub ..) m ρ)
  · after_results
  · after_results

end Cert.ReferenceIdeal.Prf

namespace Cert.KernelIdeal.Prf

open Cert.KernelIdeal Cert.KernelIdeal.Gen
open Idealize.ShloMosaic Idealize.ShloMosaic.TcCoe Idealize.SL.Sem

section
variable {F : FTy → Type} [FloatOps F]
variable (m : (ℓ : Loc nD τ sig) → Buf (Elt F) ℓ) (x : FVec F S16384x1024 .f32)

/-- The block of the whole array that a device holds at launch. -/
abbrev part (c : Dev nD) : FVec F S8192x1024 .f32 :=
  Layout.blockN ⟨2, ![8192, 1024]⟩ ⟨2, ![16384, 1024]⟩ (Layout.meshBlock [2, 2, 4] ![[1], []] c) x

/-- The row of the whole array that a row of a device's block is. -/
theorem part_at (c : Dev nD) (i : S16384x1024.Idx) (h : (i 0).val / 8192 = yc c) : part x c (ixI ((i 0).val % 8192) (i 1)) = x i := by
  show x _ = x i
  congr 1
  funext b
  apply Fin.ext
  rw [Layout.TilesN.idx_val]
  have hy : Layout.meshLin [2, 2, 4] c.val [1] = yc c := by
    show c.val / (4 * 1) % 2 * 1 + 0 = c.val / 4 % 2
    omega
  fin_cases b
  · show Layout.meshLin [2, 2, 4] c.val [1] * 8192 + (i 0).val % 8192 % 8192 = (i 0).val
    rw [hy]; omega
  · show Layout.meshLin [2, 2, 4] c.val [] * 1024 + (i 1).val = (i 1).val
    show 0 * 1024 + (i 1).val = (i 1).val
    omega

/-- When every device holds its block of one array, every output ends at that array, rounded. -/
theorem fin_whole (h : ∀ c : Dev nD, xin m c = part x c) (c : Dev nD) (i : S16384x1024.Idx) : fin m c i = tr (x i) := by
  have hi : (i 0).val < 16384 := (i 0).isLt
  have hy := yc_lt c
  show tr (xin m _ _) = _
  rw [h]
  congr 1
  apply part_at
  split
  · assumption
  · have := org_yc c ⟨(i 0).val % 8192 / 128 % 3, Nat.mod_lt _ (by decide)⟩
    rw [show yc (org c ((i 0).val % 8192 / 128 % 3)) = 1 - yc c from this]
    omega
end

theorem frame_kernel : Cert.quiescent_Kernel := fun m ρ _ =>
  (θ_run Cert.KernelIdeal.defs _ _).mono (fun _ h => ⟨fun c => (h.1 c).1, h.2⟩) (run_main (F := Bits) m ρ)

theorem frame_ideal : Cert.quiescent_KernelIdeal := fun m ρ _ =>
  (θ_run Cert.KernelIdeal.defs _ _).mono (fun _ h => ⟨fun c => (h.1 c).1, h.2⟩) (run_main m ρ)

theorem frame_reference : Cert.quiescent_ReferenceIdeal := fun m ρ _ =>
  (θ_run Cert.ReferenceIdeal.defs _ _).mono (fun _ h => ⟨fun c => (h.1 c).2, h.2⟩) (ReferenceIdeal.Prf.run_main m ρ)

/-- The reference's argument. -/
abbrev whole (m' : (ℓ : Loc Cert.ReferenceIdeal.nD Cert.ReferenceIdeal.τ Cert.ReferenceIdeal.sig) → Buf (Elt Ideal) ℓ) : FVec Ideal S16384x1024 .f32 :=
  m' (((0 : Dev Cert.ReferenceIdeal.nD).tc : Thread Cert.ReferenceIdeal.nD Cert.ReferenceIdeal.τ).loc Cert.ReferenceIdeal.main_arg0)

/-- The two programs, read with exact operations, end with the same array. -/
theorem same : Cert.algebraic_KernelIdeal_ReferenceIdeal := fun m ρ m' ρ' _ hm =>
  ⟨ReferenceIdeal.Prf.rounded (whole m'),
    (θ_run Cert.KernelIdeal.defs _ _).mono
      (fun _ h c => ⟨(h.1 c).2.trans (funext fun i => fin_whole m _ hm c i), (h.1 c).1⟩) (run_main m ρ),
    (θ_run Cert.ReferenceIdeal.defs _ _).mono (fun _ h => h.1 0) (ReferenceIdeal.Prf.run_main m' ρ')⟩

end Cert.KernelIdeal.Prf

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Whole
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.Prf.frame_kernel, Cert.KernelIdeal.Prf.frame_ideal, Cert.KernelIdeal.Prf.frame_reference, trivial, Cert.KernelIdeal.Prf.same⟩

end Cert.Proof

end
